-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "mu_step" .f32 0x3EA5294A#32 ((10 / 31 : ℝ) : EReal)
  ∧ IdealRules.named_const.Statement Cert.KernelIdeal.κ "inv_sqrt32" .f32 0x3E3504F3#32 ((2097152 / 11863283 : ℝ) : EReal)
  ∧ IdealRules.named_const.Statement Cert.KernelIdeal.κ "half_inv_sqrt3" .f32 0x3E93CD3A#32 ((4194304 / 14529495 : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v276) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S10000x3 : Shape := ⟨2, ![10000, 3]⟩
abbrev S10000 : Shape := ⟨1, ![10000]⟩
abbrev S10000x1 : Shape := ⟨2, ![10000, 1]⟩
abbrev S2x160000 : Shape := ⟨2, ![2, 160000]⟩
abbrev S10000x256 : Shape := ⟨2, ![10000, 256]⟩
abbrev S32x256 : Shape := ⟨2, ![32, 256]⟩
abbrev S2x64 : Shape := ⟨2, ![2, 64]⟩
abbrev S64 : Shape := ⟨1, ![64]⟩
abbrev S_ : Shape := ⟨0, ![]⟩
abbrev S1x64 : Shape := ⟨2, ![1, 64]⟩
abbrev S1x1 : Shape := ⟨2, ![1, 1]⟩

class Facts : Prop where
  bcast_S_S2x160000 : S_.BroadcastsInDim S2x160000 (![] : Fin 0 → Fin S2x160000.rank)
  slices_S2x64_S1x64_1_0 : S2x64.Slices ![1, 0] S1x64
  slices_S2x64_S1x1_1_0 : S2x64.Slices ![1, 0] S1x1
  bcast_S1x1_S1x64_0_1 : S1x1.BroadcastsInDim S1x64 (![0, 1] : Fin 2 → Fin S1x64.rank)

variable [Facts]

def fn {F : FTy → Type} [FloatOps F] (main_arg0 : FVec F S10000x3 .f32) (main_arg1 : IVec S10000 32) (main_arg2 : FVec F S10000x1 .f32) (main_arg3 : IVec S2x160000 32) (main_arg4 : FVec F S10000x256 .f32) (main_arg5 : FVec F S32x256 .f32) (main_arg6 : FVec F S2x64 .f32) (main_arg7 : FVec F S64 .f32) : IVec S2x160000 1 × IVec S1x64 1 :=
  let main_c : IVec S_ 32 := constantI S_ 32 0#32
  let main_v0 : IVec S2x160000 32 := broadcastInDim S2x160000 ![] bcast_S_S2x160000 main_c
  let main_v1 : IVec S2x160000 1 := cmpi .sge main_arg3 main_v0
  let main_c_0 : IVec S_ 32 := constantI S_ 32 500#32
  let main_v2 : IVec S2x160000 32 := broadcastInDim S2x160000 ![] bcast_S_S2x160000 main_c_0
  let main_v3 : IVec S2x160000 1 := cmpi .slt main_arg3 main_v2
  let main_v4 : IVec S2x160000 1 := andi main_v1 main_v3
  let main_v5 : FVec F S1x64 .f32 := (extractStridedSlice S1x64 ![1, 0] · slices_S2x64_S1x64_1_0) main_arg6
  let main_v6 : FVec F S1x1 .f32 := (extractStridedSlice S1x1 ![1, 0] · slices_S2x64_S1x1_1_0) main_arg6
  let main_v7 : FVec F S1x64 .f32 := broadcastInDim S1x64 ![0, 1] bcast_S1x1_S1x64_0_1 main_v6
  let main_v8 : IVec S1x64 1 := cmpf .oeq main_v5 main_v7
  (main_v4, main_v8)
-- ==== Kernel.lean ====
abbrev S10000x3 : Shape := ⟨2, ![10000, 3]⟩
abbrev S10000 : Shape := ⟨1, ![10000]⟩
abbrev S10000x1 : Shape := ⟨2, ![10000, 1]⟩
abbrev S2x160000 : Shape := ⟨2, ![2, 160000]⟩
abbrev S10000x256 : Shape := ⟨2, ![10000, 256]⟩
abbrev S32x256 : Shape := ⟨2, ![32, 256]⟩
abbrev S2x64 : Shape := ⟨2, ![2, 64]⟩
abbrev S64 : Shape := ⟨1, ![64]⟩
abbrev S1x160000 : Shape := ⟨2, ![1, 160000]⟩
abbrev S160000 : Shape := ⟨1, ![160000]⟩
abbrev S160x1x1000 : Shape := ⟨3, ![160, 1, 1000]⟩
abbrev S10x1x1000 : Shape := ⟨3, ![10, 1, 1000]⟩
abbrev S_ : Shape := ⟨0, ![]⟩
abbrev S10000x8 : Shape := ⟨2, ![10000, 8]⟩
abbrev S512x8 : Shape := ⟨2, ![512, 8]⟩
abbrev S1x512 : Shape := ⟨2, ![1, 512]⟩
abbrev S1x1x1000 : Shape := ⟨3, ![1, 1, 1000]⟩
abbrev S1000x8 : Shape := ⟨2, ![1000, 8]⟩
abbrev S1000 : Shape := ⟨1, ![1000]⟩
abbrev S1000x1 : Shape := ⟨2, ![1000, 1]⟩
abbrev S1000x512 : Shape := ⟨2, ![1000, 512]⟩
abbrev S512x3 : Shape := ⟨2, ![512, 3]⟩
abbrev S512x1 : Shape := ⟨2, ![512, 1]⟩
abbrev S512x5 : Shape := ⟨2, ![512, 5]⟩
abbrev S500x3 : Shape := ⟨2, ![500, 3]⟩
abbrev S500x5 : Shape := ⟨2, ![500, 5]⟩
abbrev S500x8 : Shape := ⟨2, ![500, 8]⟩
abbrev S160000x32 : Shape := ⟨2, ![160000, 32]⟩
abbrev S160000x4 : Shape := ⟨2, ![160000, 4]⟩
abbrev S1000x32 : Shape := ⟨2, ![1000, 32]⟩
abbrev S1000x4 : Shape := ⟨2, ![1000, 4]⟩
abbrev S1x32 : Shape := ⟨2, ![1, 32]⟩
abbrev S1x64 : Shape := ⟨2, ![1, 64]⟩
abbrev S1x1x1x64 : Shape := ⟨4, ![1, 1, 1, 64]⟩
abbrev S1x1x3x64 : Shape := ⟨4, ![1, 1, 3, 64]⟩
abbrev S1x192 : Shape := ⟨2, ![1, 192]⟩
abbrev S192 : Shape := ⟨1, ![192]⟩
abbrev S256 : Shape := ⟨1, ![256]⟩
abbrev S256x256 : Shape := ⟨2, ![256, 256]⟩
abbrev S256x1 : Shape := ⟨2, ![256, 1]⟩
abbrev S512x256 : Shape := ⟨2, ![512, 256]⟩
abbrev S1000x256 : Shape := ⟨2, ![1000, 256]⟩
abbrev S1000x64 : Shape := ⟨2, ![1000, 64]⟩
abbrev S1000x192 : Shape := ⟨2, ![1000, 192]⟩

abbrev nBuf : Space → Nat
  | .hbm => 125
  | .vmem => 72
  | .smem => 0
  | _ => 0

abbrev bufTy : (tb : Table) → Fin (tcTables nBuf tb) → BufTy
  | .hbm, ⟨0, _⟩ => ⟨S10000x3, .f32⟩
  | .hbm, ⟨1, _⟩ => ⟨S10000, .i32⟩
  | .hbm, ⟨2, _⟩ => ⟨S10000x1, .f32⟩
  | .hbm, ⟨3, _⟩ => ⟨S2x160000, .i32⟩
  | .hbm, ⟨4, _⟩ => ⟨S10000x256, .f32⟩
  | .hbm, ⟨5, _⟩ => ⟨S32x256, .f32⟩
  | .hbm, ⟨6, _⟩ => ⟨S2x64, .f32⟩
  | .hbm, ⟨7, _⟩ => ⟨S64, .f32⟩
  | .hbm, ⟨8, _⟩ => ⟨S1x160000, .i32⟩
  | .hbm, ⟨9, _⟩ => ⟨S160000, .i32⟩
  | .hbm, ⟨10, _⟩ => ⟨S1x160000, .i32⟩
  | .hbm, ⟨11, _⟩ => ⟨S160000, .i32⟩
  | .hbm, ⟨12, _⟩ => ⟨S160x1x1000, .i32⟩
  | .hbm, ⟨13, _⟩ => ⟨S160x1x1000, .i32⟩
  | .hbm, ⟨14, _⟩ => ⟨S10x1x1000, .i32⟩
  | .hbm, ⟨15, _⟩ => ⟨S10000x3, .f32⟩
  | .hbm, ⟨16, _⟩ => ⟨S10000x3, .f32⟩
  | .hbm, ⟨17, _⟩ => ⟨S_, .f32⟩
  | .hbm, ⟨18, _⟩ => ⟨S10000x1, .f32⟩
  | .hbm, ⟨19, _⟩ => ⟨S_, .f32⟩
  | .hbm, ⟨20, _⟩ => ⟨S10000x3, .f32⟩
  | .hbm, ⟨21, _⟩ => ⟨S10000x8, .f32⟩
  | .hbm, ⟨22, _⟩ => ⟨S10x1x1000, .i32⟩
  | .hbm, ⟨23, _⟩ => ⟨S512x8, .f32⟩
  | .hbm, ⟨24, _⟩ => ⟨S1x512, .f32⟩
  | .hbm, ⟨25, _⟩ => ⟨S500x3, .f32⟩
  | .hbm, ⟨26, _⟩ => ⟨S_, .f32⟩
  | .hbm, ⟨27, _⟩ => ⟨S500x5, .f32⟩
  | .hbm, ⟨28, _⟩ => ⟨S500x8, .f32⟩
  | .hbm, ⟨29, _⟩ => ⟨S_, .i32⟩
  | .hbm, ⟨30, _⟩ => ⟨S_, .f32⟩
  | .hbm, ⟨31, _⟩ => ⟨S512x8, .f32⟩
  | .hbm, ⟨32, _⟩ => ⟨S160000x32, .f32⟩
  | .hbm, ⟨33, _⟩ => ⟨S160000x4, .f32⟩
  | .hbm, ⟨34, _⟩ => ⟨S1x64, .f32⟩
  | .hbm, ⟨35, _⟩ => ⟨S64, .f32⟩
  | .hbm, ⟨36, _⟩ => ⟨S1x64, .f32⟩
  | .hbm, ⟨37, _⟩ => ⟨S1x64, .f32⟩
  | .hbm, ⟨38, _⟩ => ⟨S1x64, .f32⟩
  | .hbm, ⟨39, _⟩ => ⟨S64, .f32⟩
  | .hbm, ⟨40, _⟩ => ⟨S1x64, .f32⟩
  | .hbm, ⟨41, _⟩ => ⟨S1x1x1x64, .f32⟩
  | .hbm, ⟨42, _⟩ => ⟨S1x1x3x64, .f32⟩
  | .hbm, ⟨43, _⟩ => ⟨S1x192, .f32⟩
  | .hbm, ⟨44, _⟩ => ⟨S192, .i32⟩
  | .hbm, ⟨45, _⟩ => ⟨S64, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i1⟩
  | .hbm, ⟨50, _⟩ => ⟨S_, .i32⟩
  | .hbm, ⟨51, _⟩ => ⟨S_, .i32⟩
  | .hbm, ⟨52, _⟩ => ⟨S192, .i32⟩
  | .hbm, ⟨53, _⟩ => ⟨S192, .i32⟩
  | .hbm, ⟨54, _⟩ => ⟨S_, .i32⟩
  | .hbm, ⟨55, _⟩ => ⟨S192, .i32⟩
  | .hbm, ⟨56, _⟩ => ⟨S192, .i1⟩
  | .hbm, ⟨57, _⟩ => ⟨S_, .i32⟩
  | .hbm, ⟨58, _⟩ => ⟨S192, .i32⟩
  | .hbm, ⟨59, _⟩ => ⟨S192, .i1⟩
  | .hbm, ⟨60, _⟩ => ⟨S_, .i32⟩
  | .hbm, ⟨61, _⟩ => ⟨S_, .i1⟩
  | .hbm, ⟨62, _⟩ => ⟨S192, .i1⟩
  | .hbm, ⟨63, _⟩ => ⟨S192, .i1⟩
  | .hbm, ⟨64, _⟩ => ⟨S192, .i1⟩
  | .hbm, ⟨65, _⟩ => ⟨S192, .i32⟩
  | .hbm, ⟨66, _⟩ => ⟨S192, .i32⟩
  | .hbm, ⟨67, _⟩ => ⟨S192, .i32⟩
  | .hbm, ⟨68, _⟩ => ⟨S_, .i32⟩
  | .hbm, ⟨69, _⟩ => ⟨S192, .i32⟩
  | .hbm, ⟨70, _⟩ => ⟨S192, .i32⟩
  | .hbm, ⟨71, _⟩ => ⟨S_, .i32⟩
  | .hbm, ⟨72, _⟩ => ⟨S192, .i32⟩
  | .hbm, ⟨73, _⟩ => ⟨S192, .i32⟩
  | .hbm, ⟨74, _⟩ => ⟨S_, .i32⟩
  | .hbm, ⟨75, _⟩ => ⟨S_, .i32⟩
  | .hbm, ⟨76, _⟩ => ⟨S192, .i32⟩
  | .hbm, ⟨77, _⟩ => ⟨S192, .i32⟩
  | .hbm, ⟨78, _⟩ => ⟨S192, .i32⟩
  | .hbm, ⟨79, _⟩ => ⟨S_, .i32⟩
  | .hbm, ⟨80, _⟩ => ⟨S192, .i32⟩
  | .hbm, ⟨81, _⟩ => ⟨S192, .i1⟩
  | .hbm, ⟨82, _⟩ => ⟨S192, .i32⟩
  | .hbm, ⟨83, _⟩ => ⟨S192, .i32⟩
  | .hbm, ⟨84, _⟩ => ⟨S_, .i32⟩
  | .hbm, ⟨85, _⟩ => ⟨S192, .i32⟩
  | .hbm, ⟨86, _⟩ => ⟨S192, .i1⟩
  | .hbm, ⟨87, _⟩ => ⟨S192, .i1⟩
  | .hbm, ⟨88, _⟩ => ⟨S_, .i32⟩
  | .hbm, ⟨89, _⟩ => ⟨S192, .i32⟩
  | .hbm, ⟨90, _⟩ => ⟨S192, .i32⟩
  | .hbm, ⟨91, _⟩ => ⟨S192, .i32⟩
  | .hbm, ⟨92, _⟩ => ⟨S192, .i32⟩
  | .hbm, ⟨93, _⟩ => ⟨S256, .i32⟩
  | .hbm, ⟨94, _⟩ => ⟨S256x256, .i32⟩
  | .hbm, ⟨95, _⟩ => ⟨S256x256, .i32⟩
  | .hbm, ⟨96, _⟩ => ⟨S_, .i32⟩
  | .hbm, ⟨97, _⟩ => ⟨S256x256, .i32⟩
  | .hbm, ⟨98, _⟩ => ⟨S256x256, .i32⟩
  | .hbm, ⟨99, _⟩ => ⟨S256x256, .i1⟩
  | .hbm, ⟨100, _⟩ => ⟨S256x256, .f32⟩
  | .hbm, ⟨101, _⟩ => ⟨S_, .i32⟩
  | .hbm, ⟨102, _⟩ => ⟨S256, .i32⟩
  | .hbm, ⟨103, _⟩ => ⟨S256, .i1⟩
  | .hbm, ⟨104, _⟩ => ⟨S_, .i32⟩
  | .hbm, ⟨105, _⟩ => ⟨S256, .i32⟩
  | .hbm, ⟨106, _⟩ => ⟨S256, .i32⟩
  | .hbm, ⟨107, _⟩ => ⟨S256, .i32⟩
  | .hbm, ⟨108, _⟩ => ⟨S256x1, .i32⟩
  | .hbm, ⟨109, _⟩ => ⟨S256x256, .f32⟩
  | .hbm, ⟨110, _⟩ => ⟨S256x256, .f32⟩
  | .hbm, ⟨111, _⟩ => ⟨S512x256, .f32⟩
  | .hbm, ⟨112, _⟩ => ⟨S512x256, .bf16⟩
  | .hbm, ⟨113, _⟩ => ⟨S512x256, .f32⟩
  | .hbm, ⟨114, _⟩ => ⟨S_, .i32⟩
  | .hbm, ⟨115, _⟩ => ⟨S_, .f32⟩
  | .hbm, ⟨116, _⟩ => ⟨S1000x256, .f32⟩
  | .hbm, ⟨117, _⟩ => ⟨S10000x256, .f32⟩
  | .hbm, ⟨118, _⟩ => ⟨S512x256, .f32⟩
  | .hbm, ⟨119, _⟩ => ⟨S512x256, .bf16⟩
  | .hbm, ⟨120, _⟩ => ⟨S512x256, .f32⟩
  | .hbm, ⟨121, _⟩ => ⟨S_, .i32⟩
  | .hbm, ⟨122, _⟩ => ⟨S_, .f32⟩
  | .hbm, ⟨123, _⟩ => ⟨S1000x256, .f32⟩
  | .hbm, ⟨124, _⟩ => ⟨S10000x256, .f32⟩
  | .local _ .vmem, ⟨0, _⟩ => ⟨S1x1x1000, .i32⟩
  | .local _ .vmem, ⟨1, _⟩ => ⟨S1x1x1000, .i32⟩
  | .local _ .vmem, ⟨2, _⟩ => ⟨S1000x8, .f32⟩
  | .local _ .vmem, ⟨3, _⟩ => ⟨S1000x8, .f32⟩
  | .local _ .vmem, ⟨4, _⟩ => ⟨S512x8, .f32⟩
  | .local _ .vmem, ⟨5, _⟩ => ⟨S1x512, .f32⟩
  | .local _ .vmem, ⟨6, _⟩ => ⟨S1x1x1000, .i32⟩
  | .local _ .vmem, ⟨7, _⟩ => ⟨S1x1x1000, .i32⟩
  | .local _ .vmem, ⟨8, _⟩ => ⟨S1x1x1000, .i32⟩
  | .local _ .vmem, ⟨9, _⟩ => ⟨S1x1x1000, .i32⟩
  | .local _ .vmem, ⟨10, _⟩ => ⟨S512x8, .f32⟩
  | .local _ .vmem, ⟨11, _⟩ => ⟨S512x8, .f32⟩
  | .local _ .vmem, ⟨12, _⟩ => ⟨S1000x32, .f32⟩
  | .local _ .vmem, ⟨13, _⟩ => ⟨S1000x32, .f32⟩
  | .local _ .vmem, ⟨14, _⟩ => ⟨S1000x4, .f32⟩
  | .local _ .vmem, ⟨15, _⟩ => ⟨S1000x4, .f32⟩
  | .local _ .vmem, ⟨16, _⟩ => ⟨S1x1x1000, .i32⟩
  | .local _ .vmem, ⟨17, _⟩ => ⟨S1x1x1000, .i32⟩
  | .local _ .vmem, ⟨18, _⟩ => ⟨S1000x256, .f32⟩
  | .local _ .vmem, ⟨19, _⟩ => ⟨S1000x256, .f32⟩
  | .local _ .vmem, ⟨20, _⟩ => ⟨S1x512, .f32⟩
  | .local _ .vmem, ⟨21, _⟩ => ⟨S256x256, .f32⟩
  | .local _ .vmem, ⟨22, _⟩ => ⟨S512x256, .f32⟩
  | .local _ .vmem, ⟨23, _⟩ => ⟨S1x1x1000, .i32⟩
  | .local _ .vmem, ⟨24, _⟩ => ⟨S1x1x1000, .i32⟩
  | .local _ .vmem, ⟨25, _⟩ => ⟨S1x1x1000, .i32⟩
  | .local _ .vmem, ⟨26, _⟩ => ⟨S1x1x1000, .i32⟩
  | .local _ .vmem, ⟨27, _⟩ => ⟨S1000x32, .f32⟩
  | .local _ .vmem, ⟨28, _⟩ => ⟨S1000x32, .f32⟩
  | .local _ .vmem, ⟨29, _⟩ => ⟨S1000x4, .f32⟩
  | .local _ .vmem, ⟨30, _⟩ => ⟨S1000x4, .f32⟩
  | .local _ .vmem, ⟨31, _⟩ => ⟨S32x256, .f32⟩
  | .local _ .vmem, ⟨32, _⟩ => ⟨S512x256, .bf16⟩
  | .local _ .vmem, ⟨33, _⟩ => ⟨S512x256, .f32⟩
  | .local _ .vmem, ⟨34, _⟩ => ⟨S1000x256, .f32⟩
  | .local _ .vmem, ⟨35, _⟩ => ⟨S1000x256, .f32⟩
  | .local _ .vmem, ⟨36, _⟩ => ⟨S1000x256, .f32⟩
  | .local _ .vmem, ⟨37, _⟩ => ⟨S1x64, .f32⟩
  | .local _ .vmem, ⟨38, _⟩ => ⟨S1x64, .f32⟩
  | .local _ .vmem, ⟨39, _⟩ => ⟨S1x192, .f32⟩
  | .local _ .vmem, ⟨40, _⟩ => ⟨S256x256, .f32⟩
  | .local _ .vmem, ⟨41, _⟩ => ⟨S256x256, .f32⟩
  | .local _ .vmem, ⟨42, _⟩ => ⟨S1000x256, .f32⟩
  | .local _ .vmem, ⟨43, _⟩ => ⟨S1000x256, .f32⟩
  | .local _ .vmem, ⟨44, _⟩ => ⟨S1x1x1000, .i32⟩
  | .local _ .vmem, ⟨45, _⟩ => ⟨S1x1x1000, .i32⟩
  | .local _ .vmem, ⟨46, _⟩ => ⟨S1000x256, .f32⟩
  | .local _ .vmem, ⟨47, _⟩ => ⟨S1000x256, .f32⟩
  | .local _ .vmem, ⟨48, _⟩ => ⟨S1x512, .f32⟩
  | .local _ .vmem, ⟨49, _⟩ => ⟨S256x256, .f32⟩
  | .local _ .vmem, ⟨50, _⟩ => ⟨S512x256, .f32⟩
  | .local _ .vmem, ⟨51, _⟩ => ⟨S1x1x1000, .i32⟩
  | .local _ .vmem, ⟨52, _⟩ => ⟨S1x1x1000, .i32⟩
  | .local _ .vmem, ⟨53, _⟩ => ⟨S1x1x1000, .i32⟩
  | .local _ .vmem, ⟨54, _⟩ => ⟨S1x1x1000, .i32⟩
  | .local _ .vmem, ⟨55, _⟩ => ⟨S1000x32, .f32⟩
  | .local _ .vmem, ⟨56, _⟩ => ⟨S1000x32, .f32⟩
  | .local _ .vmem, ⟨57, _⟩ => ⟨S1000x4, .f32⟩
  | .local _ .vmem, ⟨58, _⟩ => ⟨S1000x4, .f32⟩
  | .local _ .vmem, ⟨59, _⟩ => ⟨S32x256, .f32⟩
  | .local _ .vmem, ⟨60, _⟩ => ⟨S512x256, .bf16⟩
  | .local _ .vmem, ⟨61, _⟩ => ⟨S512x256, .f32⟩
  | .local _ .vmem, ⟨62, _⟩ => ⟨S1000x256, .f32⟩
  | .local _ .vmem, ⟨63, _⟩ => ⟨S1000x256, .f32⟩
  | .local _ .vmem, ⟨64, _⟩ => ⟨S1000x256, .f32⟩
  | .local _ .vmem, ⟨65, _⟩ => ⟨S1x64, .f32⟩
  | .local _ .vmem, ⟨66, _⟩ => ⟨S1x64, .f32⟩
  | .local _ .vmem, ⟨67, _⟩ => ⟨S1x192, .f32⟩
  | .local _ .vmem, ⟨68, _⟩ => ⟨S256x256, .f32⟩
  | .local _ .vmem, ⟨69, _⟩ => ⟨S256x256, .f32⟩
  | .local _ .vmem, ⟨70, _⟩ => ⟨S1000x256, .f32⟩
  | .local _ .vmem, ⟨71, _⟩ => ⟨S1000x256, .f32⟩
  | _, _ => ⟨S10000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_call0_v0 : Ref sig .tc := ⟨.hbm, 30, rfl⟩
abbrev main_v17 : Ref sig .tc := ⟨.hbm, 31, rfl⟩
abbrev main_v18_0 : Ref sig .tc := ⟨.hbm, 32, rfl⟩
abbrev main_v18_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_2 : Ref sig .tc := ⟨.hbm, 46, rfl⟩
abbrev main_call1_v0 : Ref sig .tc := ⟨.hbm, 47, rfl⟩
abbrev main_call1_c : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_c_1 : Ref sig .tc := ⟨.hbm, 54, rfl⟩
abbrev main_call1_v5 : Ref sig .tc := ⟨.hbm, 55, rfl⟩
abbrev main_call1_v6 : Ref sig .tc := ⟨.hbm, 56, rfl⟩
abbrev main_call1_c_2 : Ref sig .tc := ⟨.hbm, 57, rfl⟩
abbrev main_call1_v7 : Ref sig .tc := ⟨.hbm, 58, rfl⟩
abbrev main_call1_v8 : Ref sig .tc := ⟨.hbm, 59, rfl⟩
abbrev main_call1_c_3 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_v31 : Ref sig .tc := ⟨.hbm, 67, rfl⟩
abbrev main_c_3 : Ref sig .tc := ⟨.hbm, 68, rfl⟩
abbrev main_v32 : Ref sig .tc := ⟨.hbm, 69, rfl⟩
abbrev main_v33 : Ref sig .tc := ⟨.hbm, 70, rfl⟩
abbrev main_c_4 : Ref sig .tc := ⟨.hbm, 71, rfl⟩
abbrev main_v34 : Ref sig .tc := ⟨.hbm, 72, rfl⟩
abbrev main_v35 : Ref sig .tc := ⟨.hbm, 73, rfl⟩
abbrev main_c_5 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_v6 : Ref sig .tc := ⟨.hbm, 81, rfl⟩
abbrev main_call2_v7 : Ref sig .tc := ⟨.hbm, 82, rfl⟩
abbrev main_call2_v8 : Ref sig .tc := ⟨.hbm, 83, rfl⟩
abbrev main_call2_c : Ref sig .tc := ⟨.hbm, 84, rfl⟩
abbrev main_call2_v9 : Ref sig .tc := ⟨.hbm, 85, rfl⟩
abbrev main_call2_v10 : Ref sig .tc := ⟨.hbm, 86, rfl⟩
abbrev main_call2_v11 : Ref sig .tc := ⟨.hbm, 87, rfl⟩
abbrev main_call2_c_0 : Ref sig .tc := ⟨.hbm, 88, rfl⟩
abbrev main_call2_v12 : Ref sig .tc := ⟨.hbm, 89, rfl⟩
abbrev main_call2_v13 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_c_6 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_c_7 : Ref sig .tc := ⟨.hbm, 101, rfl⟩
abbrev main_v45 : Ref sig .tc := ⟨.hbm, 102, rfl⟩
abbrev main_v46 : Ref sig .tc := ⟨.hbm, 103, rfl⟩
abbrev main_c_8 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_c_9 : Ref sig .tc := ⟨.hbm, 114, rfl⟩
abbrev main_call3_v0 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_c_10 : Ref sig .tc := ⟨.hbm, 121, rfl⟩
abbrev main_call4_v0 : Ref sig .tc := ⟨.hbm, 122, rfl⟩
abbrev main_v61 : Ref sig .tc := ⟨.hbm, 123, rfl⟩
abbrev main_v62 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg3_1 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg6_0 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg6_0 : Ref sig .tc := ⟨.vmem, 41, rfl⟩
abbrev cc4_stg7_0 : Ref sig .tc := ⟨.vmem, 42, rfl⟩
abbrev cc4_stg7_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg1_1 : Ref sig .tc := ⟨.vmem, 47, rfl⟩
abbrev cc5_stg2_0 : Ref sig .tc := ⟨.vmem, 48, rfl⟩
abbrev cc5_stg3_0 : Ref sig .tc := ⟨.vmem, 49, rfl⟩
abbrev cc5_stg4_0 : Ref sig .tc := ⟨.vmem, 50, rfl⟩
abbrev cc6_stg0_0 : Ref sig .tc := ⟨.vmem, 51, rfl⟩
abbrev cc6_stg0_1 : Ref sig .tc := ⟨.vmem, 52, rfl⟩
abbrev cc6_stg1_0 : Ref sig .tc := ⟨.vmem, 53, rfl⟩
abbrev cc6_stg1_1 : Ref sig .tc := ⟨.vmem, 54, rfl⟩
abbrev cc6_stg2_0 : Ref sig .tc := ⟨.vmem, 55, rfl⟩
abbrev cc6_stg2_1 : Ref sig .tc := ⟨.vmem, 56, rfl⟩
abbrev cc6_stg3_0 : Ref sig .tc := ⟨.vmem, 57, rfl⟩
abbrev cc6_stg3_1 : Ref sig .tc := ⟨.vmem, 58, rfl⟩
abbrev cc6_stg4_0 : Ref sig .tc := ⟨.vmem, 59, rfl⟩
abbrev cc6_stg5_0 : Ref sig .tc := ⟨.vmem, 60, rfl⟩
abbrev cc6_stg6_0 : Ref sig .tc := ⟨.vmem, 61, rfl⟩
abbrev cc7_stg0_0 : Ref sig .tc := ⟨.vmem, 62, rfl⟩
abbrev cc7_stg0_1 : Ref sig .tc := ⟨.vmem, 63, rfl⟩
abbrev cc7_stg1_0 : Ref sig .tc := ⟨.vmem, 64, rfl⟩
abbrev cc7_stg2_0 : Ref sig .tc := ⟨.vmem, 65, rfl⟩
abbrev cc7_stg3_0 : Ref sig .tc := ⟨.vmem, 66, rfl⟩
abbrev cc7_stg4_0 : Ref sig .tc := ⟨.vmem, 67, rfl⟩
abbrev cc7_stg5_0 : Ref sig .tc := ⟨.vmem, 68, rfl⟩
abbrev cc7_stg6_0 : Ref sig .tc := ⟨.vmem, 69, rfl⟩
abbrev cc7_stg7_0 : Ref sig .tc := ⟨.vmem, 70, rfl⟩
abbrev cc7_stg7_1 : Ref sig .tc := ⟨.vmem, 71, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem3_1 : DmaSem sig := 30
abbrev cc3_sem4_0 : DmaSem sig := 31
abbrev cc3_sem5_0 : DmaSem sig := 32
abbrev cc3_sem6_0 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem3_0 : DmaSem sig := 38
abbrev cc4_sem4_0 : DmaSem sig := 39
abbrev cc4_sem5_0 : DmaSem sig := 40
abbrev cc4_sem6_0 : DmaSem sig := 41
abbrev cc4_sem7_0 : DmaSem sig := 42
abbrev cc4_sem7_1 : DmaSem sig := 43
abbrev cc5_sem0_0 : DmaSem sig := 44
abbrev cc5_sem0_1 : DmaSem sig := 45
abbrev cc5_sem1_0 : DmaSem sig := 46
abbrev cc5_sem1_1 : DmaSem sig := 47
abbrev cc5_sem2_0 : DmaSem sig := 48
abbrev cc5_sem3_0 : DmaSem sig := 49
abbrev cc5_sem4_0 : DmaSem sig := 50
abbrev cc6_sem0_0 : DmaSem sig := 51
abbrev cc6_sem0_1 : DmaSem sig := 52
abbrev cc6_sem1_0 : DmaSem sig := 53
abbrev cc6_sem1_1 : DmaSem sig := 54
abbrev cc6_sem2_0 : DmaSem sig := 55
abbrev cc6_sem2_1 : DmaSem sig := 56
abbrev cc6_sem3_0 : DmaSem sig := 57
abbrev cc6_sem3_1 : DmaSem sig := 58
abbrev cc6_sem4_0 : DmaSem sig := 59
abbrev cc6_sem5_0 : DmaSem sig := 60
abbrev cc6_sem6_0 : DmaSem sig := 61
abbrev cc7_sem0_0 : DmaSem sig := 62
abbrev cc7_sem0_1 : DmaSem sig := 63
abbrev cc7_sem1_0 : DmaSem sig := 64
abbrev cc7_sem2_0 : DmaSem sig := 65
abbrev cc7_sem3_0 : DmaSem sig := 66
abbrev cc7_sem4_0 : DmaSem sig := 67
abbrev cc7_sem5_0 : DmaSem sig := 68
abbrev cc7_sem6_0 : DmaSem sig := 69
abbrev cc7_sem7_0 : DmaSem sig := 70
abbrev cc7_sem7_1 : DmaSem sig := 71

abbrev nD : Nat := 1
abbrev τ : Topo := Topo.v7x

variable {F : FTy → Type} [FloatOps F]

abbrev grid0 : Pipeline.Grid := ⟨1, ![10], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c9_i32 : BitVec 32 := 9#32
  let v18 : BitVec 1 := Scalar.cmpi .eq arg0 c9_i32
  let v19 : BitVec 32 := Scalar.extui v18
  let c0_i32_9 : BitVec 32 := 0#32
  let v20 : BitVec 1 := Scalar.cmpi .ne v19 c0_i32_9
  v20

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x1000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![160], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1x1x1000 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x1000 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1000x4 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1x1x1000 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S512x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![160], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1x1x1000 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x1x1000 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1000x4 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S32x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S512x256 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S512x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1000x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x192 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S256x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S1000x256 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![10], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S1x1x1000 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1000x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S256x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S512x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev grid6 : Pipeline.Grid := ⟨1, ![160], ![false]⟩

def cc6_transform_0 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S1x1x1000 .i32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1x1x1000 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S1000x32 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S1000x4 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S32x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S512x256 .bf16 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S512x256 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1000x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x192 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S256x256 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S256x256 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S1000x256 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]
-- ==== KernelIdeal.lean ====
variable {F : FTy → Type} [FloatOps F] [Named F]
def κ : String → Option EReal := fun
  | "half_inv_sqrt3" => some ((4194304 / 14529495 : ℝ) : EReal)
  | "inv_sqrt32" => some ((2097152 / 11863283 : ℝ) : EReal)
  | "mu_step" => some ((10 / 31 : ℝ) : EReal)
  | _ => none
-- ==== ReferenceIdeal.lean ====
abbrev S10000x3 : Shape := ⟨2, ![10000, 3]⟩
abbrev S10000 : Shape := ⟨1, ![10000]⟩
abbrev S10000x1 : Shape := ⟨2, ![10000, 1]⟩
abbrev S2x160000 : Shape := ⟨2, ![2, 160000]⟩
abbrev S10000x256 : Shape := ⟨2, ![10000, 256]⟩
abbrev S32x256 : Shape := ⟨2, ![32, 256]⟩
abbrev S2x64 : Shape := ⟨2, ![2, 64]⟩
abbrev S64 : Shape := ⟨1, ![64]⟩
abbrev S_ : Shape := ⟨0, ![]⟩
abbrev S500x3 : Shape := ⟨2, ![500, 3]⟩
abbrev S500x1 : Shape := ⟨2, ![500, 1]⟩
abbrev S1x160000 : Shape := ⟨2, ![1, 160000]⟩
abbrev S160000 : Shape := ⟨1, ![160000]⟩
abbrev S160000x1 : Shape := ⟨2, ![160000, 1]⟩
abbrev S160000x3 : Shape := ⟨2, ![160000, 3]⟩
abbrev S31 : Shape := ⟨1, ![31]⟩
abbrev S1 : Shape := ⟨1, ![1]⟩
abbrev S32 : Shape := ⟨1, ![32]⟩
abbrev S1x32 : Shape := ⟨2, ![1, 32]⟩
abbrev S160000x32 : Shape := ⟨2, ![160000, 32]⟩
abbrev S160000x2 : Shape := ⟨2, ![160000, 2]⟩
abbrev S160000x4 : Shape := ⟨2, ![160000, 4]⟩
abbrev S500 : Shape := ⟨1, ![500]⟩
abbrev S500x256 : Shape := ⟨2, ![500, 256]⟩
abbrev S160000x256 : Shape := ⟨2, ![160000, 256]⟩
abbrev S160000x64 : Shape := ⟨2, ![160000, 64]⟩
abbrev S160000x192 : Shape := ⟨2, ![160000, 192]⟩
abbrev S160000x64x3 : Shape := ⟨3, ![160000, 64, 3]⟩
abbrev S160000x64x1 : Shape := ⟨3, ![160000, 64, 1]⟩
abbrev S160000x1x3 : Shape := ⟨3, ![160000, 1, 3]⟩
abbrev S10000x4x64 : Shape := ⟨3, ![10000, 4, 64]⟩
abbrev S10000x1x64 : Shape := ⟨3, ![10000, 1, 64]⟩
abbrev S10000x1x1 : Shape := ⟨3, ![10000, 1, 1]⟩
abbrev S1x64 : Shape := ⟨2, ![1, 64]⟩
abbrev S1x1x64 : Shape := ⟨3, ![1, 1, 64]⟩
abbrev S10000x3x64 : Shape := ⟨3, ![10000, 3, 64]⟩

abbrev nBuf : Space → Nat
  | .hbm => 374
  | .vmem => 0
  | .smem => 0
  | _ => 0

abbrev hbmTy0_0 (i : Nat) : BufTy := match i % 128 with
  | 0 => ⟨S10000x3, .f32⟩
  | 1 => ⟨S10000, .i32⟩
  | 2 => ⟨S10000x1, .f32⟩
  | 3 => ⟨S2x160000, .i32⟩
  | 4 => ⟨S10000x256, .f32⟩
  | 5 => ⟨S32x256, .f32⟩
  | 6 => ⟨S2x64, .f32⟩
  | 7 => ⟨S64, .f32⟩
  | 8 => ⟨S10000x3, .f32⟩
  | 9 => ⟨S10000x3, .f32⟩
  | 10 => ⟨S_, .f32⟩
  | 11 => ⟨S500x3, .f32⟩
  | 12 => ⟨S10000x1, .i32⟩
  | 13 => ⟨S500x3, .f32⟩
  | 14 => ⟨S_, .f32⟩
  | 15 => ⟨S500x1, .f32⟩
  | 16 => ⟨S10000x1, .i32⟩
  | 17 => ⟨S500x1, .f32⟩
  | 18 => ⟨S_, .f32⟩
  | 19 => ⟨S500x1, .f32⟩
  | 20 => ⟨S500x1, .i1⟩
  | 21 => ⟨S_, .f32⟩
  | 22 => ⟨S_, .f32⟩
  | 23 => ⟨S500x1, .f32⟩
  | 24 => ⟨S500x1, .f32⟩
  | 25 => ⟨S500x3, .f32⟩
  | 26 => ⟨S500x3, .f32⟩
  | 27 => ⟨S1x160000, .i32⟩
  | 28 => ⟨S160000, .i32⟩
  | 29 => ⟨S1x160000, .i32⟩
  | 30 => ⟨S160000, .i32⟩
  | 31 => ⟨S_, .i32⟩
  | 32 => ⟨S160000, .i32⟩
  | 33 => ⟨S160000, .i1⟩
  | 34 => ⟨S_, .i32⟩
  | 35 => ⟨S160000, .i32⟩
  | 36 => ⟨S160000, .i32⟩
  | 37 => ⟨S160000, .i32⟩
  | 38 => ⟨S160000x1, .i32⟩
  | 39 => ⟨S160000x3, .f32⟩
  | 40 => ⟨S_, .i32⟩
  | 41 => ⟨S160000, .i32⟩
  | 42 => ⟨S160000, .i1⟩
  | 43 => ⟨S_, .i32⟩
  | 44 => ⟨S160000, .i32⟩
  | 45 => ⟨S160000, .i32⟩
  | 46 => ⟨S160000, .i32⟩
  | 47 => ⟨S160000x1, .i32⟩
  | 48 => ⟨S160000x3, .f32⟩
  | 49 => ⟨S160000x3, .f32⟩
  | 50 => ⟨S160000x3, .f32⟩
  | 51 => ⟨S_, .f32⟩
  | 52 => ⟨S160000, .f32⟩
  | 53 => ⟨S160000x1, .f32⟩
  | 54 => ⟨S160000x1, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S31, .f32⟩
  | 63 => ⟨S_, .f32⟩
  | 64 => ⟨S31, .f32⟩
  | 65 => ⟨S31, .f32⟩
  | 66 => ⟨S1, .f32⟩
  | 67 => ⟨S_, .f32⟩
  | 68 => ⟨S31, .f32⟩
  | 69 => ⟨S31, .f32⟩
  | 70 => ⟨S31, .f32⟩
  | 71 => ⟨S31, .f32⟩
  | 72 => ⟨S1, .f32⟩
  | 73 => ⟨S31, .f32⟩
  | 74 => ⟨S31, .f32⟩
  | 75 => ⟨S31, .f32⟩
  | 76 => ⟨S1, .f32⟩
  | 77 => ⟨S32, .f32⟩
  | 78 => ⟨S1x32, .f32⟩
  | 79 => ⟨S160000x32, .f32⟩
  | 80 => ⟨S160000x32, .f32⟩
  | 81 => ⟨S160000x32, .f32⟩
  | 82 => ⟨S_, .f32⟩
  | 83 => ⟨S160000x32, .f32⟩
  | 84 => ⟨S160000x32, .f32⟩
  | 85 => ⟨S160000x32, .f32⟩
  | 86 => ⟨S160000x32, .f32⟩
  | 87 => ⟨S160000x32, .f32⟩
  | 88 => ⟨S160000x2, .f32⟩
  | 89 => ⟨S160000x1, .f32⟩
  | 90 => ⟨S160000x3, .f32⟩
  | 91 => ⟨S160000x3, .f32⟩
  | 92 => ⟨S_, .f32⟩
  | 93 => ⟨S160000, .f32⟩
  | 94 => ⟨S160000x1, .f32⟩
  | 95 => ⟨S160000x1, .f32⟩
  | 96 => ⟨S_, .f32⟩
  | 97 => ⟨S160000x1, .f32⟩
  | 98 => ⟨S160000x1, .f32⟩
  | 99 => ⟨S160000x3, .f32⟩
  | 100 => ⟨S160000x3, .f32⟩
  | 101 => ⟨S_, .f32⟩
  | 102 => ⟨S160000x1, .f32⟩
  | 103 => ⟨S_, .f32⟩
  | 104 => ⟨S160000x3, .f32⟩
  | 105 => ⟨S160000x3, .f32⟩
  | 106 => ⟨S160000x4, .f32⟩
  | 107 => ⟨S_, .f32⟩
  | 108 => ⟨S10000, .f32⟩
  | 109 => ⟨S_, .f32⟩
  | 110 => ⟨S500, .f32⟩
  | 111 => ⟨S10000x1, .i32⟩
  | 112 => ⟨S500, .f32⟩
  | 113 => ⟨S_, .f32⟩
  | 114 => ⟨S500, .f32⟩
  | 115 => ⟨S500, .f32⟩
  | 116 => ⟨S_, .f32⟩
  | 117 => ⟨S500x256, .f32⟩
  | 118 => ⟨S10000x1, .i32⟩
  | 119 => ⟨S500x256, .f32⟩
  | 120 => ⟨S500x1, .f32⟩
  | 121 => ⟨S500x256, .f32⟩
  | 122 => ⟨S500x256, .f32⟩
  | 123 => ⟨S160000x256, .f32⟩
  | 124 => ⟨S_, .f32⟩
  | 125 => ⟨S160000x256, .f32⟩
  | 126 => ⟨S160000x256, .f32⟩
  | 127 => ⟨S_, .i32⟩
  | _ => ⟨S10000x3, .f32⟩

abbrev hbmTy0_1 (i : Nat) : BufTy := match i % 128 with
  | 0 => ⟨S160000, .i32⟩
  | 1 => ⟨S160000, .i1⟩
  | 2 => ⟨S_, .i32⟩
  | 3 => ⟨S160000, .i32⟩
  | 4 => ⟨S160000, .i32⟩
  | 5 => ⟨S160000, .i32⟩
  | 6 => ⟨S160000x1, .i32⟩
  | 7 => ⟨S160000x256, .f32⟩
  | 8 => ⟨S160000x64, .f32⟩
  | 9 => ⟨S160000x192, .f32⟩
  | 10 => ⟨S160000x64x3, .f32⟩
  | 11 => ⟨S160000x1, .f32⟩
  | 12 => ⟨S160000x3, .f32⟩
  | 13 => ⟨S160000x64, .f32⟩
  | 14 => ⟨S160000x64, .f32⟩
  | 15 => ⟨S160000x64, .f32⟩
  | 16 => ⟨S160000x64, .f32⟩
  | 17 => ⟨S_, .f32⟩
  | 18 => ⟨S160000x64, .f32⟩
  | 19 => ⟨S160000x64, .f32⟩
  | 20 => ⟨S160000x64, .f32⟩
  | 21 => ⟨S160000x64, .f32⟩
  | 22 => ⟨S160000x64, .f32⟩
  | 23 => ⟨S_, .f32⟩
  | 24 => ⟨S160000x64, .f32⟩
  | 25 => ⟨S160000x64, .f32⟩
  | 26 => ⟨S160000x64, .f32⟩
  | 27 => ⟨S160000x64, .f32⟩
  | 28 => ⟨S_, .f32⟩
  | 29 => ⟨S160000x64, .f32⟩
  | 30 => ⟨S160000x64, .f32⟩
  | 31 => ⟨S160000x64, .f32⟩
  | 32 => ⟨S160000x64, .f32⟩
  | 33 => ⟨S160000x64x1, .f32⟩
  | 34 => ⟨S_, .f32⟩
  | 35 => ⟨S160000x64x1, .f32⟩
  | 36 => ⟨S160000x64x1, .f32⟩
  | 37 => ⟨S160000x1x3, .f32⟩
  | 38 => ⟨S160000x64x3, .f32⟩
  | 39 => ⟨S160000x64x3, .f32⟩
  | 40 => ⟨S160000x64x3, .f32⟩
  | 41 => ⟨S160000x64, .f32⟩
  | 42 => ⟨S160000x64, .f32⟩
  | 43 => ⟨S160000x64x1, .f32⟩
  | 44 => ⟨S_, .f32⟩
  | 45 => ⟨S160000x64x1, .f32⟩
  | 46 => ⟨S160000x64x1, .f32⟩
  | 47 => ⟨S160000x64x3, .f32⟩
  | 48 => ⟨S160000x64x3, .f32⟩
  | 49 => ⟨S160000x64x3, .f32⟩
  | 50 => ⟨S160000x192, .f32⟩
  | 51 => ⟨S160000x256, .f32⟩
  | 52 => ⟨S_, .i32⟩
  | 53 => ⟨S160000, .i32⟩
  | 54 => ⟨S160000, .i1⟩
  | 55 => ⟨S_, .i32⟩
  | 56 => ⟨S160000, .i32⟩
  | 57 => ⟨S160000, .i32⟩
  | 58 => ⟨S160000, .i32⟩
  | 59 => ⟨S160000x1, .i32⟩
  | 60 => ⟨S10000x256, .f32⟩
  | 61 => ⟨S10000x4x64, .f32⟩
  | 62 => ⟨S10000x1x64, .f32⟩
  | 63 => ⟨S_, .f32⟩
  | 64 => ⟨S10000x1, .f32⟩
  | 65 => ⟨S10000x1x1, .f32⟩
  | 66 => ⟨S_, .f32⟩
  | 67 => ⟨S10000x1x1, .f32⟩
  | 68 => ⟨S10000x1x1, .f32⟩
  | 69 => ⟨S10000x1x64, .f32⟩
  | 70 => ⟨S10000x1x64, .f32⟩
  | 71 => ⟨S10000x1x64, .f32⟩
  | 72 => ⟨S_, .f32⟩
  | 73 => ⟨S10000, .f32⟩
  | 74 => ⟨S10000x1x1, .f32⟩
  | 75 => ⟨S_, .f32⟩
  | 76 => ⟨S10000x1x1, .f32⟩
  | 77 => ⟨S10000x1x1, .f32⟩
  | 78 => ⟨S_, .f32⟩
  | 79 => ⟨S10000x1x1, .f32⟩
  | 80 => ⟨S10000x1x1, .f32⟩
  | 81 => ⟨S_, .f32⟩
  | 82 => ⟨S10000x1x1, .f32⟩
  | 83 => ⟨S10000x1x1, .f32⟩
  | 84 => ⟨S10000x1x64, .f32⟩
  | 85 => ⟨S10000x1x64, .f32⟩
  | 86 => ⟨S1x64, .f32⟩
  | 87 => ⟨S64, .f32⟩
  | 88 => ⟨S1x1x64, .f32⟩
  | 89 => ⟨S10000x1x64, .f32⟩
  | 90 => ⟨S10000x1x64, .f32⟩
  | 91 => ⟨S1x1x64, .f32⟩
  | 92 => ⟨S10000x1x64, .f32⟩
  | 93 => ⟨S10000x1x64, .f32⟩
  | 94 => ⟨S10000x3x64, .f32⟩
  | 95 => ⟨S10000x3x64, .f32⟩
  | 96 => ⟨S_, .f32⟩
  | 97 => ⟨S10000, .f32⟩
  | 98 => ⟨S10000x1x1, .f32⟩
  | 99 => ⟨S_, .f32⟩
  | 100 => ⟨S10000x1x1, .f32⟩
  | 101 => ⟨S10000x1x1, .f32⟩
  | 102 => ⟨S_, .f32⟩
  | 103 => ⟨S10000x1x1, .f32⟩
  | 104 => ⟨S10000x1x1, .f32⟩
  | 105 => ⟨S_, .f32⟩
  | 106 => ⟨S10000x1x1, .f32⟩
  | 107 => ⟨S10000x1x1, .f32⟩
  | 108 => ⟨S10000x3x64, .f32⟩
  | 109 => ⟨S10000x3x64, .f32⟩
  | 110 => ⟨S1x64, .f32⟩
  | 111 => ⟨S64, .f32⟩
  | 112 => ⟨S1x1x64, .f32⟩
  | 113 => ⟨S10000x3x64, .f32⟩
  | 114 => ⟨S10000x3x64, .f32⟩
  | 115 => ⟨S10000x4x64, .f32⟩
  | 116 => ⟨S10000x256, .f32⟩
  | 117 => ⟨S_, .f32⟩
  | 118 => ⟨S500x256, .f32⟩
  | 119 => ⟨S10000x1, .i32⟩
  | 120 => ⟨S500x256, .f32⟩
  | 121 => ⟨S500x1, .f32⟩
  | 122 => ⟨S500x256, .f32⟩
  | 123 => ⟨S500x256, .f32⟩
  | 124 => ⟨S160000x256, .f32⟩
  | 125 => ⟨S_, .f32⟩
  | 126 => ⟨S160000x256, .f32⟩
  | 127 => ⟨S160000x256, .f32⟩
  | _ => ⟨S10000x3, .f32⟩

abbrev hbmTy0_2 (i : Nat) : BufTy := match i % 128 with
  | 0 => ⟨S_, .i32⟩
  | 1 => ⟨S160000, .i32⟩
  | 2 => ⟨S160000, .i1⟩
  | 3 => ⟨S_, .i32⟩
  | 4 => ⟨S160000, .i32⟩
  | 5 => ⟨S160000, .i32⟩
  | 6 => ⟨S160000, .i32⟩
  | 7 => ⟨S160000x1, .i32⟩
  | 8 => ⟨S160000x256, .f32⟩
  | 9 => ⟨S160000x64, .f32⟩
  | 10 => ⟨S160000x192, .f32⟩
  | 11 => ⟨S160000x64x3, .f32⟩
  | 12 => ⟨S160000x1, .f32⟩
  | 13 => ⟨S160000x3, .f32⟩
  | 14 => ⟨S160000x64, .f32⟩
  | 15 => ⟨S160000x64, .f32⟩
  | 16 => ⟨S160000x64, .f32⟩
  | 17 => ⟨S160000x64, .f32⟩
  | 18 => ⟨S_, .f32⟩
  | 19 => ⟨S160000x64, .f32⟩
  | 20 => ⟨S160000x64, .f32⟩
  | 21 => ⟨S160000x64, .f32⟩
  | 22 => ⟨S160000x64, .f32⟩
  | 23 => ⟨S160000x64, .f32⟩
  | 24 => ⟨S_, .f32⟩
  | 25 => ⟨S160000x64, .f32⟩
  | 26 => ⟨S160000x64, .f32⟩
  | 27 => ⟨S160000x64, .f32⟩
  | 28 => ⟨S160000x64, .f32⟩
  | 29 => ⟨S_, .f32⟩
  | 30 => ⟨S160000x64, .f32⟩
  | 31 => ⟨S160000x64, .f32⟩
  | 32 => ⟨S160000x64, .f32⟩
  | 33 => ⟨S160000x64, .f32⟩
  | 34 => ⟨S160000x64x1, .f32⟩
  | 35 => ⟨S_, .f32⟩
  | 36 => ⟨S160000x64x1, .f32⟩
  | 37 => ⟨S160000x64x1, .f32⟩
  | 38 => ⟨S160000x1x3, .f32⟩
  | 39 => ⟨S160000x64x3, .f32⟩
  | 40 => ⟨S160000x64x3, .f32⟩
  | 41 => ⟨S160000x64x3, .f32⟩
  | 42 => ⟨S160000x64, .f32⟩
  | 43 => ⟨S160000x64, .f32⟩
  | 44 => ⟨S160000x64x1, .f32⟩
  | 45 => ⟨S_, .f32⟩
  | 46 => ⟨S160000x64x1, .f32⟩
  | 47 => ⟨S160000x64x1, .f32⟩
  | 48 => ⟨S160000x64x3, .f32⟩
  | 49 => ⟨S160000x64x3, .f32⟩
  | 50 => ⟨S160000x64x3, .f32⟩
  | 51 => ⟨S160000x192, .f32⟩
  | 52 => ⟨S160000x256, .f32⟩
  | 53 => ⟨S_, .i32⟩
  | 54 => ⟨S160000, .i32⟩
  | 55 => ⟨S160000, .i1⟩
  | 56 => ⟨S_, .i32⟩
  | 57 => ⟨S160000, .i32⟩
  | 58 => ⟨S160000, .i32⟩
  | 59 => ⟨S160000, .i32⟩
  | 60 => ⟨S160000x1, .i32⟩
  | 61 => ⟨S10000x256, .f32⟩
  | 62 => ⟨S10000x4x64, .f32⟩
  | 63 => ⟨S10000x1x64, .f32⟩
  | 64 => ⟨S_, .f32⟩
  | 65 => ⟨S10000x1, .f32⟩
  | 66 => ⟨S10000x1x1, .f32⟩
  | 67 => ⟨S_, .f32⟩
  | 68 => ⟨S10000x1x1, .f32⟩
  | 69 => ⟨S10000x1x1, .f32⟩
  | 70 => ⟨S10000x1x64, .f32⟩
  | 71 => ⟨S10000x1x64, .f32⟩
  | 72 => ⟨S10000x1x64, .f32⟩
  | 73 => ⟨S_, .f32⟩
  | 74 => ⟨S10000, .f32⟩
  | 75 => ⟨S10000x1x1, .f32⟩
  | 76 => ⟨S_, .f32⟩
  | 77 => ⟨S10000x1x1, .f32⟩
  | 78 => ⟨S10000x1x1, .f32⟩
  | 79 => ⟨S_, .f32⟩
  | 80 => ⟨S10000x1x1, .f32⟩
  | 81 => ⟨S10000x1x1, .f32⟩
  | 82 => ⟨S_, .f32⟩
  | 83 => ⟨S10000x1x1, .f32⟩
  | 84 => ⟨S10000x1x1, .f32⟩
  | 85 => ⟨S10000x1x64, .f32⟩
  | 86 => ⟨S10000x1x64, .f32⟩
  | 87 => ⟨S1x64, .f32⟩
  | 88 => ⟨S64, .f32⟩
  | 89 => ⟨S1x1x64, .f32⟩
  | 90 => ⟨S10000x1x64, .f32⟩
  | 91 => ⟨S10000x1x64, .f32⟩
  | 92 => ⟨S1x1x64, .f32⟩
  | 93 => ⟨S10000x1x64, .f32⟩
  | 94 => ⟨S10000x1x64, .f32⟩
  | 95 => ⟨S10000x3x64, .f32⟩
  | 96 => ⟨S10000x3x64, .f32⟩
  | 97 => ⟨S_, .f32⟩
  | 98 => ⟨S10000, .f32⟩
  | 99 => ⟨S10000x1x1, .f32⟩
  | 100 => ⟨S_, .f32⟩
  | 101 => ⟨S10000x1x1, .f32⟩
  | 102 => ⟨S10000x1x1, .f32⟩
  | 103 => ⟨S_, .f32⟩
  | 104 => ⟨S10000x1x1, .f32⟩
  | 105 => ⟨S10000x1x1, .f32⟩
  | 106 => ⟨S_, .f32⟩
  | 107 => ⟨S10000x1x1, .f32⟩
  | 108 => ⟨S10000x1x1, .f32⟩
  | 109 => ⟨S10000x3x64, .f32⟩
  | 110 => ⟨S10000x3x64, .f32⟩
  | 111 => ⟨S1x64, .f32⟩
  | 112 => ⟨S64, .f32⟩
  | 113 => ⟨S1x1x64, .f32⟩
  | 114 => ⟨S10000x3x64, .f32⟩
  | 115 => ⟨S10000x3x64, .f32⟩
  | 116 => ⟨S10000x4x64, .f32⟩
  | 117 => ⟨S10000x256, .f32⟩
  | _ => ⟨S10000x3, .f32⟩

abbrev hbmTy (i : Nat) : BufTy := match i / 128 with
  | 0 => hbmTy0_0 i
  | 1 => hbmTy0_1 i
  | 2 => hbmTy0_2 i
  | _ => ⟨S10000x3, .f32⟩

abbrev bufTy : (tb : Table) → Fin (tcTables nBuf tb) → BufTy
  | .hbm, ⟨i, _⟩ => hbmTy i
  | _, _ => ⟨S10000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_call1_v0 : Ref sig .tc := ⟨.hbm, 50, rfl⟩
abbrev main_call1_cst : Ref sig .tc := ⟨.hbm, 51, rfl⟩
abbrev main_call1_v1 : Ref sig .tc := ⟨.hbm, 52, rfl⟩
abbrev main_call1_v2 : Ref sig .tc := ⟨.hbm, 53, rfl⟩
abbrev main_v32 : Ref sig .tc := ⟨.hbm, 54, rfl⟩
abbrev main_cst_6 : Ref sig .tc := ⟨.hbm, 55, rfl⟩
abbrev main_cst_7 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_cst : Ref sig .tc := ⟨.hbm, 60, rfl⟩
abbrev main_call2_v3 : Ref sig .tc := ⟨.hbm, 61, rfl⟩
abbrev main_call2_v4 : Ref sig .tc := ⟨.hbm, 62, rfl⟩
abbrev main_call2_cst_0 : Ref sig .tc := ⟨.hbm, 63, rfl⟩
abbrev main_call2_v5 : Ref sig .tc := ⟨.hbm, 64, rfl⟩
abbrev main_call2_v6 : Ref sig .tc := ⟨.hbm, 65, rfl⟩
abbrev main_call2_v7 : Ref sig .tc := ⟨.hbm, 66, rfl⟩
abbrev main_call2_cst_1 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_v12 : Ref sig .tc := ⟨.hbm, 72, rfl⟩
abbrev main_call2_v13 : Ref sig .tc := ⟨.hbm, 73, rfl⟩
abbrev main_call2_v14 : Ref sig .tc := ⟨.hbm, 74, rfl⟩
abbrev main_call2_v15 : Ref sig .tc := ⟨.hbm, 75, rfl⟩
abbrev main_call2_v16 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_cst_8 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_call3_v0 : Ref sig .tc := ⟨.hbm, 91, rfl⟩
abbrev main_call3_cst : Ref sig .tc := ⟨.hbm, 92, rfl⟩
abbrev main_call3_v1 : Ref sig .tc := ⟨.hbm, 93, rfl⟩
abbrev main_call3_v2 : Ref sig .tc := ⟨.hbm, 94, rfl⟩
abbrev main_v46 : Ref sig .tc := ⟨.hbm, 95, rfl⟩
abbrev main_cst_9 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_cst_10 : Ref sig .tc := ⟨.hbm, 101, rfl⟩
abbrev main_v51 : Ref sig .tc := ⟨.hbm, 102, rfl⟩
abbrev main_cst_11 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_cst_12 : Ref sig .tc := ⟨.hbm, 107, rfl⟩
abbrev main_v55 : Ref sig .tc := ⟨.hbm, 108, rfl⟩
abbrev main_cst_13 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_cst_14 : Ref sig .tc := ⟨.hbm, 113, rfl⟩
abbrev main_v59 : Ref sig .tc := ⟨.hbm, 114, rfl⟩
abbrev main_v60 : Ref sig .tc := ⟨.hbm, 115, rfl⟩
abbrev main_cst_15 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_cst_16 : Ref sig .tc := ⟨.hbm, 124, rfl⟩
abbrev main_v68 : Ref sig .tc := ⟨.hbm, 125, rfl⟩
abbrev main_v69 : Ref sig .tc := ⟨.hbm, 126, rfl⟩
abbrev main_c_17 : Ref sig .tc := ⟨.hbm, 127, rfl⟩
abbrev main_v70 : Ref sig .tc := ⟨.hbm, 128, rfl⟩
abbrev main_v71 : Ref sig .tc := ⟨.hbm, 129, rfl⟩
abbrev main_c_18 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_cst_19 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_cst_20 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_cst_21 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_cst_22 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_cst_23 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_c_24 : Ref sig .tc := ⟨.hbm, 180, rfl⟩
abbrev main_v116 : Ref sig .tc := ⟨.hbm, 181, rfl⟩
abbrev main_v117 : Ref sig .tc := ⟨.hbm, 182, rfl⟩
abbrev main_c_25 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_cst_26 : Ref sig .tc := ⟨.hbm, 191, rfl⟩
abbrev main_v125 : Ref sig .tc := ⟨.hbm, 192, rfl⟩
abbrev main_v126 : Ref sig .tc := ⟨.hbm, 193, rfl⟩
abbrev main_cst_27 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_cst_28 : Ref sig .tc := ⟨.hbm, 200, rfl⟩
abbrev main_v132 : Ref sig .tc := ⟨.hbm, 201, rfl⟩
abbrev main_v133 : Ref sig .tc := ⟨.hbm, 202, rfl⟩
abbrev main_cst_29 : Ref sig .tc := ⟨.hbm, 203, rfl⟩
abbrev main_v134 : Ref sig .tc := ⟨.hbm, 204, rfl⟩
abbrev main_v135 : Ref sig .tc := ⟨.hbm, 205, rfl⟩
abbrev main_cst_30 : Ref sig .tc := ⟨.hbm, 206, rfl⟩
abbrev main_v136 : Ref sig .tc := ⟨.hbm, 207, rfl⟩
abbrev main_v137 : Ref sig .tc := ⟨.hbm, 208, rfl⟩
abbrev main_cst_31 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_v150 : Ref sig .tc := ⟨.hbm, 222, rfl⟩
abbrev main_v151 : Ref sig .tc := ⟨.hbm, 223, rfl⟩
abbrev main_cst_32 : Ref sig .tc := ⟨.hbm, 224, rfl⟩
abbrev main_v152 : Ref sig .tc := ⟨.hbm, 225, rfl⟩
abbrev main_v153 : Ref sig .tc := ⟨.hbm, 226, rfl⟩
abbrev main_cst_33 : Ref sig .tc := ⟨.hbm, 227, rfl⟩
abbrev main_v154 : Ref sig .tc := ⟨.hbm, 228, rfl⟩
abbrev main_v155 : Ref sig .tc := ⟨.hbm, 229, rfl⟩
abbrev main_cst_34 : Ref sig .tc := ⟨.hbm, 230, rfl⟩
abbrev main_v156 : Ref sig .tc := ⟨.hbm, 231, rfl⟩
abbrev main_v157 : Ref sig .tc := ⟨.hbm, 232, rfl⟩
abbrev main_cst_35 : Ref sig .tc := ⟨.hbm, 233, rfl⟩
abbrev main_v158 : Ref sig .tc := ⟨.hbm, 234, rfl⟩
abbrev main_v159 : Ref sig .tc := ⟨.hbm, 235, rfl⟩
abbrev main_v160 : Ref sig .tc := ⟨.hbm, 236, rfl⟩
abbrev main_v161 : Ref sig .tc := ⟨.hbm, 237, rfl⟩
abbrev main_v162 : Ref sig .tc := ⟨.hbm, 238, rfl⟩
abbrev main_v163 : Ref sig .tc := ⟨.hbm, 239, rfl⟩
abbrev main_v164 : Ref sig .tc := ⟨.hbm, 240, rfl⟩
abbrev main_v165 : Ref sig .tc := ⟨.hbm, 241, rfl⟩
abbrev main_v166 : Ref sig .tc := ⟨.hbm, 242, rfl⟩
abbrev main_v167 : Ref sig .tc := ⟨.hbm, 243, rfl⟩
abbrev main_v168 : Ref sig .tc := ⟨.hbm, 244, rfl⟩
abbrev main_cst_36 : Ref sig .tc := ⟨.hbm, 245, rfl⟩
abbrev main_v169 : Ref sig .tc := ⟨.hbm, 246, rfl⟩
abbrev main_v170 : Ref sig .tc := ⟨.hbm, 247, rfl⟩
abbrev main_v171 : Ref sig .tc := ⟨.hbm, 248, rfl⟩
abbrev main_v172 : Ref sig .tc := ⟨.hbm, 249, rfl⟩
abbrev main_v173 : Ref sig .tc := ⟨.hbm, 250, rfl⟩
abbrev main_v174 : Ref sig .tc := ⟨.hbm, 251, rfl⟩
abbrev main_v175 : Ref sig .tc := ⟨.hbm, 252, rfl⟩
abbrev main_cst_37 : Ref sig .tc := ⟨.hbm, 253, rfl⟩
abbrev main_v176 : Ref sig .tc := ⟨.hbm, 254, rfl⟩
abbrev main_v177 : Ref sig .tc := ⟨.hbm, 255, rfl⟩
abbrev main_c_38 : Ref sig .tc := ⟨.hbm, 256, rfl⟩
abbrev main_v178 : Ref sig .tc := ⟨.hbm, 257, rfl⟩
abbrev main_v179 : Ref sig .tc := ⟨.hbm, 258, rfl⟩
abbrev main_c_39 : Ref sig .tc := ⟨.hbm, 259, rfl⟩
abbrev main_v180 : Ref sig .tc := ⟨.hbm, 260, rfl⟩
abbrev main_v181 : Ref sig .tc := ⟨.hbm, 261, rfl⟩
abbrev main_v182 : Ref sig .tc := ⟨.hbm, 262, rfl⟩
abbrev main_v183 : Ref sig .tc := ⟨.hbm, 263, rfl⟩
abbrev main_v184 : Ref sig .tc := ⟨.hbm, 264, rfl⟩
abbrev main_v185 : Ref sig .tc := ⟨.hbm, 265, rfl⟩
abbrev main_v186 : Ref sig .tc := ⟨.hbm, 266, rfl⟩
abbrev main_v187 : Ref sig .tc := ⟨.hbm, 267, rfl⟩
abbrev main_v188 : Ref sig .tc := ⟨.hbm, 268, rfl⟩
abbrev main_v189 : Ref sig .tc := ⟨.hbm, 269, rfl⟩
abbrev main_v190 : Ref sig .tc := ⟨.hbm, 270, rfl⟩
abbrev main_v191 : Ref sig .tc := ⟨.hbm, 271, rfl⟩
abbrev main_v192 : Ref sig .tc := ⟨.hbm, 272, rfl⟩
abbrev main_v193 : Ref sig .tc := ⟨.hbm, 273, rfl⟩
abbrev main_cst_40 : Ref sig .tc := ⟨.hbm, 274, rfl⟩
abbrev main_v194 : Ref sig .tc := ⟨.hbm, 275, rfl⟩
abbrev main_v195 : Ref sig .tc := ⟨.hbm, 276, rfl⟩
abbrev main_v196 : Ref sig .tc := ⟨.hbm, 277, rfl⟩
abbrev main_v197 : Ref sig .tc := ⟨.hbm, 278, rfl⟩
abbrev main_v198 : Ref sig .tc := ⟨.hbm, 279, rfl⟩
abbrev main_cst_41 : Ref sig .tc := ⟨.hbm, 280, rfl⟩
abbrev main_v199 : Ref sig .tc := ⟨.hbm, 281, rfl⟩
abbrev main_v200 : Ref sig .tc := ⟨.hbm, 282, rfl⟩
abbrev main_v201 : Ref sig .tc := ⟨.hbm, 283, rfl⟩
abbrev main_v202 : Ref sig .tc := ⟨.hbm, 284, rfl⟩
abbrev main_cst_42 : Ref sig .tc := ⟨.hbm, 285, rfl⟩
abbrev main_v203 : Ref sig .tc := ⟨.hbm, 286, rfl⟩
abbrev main_v204 : Ref sig .tc := ⟨.hbm, 287, rfl⟩
abbrev main_v205 : Ref sig .tc := ⟨.hbm, 288, rfl⟩
abbrev main_v206 : Ref sig .tc := ⟨.hbm, 289, rfl⟩
abbrev main_v207 : Ref sig .tc := ⟨.hbm, 290, rfl⟩
abbrev main_cst_43 : Ref sig .tc := ⟨.hbm, 291, rfl⟩
abbrev main_v208 : Ref sig .tc := ⟨.hbm, 292, rfl⟩
abbrev main_v209 : Ref sig .tc := ⟨.hbm, 293, rfl⟩
abbrev main_v210 : Ref sig .tc := ⟨.hbm, 294, rfl⟩
abbrev main_v211 : Ref sig .tc := ⟨.hbm, 295, rfl⟩
abbrev main_v212 : Ref sig .tc := ⟨.hbm, 296, rfl⟩
abbrev main_v213 : Ref sig .tc := ⟨.hbm, 297, rfl⟩
abbrev main_v214 : Ref sig .tc := ⟨.hbm, 298, rfl⟩
abbrev main_v215 : Ref sig .tc := ⟨.hbm, 299, rfl⟩
abbrev main_v216 : Ref sig .tc := ⟨.hbm, 300, rfl⟩
abbrev main_cst_44 : Ref sig .tc := ⟨.hbm, 301, rfl⟩
abbrev main_v217 : Ref sig .tc := ⟨.hbm, 302, rfl⟩
abbrev main_v218 : Ref sig .tc := ⟨.hbm, 303, rfl⟩
abbrev main_v219 : Ref sig .tc := ⟨.hbm, 304, rfl⟩
abbrev main_v220 : Ref sig .tc := ⟨.hbm, 305, rfl⟩
abbrev main_v221 : Ref sig .tc := ⟨.hbm, 306, rfl⟩
abbrev main_v222 : Ref sig .tc := ⟨.hbm, 307, rfl⟩
abbrev main_v223 : Ref sig .tc := ⟨.hbm, 308, rfl⟩
abbrev main_c_45 : Ref sig .tc := ⟨.hbm, 309, rfl⟩
abbrev main_v224 : Ref sig .tc := ⟨.hbm, 310, rfl⟩
abbrev main_v225 : Ref sig .tc := ⟨.hbm, 311, rfl⟩
abbrev main_c_46 : Ref sig .tc := ⟨.hbm, 312, rfl⟩
abbrev main_v226 : Ref sig .tc := ⟨.hbm, 313, rfl⟩
abbrev main_v227 : Ref sig .tc := ⟨.hbm, 314, rfl⟩
abbrev main_v228 : Ref sig .tc := ⟨.hbm, 315, rfl⟩
abbrev main_v229 : Ref sig .tc := ⟨.hbm, 316, rfl⟩
abbrev main_v230 : Ref sig .tc := ⟨.hbm, 317, rfl⟩
abbrev main_v231 : Ref sig .tc := ⟨.hbm, 318, rfl⟩
abbrev main_v232 : Ref sig .tc := ⟨.hbm, 319, rfl⟩
abbrev main_cst_47 : Ref sig .tc := ⟨.hbm, 320, rfl⟩
abbrev main_v233 : Ref sig .tc := ⟨.hbm, 321, rfl⟩
abbrev main_v234 : Ref sig .tc := ⟨.hbm, 322, rfl⟩
abbrev main_cst_48 : Ref sig .tc := ⟨.hbm, 323, rfl⟩
abbrev main_v235 : Ref sig .tc := ⟨.hbm, 324, rfl⟩
abbrev main_v236 : Ref sig .tc := ⟨.hbm, 325, rfl⟩
abbrev main_v237 : Ref sig .tc := ⟨.hbm, 326, rfl⟩
abbrev main_v238 : Ref sig .tc := ⟨.hbm, 327, rfl⟩
abbrev main_v239 : Ref sig .tc := ⟨.hbm, 328, rfl⟩
abbrev main_cst_49 : Ref sig .tc := ⟨.hbm, 329, rfl⟩
abbrev main_v240 : Ref sig .tc := ⟨.hbm, 330, rfl⟩
abbrev main_v241 : Ref sig .tc := ⟨.hbm, 331, rfl⟩
abbrev main_cst_50 : Ref sig .tc := ⟨.hbm, 332, rfl⟩
abbrev main_v242 : Ref sig .tc := ⟨.hbm, 333, rfl⟩
abbrev main_v243 : Ref sig .tc := ⟨.hbm, 334, rfl⟩
abbrev main_cst_51 : Ref sig .tc := ⟨.hbm, 335, rfl⟩
abbrev main_v244 : Ref sig .tc := ⟨.hbm, 336, rfl⟩
abbrev main_v245 : Ref sig .tc := ⟨.hbm, 337, rfl⟩
abbrev main_cst_52 : Ref sig .tc := ⟨.hbm, 338, rfl⟩
abbrev main_v246 : Ref sig .tc := ⟨.hbm, 339, rfl⟩
abbrev main_v247 : Ref sig .tc := ⟨.hbm, 340, rfl⟩
abbrev main_v248 : Ref sig .tc := ⟨.hbm, 341, rfl⟩
abbrev main_v249 : Ref sig .tc := ⟨.hbm, 342, rfl⟩
abbrev main_v250 : Ref sig .tc := ⟨.hbm, 343, rfl⟩
abbrev main_v251 : Ref sig .tc := ⟨.hbm, 344, rfl⟩
abbrev main_v252 : Ref sig .tc := ⟨.hbm, 345, rfl⟩
abbrev main_v253 : Ref sig .tc := ⟨.hbm, 346, rfl⟩
abbrev main_v254 : Ref sig .tc := ⟨.hbm, 347, rfl⟩
abbrev main_v255 : Ref sig .tc := ⟨.hbm, 348, rfl⟩
abbrev main_v256 : Ref sig .tc := ⟨.hbm, 349, rfl⟩
abbrev main_v257 : Ref sig .tc := ⟨.hbm, 350, rfl⟩
abbrev main_v258 : Ref sig .tc := ⟨.hbm, 351, rfl⟩
abbrev main_v259 : Ref sig .tc := ⟨.hbm, 352, rfl⟩
abbrev main_cst_53 : Ref sig .tc := ⟨.hbm, 353, rfl⟩
abbrev main_v260 : Ref sig .tc := ⟨.hbm, 354, rfl⟩
abbrev main_v261 : Ref sig .tc := ⟨.hbm, 355, rfl⟩
abbrev main_cst_54 : Ref sig .tc := ⟨.hbm, 356, rfl⟩
abbrev main_v262 : Ref sig .tc := ⟨.hbm, 357, rfl⟩
abbrev main_v263 : Ref sig .tc := ⟨.hbm, 358, rfl⟩
abbrev main_cst_55 : Ref sig .tc := ⟨.hbm, 359, rfl⟩
abbrev main_v264 : Ref sig .tc := ⟨.hbm, 360, rfl⟩
abbrev main_v265 : Ref sig .tc := ⟨.hbm, 361, rfl⟩
abbrev main_cst_56 : Ref sig .tc := ⟨.hbm, 362, rfl⟩
abbrev main_v266 : Ref sig .tc := ⟨.hbm, 363, rfl⟩
abbrev main_v267 : Ref sig .tc := ⟨.hbm, 364, rfl⟩
abbrev main_v268 : Ref sig .tc := ⟨.hbm, 365, rfl⟩
abbrev main_v269 : Ref sig .tc := ⟨.hbm, 366, rfl⟩
abbrev main_v270 : Ref sig .tc := ⟨.hbm, 367, rfl⟩
abbrev main_v271 : Ref sig .tc := ⟨.hbm, 368, rfl⟩
abbrev main_v272 : Ref sig .tc := ⟨.hbm, 369, rfl⟩
abbrev main_v273 : Ref sig .tc := ⟨.hbm, 370, rfl⟩
abbrev main_v274 : Ref sig .tc := ⟨.hbm, 371, rfl⟩
abbrev main_v275 : Ref sig .tc := ⟨.hbm, 372, rfl⟩
abbrev main_v276 : Ref sig .tc := ⟨.hbm, 373, rfl⟩

abbrev nD : Nat := 1
abbrev τ : Topo := Topo.v7x

variable {F : FTy → Type} [FloatOps F]
-- ==== Proof.Spec.lean ====
/- The mathematics both programs compute, over extended reals and finite index types. -/
module

public import Idealize.ShloMosaic.Lib.Pointwise
public import Idealize.ShloMosaic.Lib.ValueIdx
public import Idealize.ShloMosaic.PureOps.Ideal.Laws

@[expose] public section

noncomputable section

namespace Cert.Spec

open Idealize.ShloMosaic

/-- The one-hot weight of a label word against a number. -/
def oh (l : BitVec 32) (g : ℕ) : EReal := if l = BitVec.ofNat 32 g then 1 else 0

/-- The sum of `f` over the indices whose label is `g`. -/
def seg {ι : Type} [Fintype ι] (lab : ι → BitVec 32) (f : ι → EReal) (g : ℕ) : EReal :=
  ∑ n, oh (lab n) g * f n

/-- Column `64·p + u` of a 256-wide array: part `p` (scalar, then the three vector parts), channel `u`. -/
def col (p : Fin 4) (u : Fin 64) : Fin 256 := ⟨64 * p.val + u.val, by omega⟩

/-- Part of a column. -/
def prt (j : Fin 256) : Fin 4 := ⟨j.val / 64, by omega⟩

/-- Channel of a column. -/
def chn (j : Fin 256) : Fin 64 := ⟨j.val % 64, by omega⟩

/-- Where part `p`, channel `u` lives in the arrays as given: scalars first, then each channel's three vector parts. -/
def rcol (p : Fin 4) (u : Fin 64) : Fin 256 :=
  if p.val = 0 then ⟨u.val, by omega⟩ else ⟨64 + 3 * u.val + (p.val - 1), by omega⟩

/-- One half, as the word both programs write. -/
def half : EReal := Ideal.ofBits .f32 0x3F000000#32
/-- The weight of the vector paths, as the word both programs write. -/
def aone : EReal := Ideal.ofBits .f32 0x3F5DB3D7#32
/-- The width of the basis, as the word both programs write. -/
def width : EReal := Ideal.ofBits .f32 0x40466666#32
/-- The offset of the spherical harmonics' norm. -/
def tiny : EReal := Ideal.ofBits .f32 0x2B8CBCCC#32
/-- The offset of the normalization. -/
def epsn : EReal := Ideal.ofBits .f32 0x3727C5AC#32
/-- The channel count, as the word both programs write. -/
def c64 : EReal := Ideal.ofBits .f32 0x42800000#32
/-- The vector entries' count, as the word both programs write. -/
def c192 : EReal := Ideal.ofBits .f32 0x43400000#32

/-- The root of three, as the word both programs write. -/
def rt3 : EReal := Ideal.ofBits .f32 0x3FDDB3D7#32
/-- The root of thirty-two, as the word the reference writes. -/
def rt32 : EReal := Ideal.ofBits .f32 0x40B504F3#32
/-- One over that word's value. -/
def rt32inv : EReal := ((2097152 / 11863283 : ℝ) : EReal)
/-- One half over the value of the word for the root of three. -/
def halfrt3inv : EReal := ((4194304 / 14529495 : ℝ) : EReal)

/-- One message: the tensor product's four paths at one edge and channel, from the four weights, the source's four
    parts and the four harmonics. -/
def msg (w x s : Fin 4 → EReal) (p : Fin 4) : EReal :=
  if p.val = 0 then
    half * w 0 * x 0 * s 0
      + halfrt3inv * w 3 * (x 1 * s 1 + x 2 * s 2 + x 3 * s 3)
  else aone * w 1 * x 0 * s p + aone * w 2 * s 0 * x p

/-- The normalization of the scalar channels: centred, divided by the root of the variance, scaled and shifted. -/
def nscal (x w b : Fin 64 → EReal) (u : Fin 64) : EReal :=
  (x u - Ideal.div (∑ k, x k) c64)
      * Ideal.rsqrt (Ideal.div (∑ v, (x v - Ideal.div (∑ k, x k) c64) * (x v - Ideal.div (∑ k, x k) c64)) c64 + epsn)
      * w u + b u

/-- The normalization of the vector entries: divided by the root of the mean square, scaled. -/
def nvec (x w : Fin 192 → EReal) (j : Fin 192) : EReal :=
  x j * Ideal.rsqrt (Ideal.div (∑ k, x k * x k) c192 + epsn) * w j

/-- The normalization of one row: the 64 scalar channels, then the 192 vector entries. -/
def normrow (h : Fin 256 → EReal) (w b : Fin 64 → EReal) (wv : Fin 192 → EReal) (j : Fin 256) : EReal :=
  if hj : j.val < 64 then nscal (fun v => h ⟨v.val, by omega⟩) w b ⟨j.val, hj⟩
  else nvec (fun i => h ⟨64 + i.val, by omega⟩) wv ⟨j.val - 64, by omega⟩

/-- A distance-basis value: a Gaussian bump around the centre `c`. -/
def bump (d c : EReal) : EReal := Ideal.exp (0 - (width * (d - c)) * (width * (d - c)))

/-- One edge's message: weights from its distance basis, the source row gathered by its group number, its harmonics. -/
def edgemsg (gid : BitVec 32) (rbf : Fin 32 → EReal) (sh : Fin 4 → EReal) (fcw : Fin 32 → Fin 256 → EReal)
    (emb : Fin 512 → Fin 256 → EReal) (p : Fin 4) (u : Fin 64) : EReal :=
  msg (fun q => (∑ b, rbf b * fcw b (col q u)) * rt32inv)
    (fun q => ∑ g : Fin 512, oh gid g.val * emb g (col q u)) sh p

/-- A row times a matrix. -/
def rowMul (x : Fin 256 → EReal) (P : Fin 256 → Fin 256 → EReal) (k : Fin 256) : EReal := ∑ i, x i * P i k
/-- A delta that only the first thousand nodes receive. -/
def headDelta (n : ℕ) (d : EReal) : EReal := if n < 1000 then d else 0

/-- The sum of two extended reals. -/
def addE (x y : EReal) : EReal := x + y

/-- The product of two extended reals. -/
def mulE (x y : EReal) : EReal := x * y
/-- The column of the interleaved layout that column `j` of the blocked layout holds. -/
def perm (j : Fin 256) : Fin 256 := ⟨if j.val < 64 then j.val else 64 + ((j.val - 64) % 64) * 3 + (j.val - 64) / 64, by split <;> omega⟩

/-- Element `r` of block `t`, the blocks of a thousand laid end to end. -/
def mk (a : ℕ) (t : Fin a) (r : Fin 1000) : Fin (a * 1000) := ⟨1000 * t.val + r.val, by omega⟩
/-- The block an element lies in. -/
def hi (a : ℕ) (e : Fin (a * 1000)) : Fin a := ⟨e.val / 1000, by omega⟩
/-- An element's place in its block. -/
def lo (a : ℕ) (e : Fin (a * 1000)) : Fin 1000 := ⟨e.val % 1000, by omega⟩

/-- The block of a row put together from block and place. -/
theorem hi_mk (a : ℕ) (t : Fin a) (r : Fin 1000) : hi a (mk a t r) = t := Fin.ext (by simp only [hi, mk]; omega)
/-- The place of a row put together from block and place. -/
theorem lo_mk (a : ℕ) (t : Fin a) (r : Fin 1000) : lo a (mk a t r) = r := Fin.ext (by simp only [lo, mk]; omega)
/-- A row is put together from its block and its place in the block. -/
theorem mk_hi_lo (a : ℕ) (e : Fin (a * 1000)) : mk a (hi a e) (lo a e) = e := Fin.ext (by simp only [hi, lo, mk]; omega)

/-- The sum over one block, zero past the last. -/
def blkSum (a : ℕ) (f : Fin (a * 1000) → EReal) (t : ℕ) : EReal :=
  if h : t < a then ∑ r : Fin 1000, f (mk a ⟨t, h⟩ r) else 0

/-- Below the last block, the block sum is the sum over its rows. -/
theorem blkSum_of_lt (a : ℕ) (f : Fin (a * 1000) → EReal) (t : ℕ) (h : t < a) :
    blkSum a f t = ∑ r : Fin 1000, f (mk a ⟨t, h⟩ r) := dif_pos h

/-- The blocks' sums add up to the whole sum. -/
theorem sum_blkSum (a : ℕ) (f : Fin (a * 1000) → EReal) : ∑ t ∈ Finset.range a, blkSum a f t = ∑ e, f e := by
  rw [Finset.sum_range]
  have h : ∀ t : Fin a, blkSum a f t.val = ∑ r : Fin 1000, f (mk a t r) := fun t => dif_pos t.isLt
  simp only [h]
  rw [← Fintype.sum_prod_type', ← Equiv.sum_comp (finProdFinEquiv (m := a) (n := 1000)) f]
  refine Finset.sum_congr rfl fun x _ => congrArg f (Fin.ext ?_)
  simp only [mk, finProdFinEquiv_apply_val]
  omega

/-- The one-hot weight of a number against itself is one. -/
theorem oh_self (g : ℕ) : oh (BitVec.ofNat 32 g) g = 1 := if_pos rfl

/-- The programs' spelling of the one-hot weight: compare, widen, convert. -/
theorem sitofp_eq_oh (l : BitVec 32) (g : ℕ) :
    (FloatOps.sitofp (F := Ideal) FTy.f32 (BitVec.setWidth 32 (IntOp.cmpi CmpIPredicate.eq l (BitVec.ofNat 32 g))) : EReal) = oh l g := by
  unfold oh
  by_cases h : l = BitVec.ofNat 32 g
  · rw [if_pos h, h]
    simp [IntOp.cmpi, FloatOps.sitofp]
  · rw [if_neg h]
    have hb : (l == BitVec.ofNat 32 g) = false := by simpa using h
    simp [IntOp.cmpi, FloatOps.sitofp, hb]

end Cert.Spec

end
-- ==== Proof.Layer.lean ====
/- One layer of the network as mathematics: the geometry of the edges, the groups' means, the messages, the update. -/
module

public import proofs.«01_k».proof.Proof.Spec

@[expose] public section

noncomputable section

namespace Cert.Spec

open Idealize.ShloMosaic

/-- What both programs are given, apart from the node features: each node's group word, weight and position, each
    edge's node and group, the weights of the radial network, and the normalization's scales and shifts. -/
structure Args where
  /-- group word of a node -/
  lab : Fin 10000 → BitVec 32
  /-- weight of a node -/
  wt : Fin 10000 → EReal
  /-- position of a node -/
  pos : Fin 10000 → Fin 3 → EReal
  /-- node of an edge -/
  N : Fin 160000 → Fin 500
  /-- group of an edge -/
  G : Fin 160000 → Fin 500
  /-- weights of the radial network -/
  fcw : Fin 32 → Fin 256 → EReal
  /-- scale of a scalar channel -/
  sc : Fin 64 → EReal
  /-- scale of the vector entries -/
  vw : EReal
  /-- shift of a scalar channel -/
  bias : Fin 64 → EReal

variable (A : Args)

/-- A node of the first five hundred, as a node. -/
def big (i : Fin 500) : Fin 10000 := ⟨i.val, by omega⟩

/-- Coordinate `k` of group `g`'s weighted centre. -/
def grp (g : ℕ) (k : Fin 3) : EReal :=
  Ideal.div (seg A.lab (fun n => A.pos n k * A.wt n) g)
    (if 0 < seg A.lab A.wt g then seg A.lab A.wt g else 1)

/-- Coordinate `k` of edge `e`: from the group's centre to the node. -/
def evec (e : Fin 160000) (k : Fin 3) : EReal := A.pos (big (A.N e)) k - grp A (A.G e).val k

/-- Length of edge `e`. -/
def elen (e : Fin 160000) : EReal := Ideal.sqrt (∑ k : Fin 3, evec A e k * evec A e k)

/-- Harmonic `q` of edge `e`: one, then the unit vector's coordinates y, z, x times the root of three. -/
def shr (e : Fin 160000) (q : Fin 4) : EReal :=
  if q.val = 0 then 1
  else rt3 * evec A e ⟨q.val % 3, Nat.mod_lt _ (by decide)⟩ * Ideal.div 1 (elen A e + tiny)

/-- Distance basis `b` of edge `e`. -/
def rad (e : Fin 160000) (b : Fin 32) : EReal :=
  bump (elen A e) ((((b.val : ℝ)) : EReal) * ((10 / 31 : ℝ) : EReal))

/-- Weight `j` of edge `e`'s messages. -/
def wts (e : Fin 160000) (j : Fin 256) : EReal :=
  (∑ b, rad A e b * A.fcw b j) * rt32inv

/-- One over the number of nodes of group `g`, at least one. -/
def invc (g : ℕ) : EReal := Ideal.div 1 (max (seg A.lab (fun _ => 1) g) 1)

variable (Y : Fin 10000 → Fin 256 → EReal)

/-- Feature `j` of group `g`: the mean over its nodes. -/
def emb (g : ℕ) (j : Fin 256) : EReal := ∑ n, oh (A.lab n) g * invc A g * Y n j

/-- Edge `e`'s message, part `p` of channel `u`. -/
def out (e : Fin 160000) (p : Fin 4) (u : Fin 64) : EReal :=
  msg (fun q => wts A e (col q u)) (fun q => emb A Y (A.G e).val (col q u)) (shr A e) p

/-- What node `n` receives at column `k`: the messages of its edges. -/
def delta (n : ℕ) (k : Fin 256) : EReal :=
  ∑ e, oh (BitVec.ofNat 32 (A.N e).val) n * out A Y e (prt k) (chn k)

/-- One layer: the nodes' features plus what they receive, normalized. -/
def layer (n : Fin 10000) (j : Fin 256) : EReal :=
  normrow (fun k => Y n k + delta A Y n.val k) A.sc A.bias (fun _ => A.vw) j

/-- A one-hot row picks its entry. -/
theorem oh_ofNat {a b : ℕ} (ha : a < 2 ^ 32) (hb : b < 2 ^ 32) : oh (BitVec.ofNat 32 a) b = if a = b then 1 else 0 := by
  unfold oh
  refine if_congr ⟨fun h => ?_, fun h => h ▸ rfl⟩ rfl rfl
  have := congrArg BitVec.toNat h
  simpa only [BitVec.toNat_ofNat, Nat.mod_eq_of_lt ha, Nat.mod_eq_of_lt hb] using this

/-- A sum against a one-hot row is the row's entry. -/
theorem oh_pick (k : ℕ) (hk : k ≤ 2 ^ 32) (a : ℕ) (ha : a < k) (f : Fin k → EReal) :
    ∑ g : Fin k, oh (BitVec.ofNat 32 a) g.val * f g = f ⟨a, ha⟩ := by
  have h : ∀ g : Fin k, oh (BitVec.ofNat 32 a) g.val * f g = if g = ⟨a, ha⟩ then f g else 0 := by
    intro g
    rw [oh_ofNat (by omega) (by omega)]
    by_cases e : g = ⟨a, ha⟩
    · rw [if_pos e, if_pos (by rw [e]), one_mul]
    · rw [if_neg e, if_neg (fun h => e (Fin.ext h.symm)), zero_mul]
  simp only [h, Finset.sum_ite_eq', Finset.mem_univ, if_true]

/-- A node past the first five hundred receives nothing. -/
theorem delta_zero (n : ℕ) (k : Fin 256) (h : 500 ≤ n) (hn : n < 2 ^ 32) : delta A Y n k = 0 := by
  unfold delta
  refine Finset.sum_eq_zero fun e _ => ?_
  have := (A.N e).isLt
  rw [oh_ofNat (by omega) hn, if_neg (by omega), zero_mul]

/-- The reordering of the columns never sends two columns to one. -/
theorem perm_inj : ∀ a b : Fin 256, perm a = perm b → a = b := by decide +kernel

/-- Every column is one column reordered. -/
theorem perm_surj : ∀ a : Fin 256, ∃ b : Fin 256, perm b = a := by decide +kernel

/-- A row times the reordering matrix is the row reordered. -/
theorem sum_perm (f : Fin 256 → EReal) (j : Fin 256) : ∑ k : Fin 256, f k * (if k = perm j then 1 else 0) = f (perm j) := by
  simp only [mul_ite, mul_one, mul_zero, Finset.sum_ite_eq', Finset.mem_univ, if_true]

/-- A row times the matrix that undoes the reordering, at the place a column is sent to. -/
theorem sum_perm_back (f : Fin 256 → EReal) (j : Fin 256) :
    ∑ k : Fin 256, f k * (if perm j = perm k then 1 else 0) = f j := by
  have h : ∀ k : Fin 256, f k * (if perm j = perm k then (1 : EReal) else 0) = if k = j then f k else 0 := by
    intro k
    by_cases e : k = j
    · rw [if_pos e, if_pos (by rw [e]), mul_one]
    · rw [if_neg e, if_neg (fun h => e (perm_inj _ _ h).symm), mul_zero]
  simp only [h, Finset.sum_ite_eq', Finset.mem_univ, if_true]

/-- Part and channel name the column. -/
theorem col_prt_chn (j : Fin 256) : col (prt j) (chn j) = j := Fin.ext (by simp only [col, prt, chn]; omega)

/-- The part a column built from part and channel lies in. -/
theorem prt_col (p : Fin 4) (u : Fin 64) : prt (col p u) = p := Fin.ext (by simp only [col, prt]; omega)
/-- The channel a column built from part and channel lies in. -/
theorem chn_col (p : Fin 4) (u : Fin 64) : chn (col p u) = u := Fin.ext (by simp only [col, chn]; omega)

end Cert.Spec

end
-- ==== Proof.Carry.lean ====
/- What the later steps of the program leave unchanged: each array read again later still holds what it held. -/
module

public import proofs.«01_k».proof.Proof.Gen.KernelIdeal.Frame.Fold0

@[expose] public section
set_option maxHeartbeats 4000000
noncomputable section
namespace Cert.KernelIdeal.Val
open Cert.KernelIdeal Cert.KernelIdeal.Gen Idealize.ShloMosaic Idealize.ShloMosaic.TcCoe

variable (m : (ℓ : Loc nD τ sig) → Buf (Elt Ideal) ℓ) (ρ : Dev nD → PrngReg) (c : Dev nD)

/-- `main_v4` is unchanged between boundaries 1 and 4. -/
theorem keep_v4_1_4 : W4 m ρ c (Proc.devRef .tc main_v4) = W1 m ρ c (Proc.devRef .tc main_v4) :=
  (W4_of m ρ c main_v4 (by decide)).trans ((W3_of m ρ c main_v4 (by decide)).trans ((W2_of m ρ c main_v4 (by decide +kernel))))

/-- `main_v4` is unchanged between boundaries 4 and 12. -/
theorem keep_v4_4_12 : W12 m ρ c (Proc.devRef .tc main_v4) = W4 m ρ c (Proc.devRef .tc main_v4) :=
  (W12_of m ρ c main_v4 (by decide)).trans ((W11_of m ρ c main_v4 (by decide +kernel)).trans ((W10_of m ρ c main_v4 (by decide)).trans ((W9_of m ρ c main_v4 (by decide)).trans ((W8_of m ρ c main_v4 (by decide)).trans ((W7_of m ρ c main_v4 (by decide)).trans ((W6_of m ρ c main_v4 (by decide)).trans ((W5_of m ρ c main_v4 (by decide +kernel)))))))))

/-- `main_v4` is unchanged between boundaries 12 and 18. -/
theorem keep_v4_12_18 : W18 m ρ c (Proc.devRef .tc main_v4) = W12 m ρ c (Proc.devRef .tc main_v4) :=
  (W18_of m ρ c main_v4 (by decide)).trans ((W17_of m ρ c main_v4 (by decide +kernel)).trans ((W16_of m ρ c main_v4 (by decide +kernel)).trans ((W15_of m ρ c main_v4 (by decide)).trans ((W14_of m ρ c main_v4 (by decide)).trans ((W13_of m ρ c main_v4 (by decide +kernel)))))))

/-- `main_v5` is unchanged between boundaries 1 and 4. -/
theorem keep_v5_1_4 : W4 m ρ c (Proc.devRef .tc main_v5) = W1 m ρ c (Proc.devRef .tc main_v5) :=
  (W4_of m ρ c main_v5 (by decide)).trans ((W3_of m ρ c main_v5 (by decide)).trans ((W2_of m ρ c main_v5 (by decide +kernel))))

/-- `main_v5` is unchanged between boundaries 4 and 12. -/
theorem keep_v5_4_12 : W12 m ρ c (Proc.devRef .tc main_v5) = W4 m ρ c (Proc.devRef .tc main_v5) :=
  (W12_of m ρ c main_v5 (by decide)).trans ((W11_of m ρ c main_v5 (by decide +kernel)).trans ((W10_of m ρ c main_v5 (by decide)).trans ((W9_of m ρ c main_v5 (by decide)).trans ((W8_of m ρ c main_v5 (by decide)).trans ((W7_of m ρ c main_v5 (by decide)).trans ((W6_of m ρ c main_v5 (by decide)).trans ((W5_of m ρ c main_v5 (by decide +kernel)))))))))

/-- `main_v5` is unchanged between boundaries 12 and 18. -/
theorem keep_v5_12_18 : W18 m ρ c (Proc.devRef .tc main_v5) = W12 m ρ c (Proc.devRef .tc main_v5) :=
  (W18_of m ρ c main_v5 (by decide)).trans ((W17_of m ρ c main_v5 (by decide +kernel)).trans ((W16_of m ρ c main_v5 (by decide +kernel)).trans ((W15_of m ρ c main_v5 (by decide)).trans ((W14_of m ρ c main_v5 (by decide)).trans ((W13_of m ρ c main_v5 (by decide +kernel)))))))

/-- `main_v6` is unchanged between boundaries 1 and 10. -/
theorem keep_v6_1_10 : W10 m ρ c (Proc.devRef .tc main_v6) = W1 m ρ c (Proc.devRef .tc main_v6) :=
  (W10_of m ρ c main_v6 (by decide)).trans ((W9_of m ρ c main_v6 (by decide)).trans ((W8_of m ρ c main_v6 (by decide)).trans ((W7_of m ρ c main_v6 (by decide)).trans ((W6_of m ρ c main_v6 (by decide)).trans ((W5_of m ρ c main_v6 (by decide +kernel)).trans ((W4_of m ρ c main_v6 (by decide)).trans ((W3_of m ρ c main_v6 (by decide)).trans ((W2_of m ρ c main_v6 (by decide +kernel))))))))))

/-- `main_v6` is unchanged between boundaries 10 and 16. -/
theorem keep_v6_10_16 : W16 m ρ c (Proc.devRef .tc main_v6) = W10 m ρ c (Proc.devRef .tc main_v6) :=
  (W16_of m ρ c main_v6 (by decide +kernel)).trans ((W15_of m ρ c main_v6 (by decide)).trans ((W14_of m ρ c main_v6 (by decide)).trans ((W13_of m ρ c main_v6 (by decide +kernel)).trans ((W12_of m ρ c main_v6 (by decide)).trans ((W11_of m ρ c main_v6 (by decide +kernel)))))))

/-- `main_v13_0` is unchanged between boundaries 2 and 4. -/
theorem keep_v13_0_2_4 : W4 m ρ c (Proc.devRef .tc main_v13_0) = W2 m ρ c (Proc.devRef .tc main_v13_0) :=
  (W4_of m ρ c main_v13_0 (by decide)).trans ((W3_of m ρ c main_v13_0 (by decide)))

/-- `main_v13_1` is unchanged between boundaries 2 and 10. -/
theorem keep_v13_1_2_10 : W10 m ρ c (Proc.devRef .tc main_v13_1) = W2 m ρ c (Proc.devRef .tc main_v13_1) :=
  (W10_of m ρ c main_v13_1 (by decide)).trans ((W9_of m ρ c main_v13_1 (by decide)).trans ((W8_of m ρ c main_v13_1 (by decide)).trans ((W7_of m ρ c main_v13_1 (by decide)).trans ((W6_of m ρ c main_v13_1 (by decide)).trans ((W5_of m ρ c main_v13_1 (by decide +kernel)).trans ((W4_of m ρ c main_v13_1 (by decide)).trans ((W3_of m ρ c main_v13_1 (by decide)))))))))

/-- `main_v13_1` is unchanged between boundaries 10 and 16. -/
theorem keep_v13_1_10_16 : W16 m ρ c (Proc.devRef .tc main_v13_1) = W10 m ρ c (Proc.devRef .tc main_v13_1) :=
  (W16_of m ρ c main_v13_1 (by decide +kernel)).trans ((W15_of m ρ c main_v13_1 (by decide)).trans ((W14_of m ρ c main_v13_1 (by decide)).trans ((W13_of m ρ c main_v13_1 (by decide +kernel)).trans ((W12_of m ρ c main_v13_1 (by decide)).trans ((W11_of m ρ c main_v13_1 (by decide +kernel)))))))

/-- `main_v51` is unchanged between boundaries 10 and 15. -/
theorem keep_v51_10_15 : W15 m ρ c (Proc.devRef .tc main_v51) = W10 m ρ c (Proc.devRef .tc main_v51) :=
  (W15_of m ρ c main_v51 (by decide)).trans ((W14_of m ρ c main_v51 (by decide)).trans ((W13_of m ρ c main_v51 (by decide +kernel)).trans ((W12_of m ρ c main_v51 (by decide)).trans ((W11_of m ρ c main_v51 (by decide +kernel))))))

/-- `main_v52` is unchanged between boundaries 10 and 21. -/
theorem keep_v52_10_21 : W21 m ρ c (Proc.devRef .tc main_v52) = W10 m ρ c (Proc.devRef .tc main_v52) :=
  (W21_of m ρ c main_v52 (by decide)).trans ((W20_of m ρ c main_v52 (by decide)).trans ((W19_of m ρ c main_v52 (by decide +kernel)).trans ((W18_of m ρ c main_v52 (by decide)).trans ((W17_of m ρ c main_v52 (by decide +kernel)).trans ((W16_of m ρ c main_v52 (by decide +kernel)).trans ((W15_of m ρ c main_v52 (by decide)).trans ((W14_of m ρ c main_v52 (by decide)).trans ((W13_of m ρ c main_v52 (by decide +kernel)).trans ((W12_of m ρ c main_v52 (by decide)).trans ((W11_of m ρ c main_v52 (by decide +kernel))))))))))))

/-- `main_v18_0` is unchanged between boundaries 5 and 12. -/
theorem keep_v18_0_5_12 : W12 m ρ c (Proc.devRef .tc main_v18_0) = W5 m ρ c (Proc.devRef .tc main_v18_0) :=
  (W12_of m ρ c main_v18_0 (by decide)).trans ((W11_of m ρ c main_v18_0 (by decide +kernel)).trans ((W10_of m ρ c main_v18_0 (by decide)).trans ((W9_of m ρ c main_v18_0 (by decide)).trans ((W8_of m ρ c main_v18_0 (by decide)).trans ((W7_of m ρ c main_v18_0 (by decide)).trans ((W6_of m ρ c main_v18_0 (by decide))))))))

/-- `main_v18_0` is unchanged between boundaries 12 and 18. -/
theorem keep_v18_0_12_18 : W18 m ρ c (Proc.devRef .tc main_v18_0) = W12 m ρ c (Proc.devRef .tc main_v18_0) :=
  (W18_of m ρ c main_v18_0 (by decide)).trans ((W17_of m ρ c main_v18_0 (by decide +kernel)).trans ((W16_of m ρ c main_v18_0 (by decide +kernel)).trans ((W15_of m ρ c main_v18_0 (by decide)).trans ((W14_of m ρ c main_v18_0 (by decide)).trans ((W13_of m ρ c main_v18_0 (by decide +kernel)))))))

/-- `main_v18_1` is unchanged between boundaries 5 and 12. -/
theorem keep_v18_1_5_12 : W12 m ρ c (Proc.devRef .tc main_v18_1) = W5 m ρ c (Proc.devRef .tc main_v18_1) :=
  (W12_of m ρ c main_v18_1 (by decide)).trans ((W11_of m ρ c main_v18_1 (by decide +kernel)).trans ((W10_of m ρ c main_v18_1 (by decide)).trans ((W9_of m ρ c main_v18_1 (by decide)).trans ((W8_of m ρ c main_v18_1 (by decide)).trans ((W7_of m ρ c main_v18_1 (by decide)).trans ((W6_of m ρ c main_v18_1 (by decide))))))))

/-- `main_v18_1` is unchanged between boundaries 12 and 18. -/
theorem keep_v18_1_12_18 : W18 m ρ c (Proc.devRef .tc main_v18_1) = W12 m ρ c (Proc.devRef .tc main_v18_1) :=
  (W18_of m ρ c main_v18_1 (by decide)).trans ((W17_of m ρ c main_v18_1 (by decide +kernel)).trans ((W16_of m ρ c main_v18_1 (by decide +kernel)).trans ((W15_of m ρ c main_v18_1 (by decide)).trans ((W14_of m ρ c main_v18_1 (by decide)).trans ((W13_of m ρ c main_v18_1 (by decide +kernel)))))))

/-- `main_v21` is unchanged between boundaries 6 and 15. -/
theorem keep_v21_6_15 : W15 m ρ c (Proc.devRef .tc main_v21) = W6 m ρ c (Proc.devRef .tc main_v21) :=
  (W15_of m ρ c main_v21 (by decide)).trans ((W14_of m ρ c main_v21 (by decide)).trans ((W13_of m ρ c main_v21 (by decide +kernel)).trans ((W12_of m ρ c main_v21 (by decide)).trans ((W11_of m ρ c main_v21 (by decide +kernel)).trans ((W10_of m ρ c main_v21 (by decide)).trans ((W9_of m ρ c main_v21 (by decide)).trans ((W8_of m ρ c main_v21 (by decide)).trans ((W7_of m ρ c main_v21 (by decide))))))))))

/-- `main_v21` is unchanged between boundaries 15 and 21. -/
theorem keep_v21_15_21 : W21 m ρ c (Proc.devRef .tc main_v21) = W15 m ρ c (Proc.devRef .tc main_v21) :=
  (W21_of m ρ c main_v21 (by decide)).trans ((W20_of m ρ c main_v21 (by decide)).trans ((W19_of m ρ c main_v21 (by decide +kernel)).trans ((W18_of m ρ c main_v21 (by decide)).trans ((W17_of m ρ c main_v21 (by decide +kernel)).trans ((W16_of m ρ c main_v21 (by decide +kernel)))))))

/-- `main_v22` is unchanged between boundaries 6 and 15. -/
theorem keep_v22_6_15 : W15 m ρ c (Proc.devRef .tc main_v22) = W6 m ρ c (Proc.devRef .tc main_v22) :=
  (W15_of m ρ c main_v22 (by decide)).trans ((W14_of m ρ c main_v22 (by decide)).trans ((W13_of m ρ c main_v22 (by decide +kernel)).trans ((W12_of m ρ c main_v22 (by decide)).trans ((W11_of m ρ c main_v22 (by decide +kernel)).trans ((W10_of m ρ c main_v22 (by decide)).trans ((W9_of m ρ c main_v22 (by decide)).trans ((W8_of m ρ c main_v22 (by decide)).trans ((W7_of m ρ c main_v22 (by decide))))))))))

/-- `main_v22` is unchanged between boundaries 15 and 21. -/
theorem keep_v22_15_21 : W21 m ρ c (Proc.devRef .tc main_v22) = W15 m ρ c (Proc.devRef .tc main_v22) :=
  (W21_of m ρ c main_v22 (by decide)).trans ((W20_of m ρ c main_v22 (by decide)).trans ((W19_of m ρ c main_v22 (by decide +kernel)).trans ((W18_of m ρ c main_v22 (by decide)).trans ((W17_of m ρ c main_v22 (by decide +kernel)).trans ((W16_of m ρ c main_v22 (by decide +kernel)))))))

/-- `main_v28` is unchanged between boundaries 6 and 15. -/
theorem keep_v28_6_15 : W15 m ρ c (Proc.devRef .tc main_v28) = W6 m ρ c (Proc.devRef .tc main_v28) :=
  (W15_of m ρ c main_v28 (by decide)).trans ((W14_of m ρ c main_v28 (by decide)).trans ((W13_of m ρ c main_v28 (by decide +kernel)).trans ((W12_of m ρ c main_v28 (by decide)).trans ((W11_of m ρ c main_v28 (by decide +kernel)).trans ((W10_of m ρ c main_v28 (by decide)).trans ((W9_of m ρ c main_v28 (by decide)).trans ((W8_of m ρ c main_v28 (by decide)).trans ((W7_of m ρ c main_v28 (by decide))))))))))

/-- `main_v28` is unchanged between boundaries 15 and 21. -/
theorem keep_v28_15_21 : W21 m ρ c (Proc.devRef .tc main_v28) = W15 m ρ c (Proc.devRef .tc main_v28) :=
  (W21_of m ρ c main_v28 (by decide)).trans ((W20_of m ρ c main_v28 (by decide)).trans ((W19_of m ρ c main_v28 (by decide +kernel)).trans ((W18_of m ρ c main_v28 (by decide)).trans ((W17_of m ρ c main_v28 (by decide +kernel)).trans ((W16_of m ρ c main_v28 (by decide +kernel)))))))

/-- `main_v57` is unchanged between boundaries 16 and 21. -/
theorem keep_v57_16_21 : W21 m ρ c (Proc.devRef .tc main_v57) = W16 m ρ c (Proc.devRef .tc main_v57) :=
  (W21_of m ρ c main_v57 (by decide)).trans ((W20_of m ρ c main_v57 (by decide)).trans ((W19_of m ρ c main_v57 (by decide +kernel)).trans ((W18_of m ρ c main_v57 (by decide)).trans ((W17_of m ρ c main_v57 (by decide +kernel))))))

end Cert.KernelIdeal.Val
end
-- ==== Proof.Host.lean ====
/- What the host operations between the pallas calls leave in the buffers the calls read. -/
module

public import proofs.«01_k».proof.Proof.Gen.KernelIdeal.Frame.Fold0
public import Idealize.ShloMosaic.Lib.StableHlo.ReadAt
public import Idealize.ShloMosaic.Lib.Pointwise
public import proofs.«01_k».proof.Proof.Spec

@[expose] public section
set_option maxHeartbeats 4000000
noncomputable section
namespace Cert.KernelIdeal.Val
open Cert.KernelIdeal Cert.KernelIdeal.Gen Idealize.ShloMosaic Idealize.ShloMosaic.TcCoe Cert.Spec Idealize.ShloMosaic.Pointwise Idealize.ShloMosaic.StableHlo

variable (U : Valuation τ sig (Elt Ideal))

/-- The word zero converts to zero. -/
theorem sitofp_zero : (FloatOps.sitofp (F := Ideal) FTy.f32 0#32 : EReal) = 0 := by
  show (((0#32 : BitVec 32).toInt : ℝ) : EReal) = 0
  norm_num

/-- The edges' node numbers, in blocks. -/
theorem h0_v4 (s : Fin 160) (r : Fin 1000) : (after hostOps0 U (Proc.devRef .tc main_v4) : Vec Ideal S160x1x1000 .i32) (ix3 s 0 r) = (U (Proc.devRef .tc main_arg3) : Vec Ideal S2x160000 .i32) (ix2 0 (mk 160 s r)) := by
  after_reads_at
  exact congrArg (U _) (congrArg _ (Fin.ext (by show s.val * 1000 + r.val = 1000 * s.val + r.val; omega)))
/-- The edges' group numbers, in blocks. -/
theorem h0_v5 (s : Fin 160) (r : Fin 1000) : (after hostOps0 U (Proc.devRef .tc main_v5) : Vec Ideal S160x1x1000 .i32) (ix3 s 0 r) = (U (Proc.devRef .tc main_arg3) : Vec Ideal S2x160000 .i32) (ix2 1 (mk 160 s r)) := by
  after_reads_at
  exact congrArg (U _) (congrArg _ (Fin.ext (by show s.val * 1000 + r.val = 1000 * s.val + r.val; omega)))
/-- The nodes' labels, in blocks. -/
theorem h0_v6 (s : Fin 10) (r : Fin 1000) : (after hostOps0 U (Proc.devRef .tc main_v6) : Vec Ideal S10x1x1000 .i32) (ix3 s 0 r) = (U (Proc.devRef .tc main_arg1) : Vec Ideal S10000 .i32) (ix1 (mk 10 s r)) := by
  after_reads_at
  exact congrArg (U _) (congrArg _ (Fin.ext (by show s.val * 1000 + r.val = 1000 * s.val + r.val; omega)))
/-- The nodes' labels, in blocks. -/
theorem h0_v12 (s : Fin 10) (r : Fin 1000) : (after hostOps0 U (Proc.devRef .tc main_v12) : Vec Ideal S10x1x1000 .i32) (ix3 s 0 r) = (U (Proc.devRef .tc main_arg1) : Vec Ideal S10000 .i32) (ix1 (mk 10 s r)) := by
  after_reads_at
  exact congrArg (U _) (congrArg _ (Fin.ext (by show s.val * 1000 + r.val = 1000 * s.val + r.val; omega)))

/-- The grouping features: weighted position. -/
theorem h0_v11_pos (n : Fin 10000) (k : Fin 3) : @Eq EReal ((after hostOps0 U (Proc.devRef .tc main_v11) : Vec Ideal S10000x8 .f32) (ix2 n ⟨k.val, by omega⟩))
    (mulE ((U (Proc.devRef .tc main_arg0) : Vec Ideal S10000x3 .f32) (ix2 n k)) ((U (Proc.devRef .tc main_arg2) : Vec Ideal S10000x1 .f32) (ix2 n 0))) := by
  after_reads_at
  after_reads_at
  rfl
/-- The grouping features: the weight. -/
theorem h0_v11_at (n : Fin 10000) : @Eq EReal ((after hostOps0 U (Proc.devRef .tc main_v11) : Vec Ideal S10000x8 .f32) (ix2 n 3))
    ((U (Proc.devRef .tc main_arg2) : Vec Ideal S10000x1 .f32) (ix2 n 0)) := by
  after_reads_at
/-- The grouping features: one. -/
theorem h0_v11_one (n : Fin 10000) : @Eq EReal ((after hostOps0 U (Proc.devRef .tc main_v11) : Vec Ideal S10000x8 .f32) (ix2 n 4)) 1 := by
  after_reads_at
  after_reads_at

/-- The first five hundred positions, padded with zeros. -/
theorem h1_v17 (n : Fin 512) (k : Fin 8) : @Eq EReal ((after hostOps1_1 (after hostOps1 U) (Proc.devRef .tc main_v17) : Vec Ideal S512x8 .f32) (ix2 n k))
    (if h : n.val < 500 then if h1 : k.val < 3 then (U (Proc.devRef .tc main_arg0) : Vec Ideal S10000x3 .f32) (ix2 ⟨n.val, by omega⟩ ⟨k.val, h1⟩) else 0 else 0) := by
  after_reads_at
  by_cases h : n.val < 500
  · rw [dif_pos h, dif_pos h]
    by_cases h1 : k.val < 3
    · rw [dif_pos h1, dif_pos h1]
      after_reads_at
    · rw [dif_neg h1, dif_neg h1]
      after_reads_at
  · rw [dif_neg h, dif_neg h]
    exact sitofp_zero

/-- The scalar weights. -/
theorem h2_v21 (v : Fin 64) : @Eq EReal ((after hostOps2 U (Proc.devRef .tc main_v21) : Vec Ideal S1x64 .f32) (ix2 0 v)) ((U (Proc.devRef .tc main_arg6) : Vec Ideal S2x64 .f32) (ix2 0 v)) := by
  after_reads_at
/-- The bias. -/
theorem h2_v22 (v : Fin 64) : @Eq EReal ((after hostOps2 U (Proc.devRef .tc main_v22) : Vec Ideal S1x64 .f32) (ix2 0 v)) ((U (Proc.devRef .tc main_arg7) : Vec Ideal S64 .f32) (ix1 v)) := by
  after_reads_at
/-- The vector weights, three times over. -/
theorem h2_v28 (v : Fin 192) : @Eq EReal ((after hostOps2 U (Proc.devRef .tc main_v28) : Vec Ideal S1x192 .f32) (ix2 0 v)) ((U (Proc.devRef .tc main_arg6) : Vec Ideal S2x64 .f32) (ix2 1 ⟨v.val % 64, by omega⟩)) := by
  after_reads_at

/-- The narrowed group rows. -/
theorem h3_v54 (g : Fin 512) (j : Fin 256) : @Eq EReal ((after hostOps3 U (Proc.devRef .tc main_v54) : Vec Ideal S512x256 .bf16) (ix2 g j)) ((U (Proc.devRef .tc main_v53) : Vec Ideal S512x256 .f32) (ix2 g j)) := by
  after_reads_at
/-- The narrowed group rows. -/
theorem h6_v59 (g : Fin 512) (j : Fin 256) : @Eq EReal ((after hostOps6 U (Proc.devRef .tc main_v59) : Vec Ideal S512x256 .bf16) (ix2 g j)) ((U (Proc.devRef .tc main_v58) : Vec Ideal S512x256 .f32) (ix2 g j)) := by
  after_reads_at
/-- The padded delta. -/
theorem h4_v56 (n : Fin 1000) (j : Fin 256) : @Eq EReal ((after hostOps4_1 (after hostOps4 U) (Proc.devRef .tc main_v56) : Vec Ideal S1000x256 .f32) (ix2 n j))
    (if h : n.val < 512 then (U (Proc.devRef .tc main_v55) : Vec Ideal S512x256 .f32) (ix2 ⟨n.val, h⟩ j) else 0) := by
  after_reads_at
  by_cases h : n.val < 512
  · rw [dif_pos h, dif_pos h]
  · rw [dif_neg h, dif_neg h]
    exact sitofp_zero
/-- The padded delta. -/
theorem h7_v61 (n : Fin 1000) (j : Fin 256) : @Eq EReal ((after hostOps7_1 (after hostOps7 U) (Proc.devRef .tc main_v61) : Vec Ideal S1000x256 .f32) (ix2 n j))
    (if h : n.val < 512 then (U (Proc.devRef .tc main_v60) : Vec Ideal S512x256 .f32) (ix2 ⟨n.val, h⟩ j) else 0) := by
  after_reads_at
  by_cases h : n.val < 512
  · rw [dif_pos h, dif_pos h]
  · rw [dif_neg h, dif_neg h]
    exact sitofp_zero

end Cert.KernelIdeal.Val

end
-- ==== Proof.Pay.lean ====
/- What the other stages' operations compute, entry by entry. -/
module

public import proofs.«01_k».proof.Proof.Gen.KernelIdeal.Skeleton
public import proofs.«01_k».proof.Proof.Spec

@[expose] public section
set_option maxHeartbeats 4000000
noncomputable section
namespace Cert.KernelIdeal.Val
open Idealize.ShloMosaic Cert.KernelIdeal.Gen Cert.Spec Idealize.ShloMosaic.Pointwise

/-- The named constant of the basis centres is ten thirty-firsts. -/
theorem named_mu_step : (Named.named κ "mu_step" 0x3EA5294A#32 : Ideal .f32) = ((10 / 31 : ℝ) : EReal) :=
  IdealRules.named_const.ideal_named_scalar _ _ _ _ rfl

/-- One block's update of the per-group sums. -/
theorem k0_pay3_apply (v3 : Vec Ideal S1x1x1000 .i32) (v11 : Vec Ideal S1000x8 .f32) (v13 : Vec Ideal S512x8 .f32) (g : Fin 512) (k : Fin 8) :
    k0_pay3 v3 v11 v13 (ix2 g k) = v13 (ix2 g k) + ∑ r : Fin 1000, oh (v3 (ix3 0 0 r)) g.val * v11 (ix2 r k) := by
  pointwise [k0_pay3]
  simp only [sitofp_eq_oh]

/-- The group means, with a zero total taken as one and the columns past the third zero. -/
theorem k0_pay5_apply (v21 : Vec Ideal S512x8 .f32) (g : Fin 512) (k : Fin 8) :
    k0_pay5 v21 (ix2 g k) = if k.val < 3 then Ideal.div (v21 (ix2 g k)) (if 0 < v21 (ix2 g 3) then v21 (ix2 g 3) else 1) else 0 := by
  pointwise [k0_pay5, k0_pay4]
  have hk := k.isLt
  by_cases h : k.val < 3
  · rw [dif_pos h, if_pos h]
    have : IntOp.cmpi CmpIPredicate.slt (BitVec.ofNat 32 k.val) 3#32 = 1#1 := by
      have : k = 0 ∨ k = 1 ∨ k = 2 := by
        rcases k with ⟨k, hk⟩
        simp only [Fin.ext_iff]
        simp at h ⊢
        omega
      rcases this with rfl | rfl | rfl <;> rfl
    rw [this]; rfl
  · rw [dif_neg h, if_neg h]
    have : IntOp.cmpi CmpIPredicate.slt (BitVec.ofNat 32 k.val) 3#32 = 0#1 := by
      revert k
      decide
    rw [this]; rfl

/-- The reciprocals of the group sizes, at least one. -/
theorem k0_pay6_apply (v21 : Vec Ideal S512x8 .f32) (g : Fin 512) :
    k0_pay6 v21 (ix2 0 g) = Ideal.div 1 (max (v21 (ix2 g 4)) 1) := by
  pointwise [k0_pay6, k0_pay4]

/-- The edge vectors: the source position less the group position. -/
theorem k1_pay2_apply (v0 v2 : Vec Ideal S1x1x1000 .i32) (v16 v19 : Vec Ideal S512x8 .f32) (i : Fin 1000) (k : Fin 8) :
    k1_pay2 v0 v2 v16 v19 (ix2 i k) = (∑ g : Fin 512, oh (v0 (ix3 0 0 i)) g.val * v16 (ix2 g k)) - ∑ g : Fin 512, oh (v2 (ix3 0 0 i)) g.val * v19 (ix2 g k) := by
  pointwise [k1_pay2]
  simp only [sitofp_eq_oh]

/-- The edge lengths. -/
theorem k1_pay3_apply (v0 v2 : Vec Ideal S1x1x1000 .i32) (v16 v19 : Vec Ideal S512x8 .f32) (i : Fin 1000) (k : Fin 1) :
    k1_pay3 v0 v2 v16 v19 (ix2 i k) = Ideal.sqrt (∑ k : Fin 8, k1_pay2 v0 v2 v16 v19 (ix2 i k) * k1_pay2 v0 v2 v16 v19 (ix2 i k)) := by
  pointwise [k1_pay3]

/-- The distance basis. -/
theorem k1_pay4_apply (v0 v2 : Vec Ideal S1x1x1000 .i32) (v16 v19 : Vec Ideal S512x8 .f32) (i : Fin 1000) (b : Fin 32) :
    k1_pay4 v0 v2 v16 v19 (ix2 i b) = bump (k1_pay3 v0 v2 v16 v19 (ix2 i 0)) (((b.val : ℝ) : EReal) * ((10 / 31 : ℝ) : EReal)) := by
  pointwise [k1_pay4]
  rw [named_mu_step, show (FloatOps.sitofp (F := Ideal) FTy.f32 (BitVec.ofNat 32 b.val) : EReal) = ((b.val : ℝ) : EReal) from ?_]
  · rfl
  · have hb := b.isLt
    show (((BitVec.ofNat 32 b.val).toInt : ℝ) : EReal) = _
    rw [BitVec.toInt_eq_toNat_of_lt (by rw [BitVec.toNat_ofNat]; omega), BitVec.toNat_ofNat, Nat.mod_eq_of_lt (by omega)]
    simp

/-- The harmonics: one, then the unit vector scaled, its parts in the order y, z, x. -/
theorem k1_pay1_apply (v22 : FVec Ideal S1000x8 .f32) (v26 : FVec Ideal S1000x1 .f32) (i : Fin 1000) (q : Fin 4) :
    k1_pay1 v22 v26 (ix2 i q) = if q.val = 0 then 1 else
      rt3 * v22 (ix2 i ⟨q.val % 3, by omega⟩) * Ideal.div 1 (v26 (ix2 i 0) + tiny) := by
  pointwise [k1_pay1]
  fin_cases q
  · rfl
  · rfl
  · rfl
  · rfl

/-- One block's update of the group embedding. -/
theorem k2_pay2_apply (v3 : Vec Ideal S1x1x1000 .i32) (v11 : Vec Ideal S1x512 .f32) (v15 : Vec Ideal S512x256 .f32) (v17 : Vec Ideal S1000x256 .f32) (g : Fin 512) (j : Fin 256) :
    k2_pay2 v3 v11 v15 v17 (ix2 g j) = v15 (ix2 g j) + ∑ r : Fin 1000, oh (v3 (ix3 0 0 r)) g.val * v11 (ix2 0 g) * v17 (ix2 r j) := by
  pointwise [k2_pay2]
  simp only [sitofp_eq_oh]

/-- The columns put in the order of the parts. -/
theorem k2_pay3_apply (v24 : Vec Ideal S512x256 .f32) (v26 : Vec Ideal S256x256 .f32) (g : Fin 512) (j : Fin 256) :
    k2_pay3 v24 v26 (ix2 g j) = ∑ k : Fin 256, v24 (ix2 g k) * v26 (ix2 k j) := by
  pointwise [k2_pay3]

/-- One block's update of the second group embedding. -/
theorem k5_pay2_apply (v3 : Vec Ideal S1x1x1000 .i32) (v11 : Vec Ideal S1x512 .f32) (v15 : Vec Ideal S512x256 .f32) (v17 : Vec Ideal S1000x256 .f32) (g : Fin 512) (j : Fin 256) :
    k5_pay2 v3 v11 v15 v17 (ix2 g j) = v15 (ix2 g j) + ∑ r : Fin 1000, oh (v3 (ix3 0 0 r)) g.val * v11 (ix2 0 g) * v17 (ix2 r j) := by
  pointwise [k5_pay2]
  simp only [sitofp_eq_oh]

/-- The first block of rows receives the messages; the others pass through. -/
theorem k4_pay2_apply (i : grid4.Coords) (v0 : Vec Ideal S1000x256 .f32) (v1 : Vec Ideal S256x256 .f32) (v5 : Vec Ideal S1000x256 .f32) (r : Fin 1000) (j : Fin 256) :
    k4_pay2 i v0 v1 v5 (ix2 r j) = (∑ k : Fin 256, v0 (ix2 r k) * v1 (ix2 k j)) + (if (i 0).val = 0 then v5 (ix2 r j) else 0) := by
  pointwise [k4_pay2]
  by_cases h : (i 0).val = 0
  · rw [if_pos h, h]; rfl
  · rw [if_neg h]
    have hb : (BitVec.ofNat 32 (i 0).val == 0#32) = false := by
      have hlt : (i 0).val < 10 := (i 0).isLt
      rw [beq_eq_false_iff_ne]
      intro he
      have := congrArg BitVec.toNat he
      rw [BitVec.toNat_ofNat] at this
      simp at this
      omega
    simp [Scalar.select, Scalar.cmpi, IntOp.cmpi, hb]

/-- The first block of rows receives the second messages; the others pass through. -/
theorem k7_pay2_apply (i : grid7.Coords) (v0 v5 : Vec Ideal S1000x256 .f32) (r : Fin 1000) (j : Fin 256) :
    k7_pay2 i v0 v5 (ix2 r j) = v0 (ix2 r j) + (if (i 0).val = 0 then v5 (ix2 r j) else 0) := by
  pointwise [k7_pay2]
  by_cases h : (i 0).val = 0
  · rw [if_pos h, h]; rfl
  · rw [if_neg h]
    have hb : (BitVec.ofNat 32 (i 0).val == 0#32) = false := by
      have hlt : (i 0).val < 10 := (i 0).isLt
      rw [beq_eq_false_iff_ne]
      intro he
      have := congrArg BitVec.toNat he
      rw [BitVec.toNat_ofNat] at this
      simp at this
      omega
    simp [Scalar.select, Scalar.cmpi, IntOp.cmpi, hb]

/-- One block of the first normalization, row by row. -/
theorem k4_row_apply (i : grid4.Coords) (v0 : Vec Ideal S1000x256 .f32) (v1 : Vec Ideal S256x256 .f32) (v5 : Vec Ideal S1000x256 .f32) (w b : Vec Ideal S1x64 .f32) (wv : Vec Ideal S1x192 .f32) (r : Fin 1000) (j : Fin 256) :
    k4_pay1 (k4_pay3 i v0 v1 v5 w b) (k4_pay4 i v0 v1 v5) (k4_pay5 i v0 v1 v5) (Scalar.ofBits .f32 0x43400000#32) wv (ix2 r j)
      = normrow (fun k => k4_pay2 i v0 v1 v5 (ix2 r k)) (fun v => w (ix2 0 v)) (fun v => b (ix2 0 v)) (fun v => wv (ix2 0 v)) j := by
  pointwise [k4_pay1, k4_pay3, k4_pay4, k4_pay5]
  rfl

/-- One block of the second normalization, row by row, its columns put back in the given order. -/
theorem k7_row_apply (i : grid7.Coords) (v0 v5 : Vec Ideal S1000x256 .f32) (w b : Vec Ideal S1x64 .f32) (wv : Vec Ideal S1x192 .f32) (Pt : Vec Ideal S256x256 .f32) (r : Fin 1000) (j : Fin 256) :
    k7_pay1 (k7_pay3 i v0 v5 w b) (k7_pay4 i v0 v5) (k7_pay5 i v0 v5) wv Pt (ix2 r j)
      = ∑ k : Fin 256, normrow (fun k => k7_pay2 i v0 v5 (ix2 r k)) (fun v => w (ix2 0 v)) (fun v => b (ix2 0 v)) (fun v => wv (ix2 0 v)) k * Pt (ix2 k j) := by
  pointwise [k7_pay1, k7_pay3, k7_pay4, k7_pay5]
  refine Eq.trans ?_ (Fin.sum_univ_add (a := 64) (b := 192) (fun k : Fin 256 => normrow (fun k => k7_pay2 i v0 v5 (ix2 r k)) (fun v => w (ix2 0 v)) (fun v => b (ix2 0 v)) (fun v => wv (ix2 0 v)) k * Pt (ix2 k j))).symm
  refine congrArg₂ (· + ·) (Finset.sum_congr rfl fun x _ => ?_) (Finset.sum_congr rfl fun x _ => ?_)
  · unfold normrow
    rw [dif_pos (show (Fin.castAdd 192 x).val < 64 from x.isLt)]
    rfl
  · unfold normrow
    have hx : (Fin.natAdd 64 x).val = 64 + x.val := rfl
    rw [dif_neg (by omega), show (⟨(Fin.natAdd 64 x).val - 64, by omega⟩ : Fin 192) = x from Fin.ext (by simp)]
    rfl

end Cert.KernelIdeal.Val

end
-- ==== Proof.Blk0.lean ====
/- Region 0 of the kernel: each input block as the rows of its array, and what the accumulated outputs hold after each
   point as terms of the blocks. -/
module

public import proofs.«01_k».proof.Proof.Gen.KernelIdeal.Frame.Region0
public import Idealize.ShloMosaic.Lib.Pipeline.Value
public import Idealize.ShloMosaic.Lib.Pointwise

@[expose] public section

noncomputable section

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.Pointwise

section
variable {F : FTy → Type} [FloatOps F] [Named F]
variable (V : (c : Dev nD) → (b : Ref sig .tc) → Buf (Elt F) ((c : Thread nD τ).loc b))

/-- Where input window 0 stands at each grid point. -/
theorem idx0_0 : ∀ t : Fin cfg0.N, win0_0.index t (0 : Fin 3) = t.val ∧ win0_0.index t (1 : Fin 3) = 0 ∧ win0_0.index t (2 : Fin 3) = 0 :=
  (by decide +kernel : ∀ t : Fin grid0.N, _)

/-- Window 0's block at point `t` is the array's block `t`. -/
theorem rd0_0 (c : Dev nD) (t : Fin cfg0.N) (r : Fin 1000) (s : Fin 10) (hs : s.val = t.val) :
    (iblk0 V c 0 t : Vec F S1x1x1000 .i32) (ix3 0 0 r) = (V c main_v12 : Vec F S10x1x1000 .i32) (ix3 s 0 r) := by
  obtain ⟨h0, h1, h2⟩ := idx0_0 t
  show V c main_v12 (((cfg0.win 0).blk t).view.emb (ix3 0 0 r)) = V c main_v12 (ix3 s 0 r)
  refine congrArg (V c main_v12) ?_
  funext a; apply Fin.ext
  match a with
  | ⟨0, _⟩ => show win0_0.index t (0 : Fin 3) * 1 + 1 * 0 = s.val; omega
  | ⟨1, _⟩ => show win0_0.index t (1 : Fin 3) * 1 + 1 * 0 = 0; omega
  | ⟨2, _⟩ => show win0_0.index t (2 : Fin 3) * 1000 + 1 * r.val = r.val; omega

/-- Where input window 1 stands at each grid point. -/
theorem idx0_1 : ∀ t : Fin cfg0.N, win0_1.index t (0 : Fin 2) = t.val ∧ win0_1.index t (1 : Fin 2) = 0 :=
  (by decide +kernel : ∀ t : Fin grid0.N, _)

/-- Window 1's block at point `t` is the array's rows `1000·t …`. -/
theorem rd0_1 (c : Dev nD) (t : Fin cfg0.N) (r : Fin 1000) (j : Fin 8) (e : Fin 10000) (he : e.val = 1000 * t.val + r.val) :
    (iblk0 V c 1 t : Vec F S1000x8 .f32) (ix2 r j) = (V c main_v11 : Vec F S10000x8 .f32) (ix2 e j) := by
  obtain ⟨h0, h1⟩ := idx0_1 t
  show V c main_v11 (((cfg0.win 1).blk t).view.emb (ix2 r j)) = V c main_v11 (ix2 e j)
  refine congrArg (V c main_v11) ?_
  funext a; apply Fin.ext
  match a with
  | ⟨0, _⟩ => show win0_1.index t (0 : Fin 2) * 1000 + 1 * r.val = e.val; omega
  | ⟨1, _⟩ => show win0_1.index t (1 : Fin 2) * 8 + 1 * j.val = j.val; omega

/-- The two-axis zero start, as a function. -/
theorem hz2_0 : (![0, 0] : Fin 2 → Nat) = fun _ => 0 := funext fun a => by fin_cases a <;> rfl
/-- The three-axis zero start, as a function. -/
theorem hz3_0 : (![0, 0, 0] : Fin 3 → Nat) = fun _ => 0 := funext fun a => by fin_cases a <;> rfl

/-- What case A leaves in output 2's buffer. -/
theorem out0_A_2_eq (c : Dev nD) (i : grid0.Coords) (arg1 : Memref sig .tc .vmem S1x1x1000 .i32) (harg1 : arg1.IsWhole) (arg2 : Memref sig .tc .vmem S1000x8 .f32) (harg2 : arg2.IsWhole) (arg3 : Memref sig .tc .vmem S512x8 .f32) (harg3 : arg3.IsWhole) (arg4 : Memref sig .tc .vmem S1x512 .f32) (harg4 : arg4.IsWhole) (hc0 : cond0_0 i) (hc1 : ¬cond0_1 i)
    (x0 : Vec F S1x1x1000 .i32) (x1 : Vec F S1000x8 .f32) :
    out0_A_2 c i arg1 harg1 arg2 harg2 arg3 harg3 arg4 harg4 hc0 hc1 x0 x1 = k0_pay3 x0 x1 (k0_pay1 (F := F)) := by
  unfold out0_A_2
  rw [View.read_writes_eq_canon _ _ _ (cover0_A_2 c i arg1 harg1 arg2 harg2 arg3 harg3 arg4 harg4 hc0 hc1 x0 x1)]
  unfold kernelRun0_A
  dsimp only
  try sl_unfold_words

  rw [View.canon_cons_unit_zero (S := S512x8) hz2_0, View.readCov_unit_zero (S := S512x8) _ hz2_0]

  simp only [View.readAt_eq_ld, harg1.read_unread, harg2.read_unread, harg3.read_unread, harg4.read_unread, View.ld_unit_zero (S := S1x1x1000) hz3_0, View.ld_unit_zero (S := S1000x8) hz2_0, View.ld_unit_zero (S := S512x8) hz2_0, View.ld_unit_zero (S := S1x512) hz2_0, shapeCast_self]

/-- What case B leaves in output 2's buffer. -/
theorem out0_B_2_eq (c : Dev nD) (i : grid0.Coords) (arg1 : Memref sig .tc .vmem S1x1x1000 .i32) (harg1 : arg1.IsWhole) (arg2 : Memref sig .tc .vmem S1000x8 .f32) (harg2 : arg2.IsWhole) (arg3 : Memref sig .tc .vmem S512x8 .f32) (harg3 : arg3.IsWhole) (arg4 : Memref sig .tc .vmem S1x512 .f32) (harg4 : arg4.IsWhole) (hc0 : ¬cond0_0 i) (hc1 : ¬cond0_1 i)
    (x0 : Vec F S1x1x1000 .i32) (x1 : Vec F S1000x8 .f32) (xo2 : Vec F S512x8 .f32) :
    out0_B_2 c i arg1 harg1 arg2 harg2 arg3 harg3 arg4 harg4 hc0 hc1 x0 x1 xo2 = k0_pay3 x0 x1 xo2 := by
  unfold out0_B_2
  rw [View.read_writes_eq_canon _ _ _ (cover0_B_2 c i arg1 harg1 arg2 harg2 arg3 harg3 arg4 harg4 hc0 hc1 x0 x1 xo2)]
  unfold kernelRun0_B
  dsimp only
  try sl_unfold_words

  rw [View.canon_unit_zero hz2_0]

  simp only [View.readAt_eq_ld, harg1.read_unread, harg2.read_unread, harg3.read_unread, harg4.read_unread, View.ld_unit_zero (S := S1x1x1000) hz3_0, View.ld_unit_zero (S := S1000x8) hz2_0, View.ld_unit_zero (S := S512x8) hz2_0, View.ld_unit_zero (S := S1x512) hz2_0, shapeCast_self]

/-- What case C leaves in output 2's buffer. -/
theorem out0_C_2_eq (c : Dev nD) (i : grid0.Coords) (arg1 : Memref sig .tc .vmem S1x1x1000 .i32) (harg1 : arg1.IsWhole) (arg2 : Memref sig .tc .vmem S1000x8 .f32) (harg2 : arg2.IsWhole) (arg3 : Memref sig .tc .vmem S512x8 .f32) (harg3 : arg3.IsWhole) (arg4 : Memref sig .tc .vmem S1x512 .f32) (harg4 : arg4.IsWhole) (hc0 : ¬cond0_0 i) (hc1 : cond0_1 i)
    (x0 : Vec F S1x1x1000 .i32) (x1 : Vec F S1000x8 .f32) (xo2 : Vec F S512x8 .f32) :
    out0_C_2 c i arg1 harg1 arg2 harg2 arg3 harg3 arg4 harg4 hc0 hc1 x0 x1 xo2 = k0_pay5 (k0_pay3 x0 x1 xo2) := by
  unfold out0_C_2
  rw [View.read_writes_eq_canon _ _ _ (cover0_C_2 c i arg1 harg1 arg2 harg2 arg3 harg3 arg4 harg4 hc0 hc1 x0 x1 xo2)]
  unfold kernelRun0_C
  dsimp only
  try sl_unfold_words

  rw [View.canon_cons_unit_zero (S := S512x8) hz2_0, View.readCov_unit_zero (S := S512x8) _ hz2_0]

  simp only [View.readAt_eq_ld, harg1.read_unread, harg2.read_unread, harg3.read_unread, harg4.read_unread, View.ld_unit_zero (S := S1x1x1000) hz3_0, View.ld_unit_zero (S := S1000x8) hz2_0, View.ld_unit_zero (S := S512x8) hz2_0, View.ld_unit_zero (S := S1x512) hz2_0, shapeCast_self]

/-- What case C leaves in output 3's buffer. -/
theorem out0_C_3_eq (c : Dev nD) (i : grid0.Coords) (arg1 : Memref sig .tc .vmem S1x1x1000 .i32) (harg1 : arg1.IsWhole) (arg2 : Memref sig .tc .vmem S1000x8 .f32) (harg2 : arg2.IsWhole) (arg3 : Memref sig .tc .vmem S512x8 .f32) (harg3 : arg3.IsWhole) (arg4 : Memref sig .tc .vmem S1x512 .f32) (harg4 : arg4.IsWhole) (hc0 : ¬cond0_0 i) (hc1 : cond0_1 i)
    (x0 : Vec F S1x1x1000 .i32) (x1 : Vec F S1000x8 .f32) (xo2 : Vec F S512x8 .f32) :
    out0_C_3 c i arg1 harg1 arg2 harg2 arg3 harg3 arg4 harg4 hc0 hc1 x0 x1 xo2 = k0_pay6 (k0_pay3 x0 x1 xo2) := by
  unfold out0_C_3
  rw [View.read_writes_eq_canon _ _ _ (cover0_C_3 c i arg1 harg1 arg2 harg2 arg3 harg3 arg4 harg4 hc0 hc1 x0 x1 xo2)]
  unfold kernelRun0_C
  dsimp only
  try sl_unfold_words

  rw [View.canon_unit_zero hz2_0, View.readCov_unit_zero (S := S512x8) _ hz2_0]

  simp only [View.readAt_eq_ld, harg1.read_unread, harg2.read_unread, harg3.read_unread, harg4.read_unread, View.ld_unit_zero (S := S1x1x1000) hz3_0, View.ld_unit_zero (S := S1000x8) hz2_0, View.ld_unit_zero (S := S512x8) hz2_0, View.ld_unit_zero (S := S1x512) hz2_0, shapeCast_self]

/-- Where output window 2 stands at each grid point. -/
theorem oidx0_2 : ∀ t : Fin cfg0.N, win0_2.index t (0 : Fin 2) = 0 ∧ win0_2.index t (1 : Fin 2) = 0 :=
  (by decide +kernel : ∀ t : Fin grid0.N, _)

/-- The output array ends at what its buffer holds after the last point. -/
theorem final0_2 (c : Dev nD) (h : 9 < cfg0.N) (i : S512x8.Idx) :
    (dat0 V c).arrAt 2 cfg0.N i = (outsAt0 V c 9 h).1 i := by
  have hf : (cfg0.win 2).flush ⟨9, h⟩ = true := (flush0_2 ⟨9, h⟩).mpr rfl
  have hd : ∀ t t' : Fin cfg0.N, (cfg0.win 2).flush t = true → (cfg0.win 2).flush t' = true → t ≠ t' →
      Disjoint ((cfg0.win 2).blk t).view.set ((cfg0.win 2).blk t').view.set := by
    intro t t' ht ht' hne
    refine absurd (Fin.ext ?_) hne
    have h1 := (flush0_2 t).mp ht
    have h2 := (flush0_2 t').mp ht'
    have h3 : t.val < 10 := lt_of_lt_of_eq t.isLt (show cfg0.N = 10 from N_0)
    have h4 : t'.val < 10 := lt_of_lt_of_eq t'.isLt (show cfg0.N = 10 from N_0)
    omega
  have he := (dat0 V c).arrAt_emb_eq_flushed 2 hd ⟨9, h⟩ hf i
  obtain ⟨h0, h1⟩ := oidx0_2 ⟨9, h⟩
  have hi : ((cfg0.win 2).blk ⟨9, h⟩).view.emb i = i := by
    funext a; apply Fin.ext
    match a with
    | ⟨0, _⟩ => show win0_2.index ⟨9, h⟩ (0 : Fin 2) * 512 + 1 * (i 0).val = (i 0).val; omega
    | ⟨1, _⟩ => show win0_2.index ⟨9, h⟩ (1 : Fin 2) * 8 + 1 * (i 1).val = (i 1).val; omega
  rw [hi] at he
  refine he.trans ?_
  show (cfg0.win 2).cut (grid0.coords ⟨9, h⟩) ((dat0 V c).after 2 ⟨9, h⟩) i = _
  rw [after0_2]
  rfl

/-- Where output window 3 stands at each grid point. -/
theorem oidx0_3 : ∀ t : Fin cfg0.N, win0_3.index t (0 : Fin 2) = 0 ∧ win0_3.index t (1 : Fin 2) = 0 :=
  (by decide +kernel : ∀ t : Fin grid0.N, _)

/-- The output array ends at what its buffer holds after the last point. -/
theorem final0_3 (c : Dev nD) (h : 9 < cfg0.N) (i : S1x512.Idx) :
    (dat0 V c).arrAt 3 cfg0.N i = (outsAt0 V c 9 h).2 i := by
  have hf : (cfg0.win 3).flush ⟨9, h⟩ = true := (flush0_3 ⟨9, h⟩).mpr rfl
  have hd : ∀ t t' : Fin cfg0.N, (cfg0.win 3).flush t = true → (cfg0.win 3).flush t' = true → t ≠ t' →
      Disjoint ((cfg0.win 3).blk t).view.set ((cfg0.win 3).blk t').view.set := by
    intro t t' ht ht' hne
    refine absurd (Fin.ext ?_) hne
    have h1 := (flush0_3 t).mp ht
    have h2 := (flush0_3 t').mp ht'
    have h3 : t.val < 10 := lt_of_lt_of_eq t.isLt (show cfg0.N = 10 from N_0)
    have h4 : t'.val < 10 := lt_of_lt_of_eq t'.isLt (show cfg0.N = 10 from N_0)
    omega
  have he := (dat0 V c).arrAt_emb_eq_flushed 3 hd ⟨9, h⟩ hf i
  obtain ⟨h0, h1⟩ := oidx0_3 ⟨9, h⟩
  have hi : ((cfg0.win 3).blk ⟨9, h⟩).view.emb i = i := by
    funext a; apply Fin.ext
    match a with
    | ⟨0, _⟩ => show win0_3.index ⟨9, h⟩ (0 : Fin 2) * 1 + 1 * (i 0).val = (i 0).val; omega
    | ⟨1, _⟩ => show win0_3.index ⟨9, h⟩ (1 : Fin 2) * 512 + 1 * (i 1).val = (i 1).val; omega
  rw [hi] at he
  refine he.trans ?_
  show (cfg0.win 3).cut (grid0.coords ⟨9, h⟩) ((dat0 V c).after 3 ⟨9, h⟩) i = _
  rw [after0_3]
  rfl

end

end Cert.KernelIdeal.Val

end
-- ==== Proof.Reg0.lean ====
/- The grouping stage (region 0) as sums over the nodes. -/
module

public import proofs.«01_k».proof.Proof.Pay
public import proofs.«01_k».proof.Proof.Blk0
public import proofs.«01_k».proof.Proof.Spec

@[expose] public section
set_option maxHeartbeats 4000000
noncomputable section
namespace Cert.KernelIdeal.Val
open Cert.KernelIdeal Cert.KernelIdeal.Gen Idealize.ShloMosaic Idealize.ShloMosaic.TcCoe Cert.Spec Idealize.ShloMosaic.Pointwise

variable (V : (c : Dev nD) → (b : Ref sig .tc) → Buf (Elt Ideal) ((c : Thread nD τ).loc b))

/-- One node's contribution to group `g`, column `k`. -/
def grpTerm (c : Dev nD) (g : Fin 512) (k : Fin 8) (n : Fin (10 * 1000)) : EReal :=
  oh ((V c main_v12 : Vec Ideal S10x1x1000 .i32) (ix3 (hi 10 n) 0 (lo 10 n))) g.val * (V c main_v11 : Vec Ideal S10000x8 .f32) (ix2 n k)

/-- One point's update adds its block of nodes. -/
theorem grpStep (c : Dev nD) (t : Fin cfg0.N) (acc : Vec Ideal S512x8 .f32) (g : Fin 512) (k : Fin 8) :
    k0_pay3 (iblk0 V c 0 t) (iblk0 V c 1 t) acc (ix2 g k) = acc (ix2 g k) + blkSum 10 (grpTerm V c g k) t.val := by
  have ht : t.val < 10 := lt_of_lt_of_eq t.isLt (show cfg0.N = 10 from N_0)
  refine (k0_pay3_apply (iblk0 V c 0 t) (iblk0 V c 1 t) acc g k).trans ?_
  rw [blkSum_of_lt 10 _ _ ht]
  refine congrArg₂ (· + ·) rfl (Finset.sum_congr rfl fun r _ => ?_)
  unfold grpTerm
  simp only [hi_mk, lo_mk]
  rw [rd0_0 V c t r ⟨t.val, ht⟩ rfl, rd0_1 V c t r k (mk 10 ⟨t.val, ht⟩ r) rfl]

/-- Before the last point the buffer holds the sum over the blocks so far. -/
theorem grpAcc (c : Dev nD) (g : Fin 512) (k : Fin 8) : ∀ (n : ℕ) (h : n < cfg0.N) (h9 : n < 9),
    (outsAt0 V c n h).1 (ix2 g k) = ∑ t ∈ Finset.range (n + 1), blkSum 10 (grpTerm V c g k) t
  | 0, h, h9 => by
    rw [show (outsAt0 V c 0 h) = _ from outsAt0_A V c ⟨0, h⟩ rfl (by show ¬ 0 % 10 = 9; omega)]
    dsimp only
    rw [out0_A_2_eq, grpStep V c ⟨0, h⟩]
    rw [show (k0_pay1 (F := Ideal)) (ix2 g k) = 0 by pointwise [k0_pay1], zero_add, Finset.sum_range_one]
  | n + 1, h, h9 => by
    have hN : n + 1 < 10 := lt_of_lt_of_eq h (show cfg0.N = 10 from N_0)
    rw [show outsAt0 V c (n + 1) h = _ from outsAt0_B V c ⟨n + 1, h⟩ (by show ¬ (n + 1) % 10 = 0; omega) (by show ¬ (n + 1) % 10 = 9; omega)]
    dsimp only
    rw [out0_B_2_eq, grpStep V c ⟨n + 1, h⟩, Finset.sum_range_succ]
    exact congrArg (· + _) (grpAcc c g k n _ (by omega))

/-- The group sums at the last point. -/
theorem grpLast (c : Dev nD) (g : Fin 512) (k : Fin 8) (h : 9 < cfg0.N) (h8 : 8 < cfg0.N) :
    k0_pay3 (iblk0 V c 0 ⟨9, h⟩) (iblk0 V c 1 ⟨9, h⟩) (outsAt0 V c 8 h8).1 (ix2 g k) = ∑ n : Fin (10 * 1000), grpTerm V c g k n := by
  rw [grpStep V c ⟨9, h⟩, grpAcc V c g k 8 h8 (by omega), ← sum_blkSum 10, Finset.sum_range_succ _ 9]

/-- The group positions. -/
theorem grpFinal2 (c : Dev nD) (g : Fin 512) (k : Fin 8) :
    ((dat0 V c).arrAt 2 cfg0.N : Vec Ideal S512x8 .f32) (ix2 g k)
      = if k.val < 3 then Ideal.div (∑ n : Fin (10 * 1000), grpTerm V c g k n)
          (if 0 < ∑ n : Fin (10 * 1000), grpTerm V c g 3 n then ∑ n : Fin (10 * 1000), grpTerm V c g 3 n else 1) else 0 := by
  have h : 9 < cfg0.N := lt_of_lt_of_eq (by decide) (show cfg0.N = 10 from N_0).symm
  refine (final0_2 V c h (ix2 g k)).trans ?_
  rw [show outsAt0 V c 9 h = _ from outsAt0_C V c ⟨9, h⟩ (by show ¬ 9 % 10 = 0; omega) rfl]
  dsimp only
  rw [out0_C_2_eq, k0_pay5_apply]
  rw [← grpLast V c g k h (by omega), ← grpLast V c g 3 h (by omega)]

/-- The reciprocals of the group counts. -/
theorem grpFinal3 (c : Dev nD) (g : Fin 512) :
    ((dat0 V c).arrAt 3 cfg0.N : Vec Ideal S1x512 .f32) (ix2 0 g)
      = Ideal.div 1 (max (∑ n : Fin (10 * 1000), grpTerm V c g 4 n) 1) := by
  have h : 9 < cfg0.N := lt_of_lt_of_eq (by decide) (show cfg0.N = 10 from N_0).symm
  refine (final0_3 V c h (ix2 0 g)).trans ?_
  rw [show outsAt0 V c 9 h = _ from outsAt0_C V c ⟨9, h⟩ (by show ¬ 9 % 10 = 0; omega) rfl]
  dsimp only
  rw [out0_C_3_eq, k0_pay6_apply]
  rw [← grpLast V c g 4 h (by omega)]

end Cert.KernelIdeal.Val

end
-- ==== Proof.Blk1.lean ====
/- Region 1 of the kernel: each input block as the rows of its array, and what the accumulated outputs hold after each
   point as terms of the blocks. -/
module

public import proofs.«01_k».proof.Proof.Gen.KernelIdeal.Frame.Region1
public import Idealize.ShloMosaic.Lib.Pipeline.Value
public import Idealize.ShloMosaic.Lib.Pointwise

@[expose] public section

noncomputable section

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.Pointwise

section
variable {F : FTy → Type} [FloatOps F] [Named F]
variable (V : (c : Dev nD) → (b : Ref sig .tc) → Buf (Elt F) ((c : Thread nD τ).loc b))

/-- Where input window 0 stands at each grid point. -/
theorem idx1_0 : ∀ t : Fin cfg1.N, win1_0.index t (0 : Fin 3) = t.val ∧ win1_0.index t (1 : Fin 3) = 0 ∧ win1_0.index t (2 : Fin 3) = 0 :=
  (by decide +kernel : ∀ t : Fin grid1.N, _)

/-- Window 0's block at point `t` is the array's block `t`. -/
theorem rd1_0 (c : Dev nD) (t : Fin cfg1.N) (r : Fin 1000) (s : Fin 160) (hs : s.val = t.val) :
    (iblk1 V c 0 t : Vec F S1x1x1000 .i32) (ix3 0 0 r) = (V c main_v4 : Vec F S160x1x1000 .i32) (ix3 s 0 r) := by
  obtain ⟨h0, h1, h2⟩ := idx1_0 t
  show V c main_v4 (((cfg1.win 0).blk t).view.emb (ix3 0 0 r)) = V c main_v4 (ix3 s 0 r)
  refine congrArg (V c main_v4) ?_
  funext a; apply Fin.ext
  match a with
  | ⟨0, _⟩ => show win1_0.index t (0 : Fin 3) * 1 + 1 * 0 = s.val; omega
  | ⟨1, _⟩ => show win1_0.index t (1 : Fin 3) * 1 + 1 * 0 = 0; omega
  | ⟨2, _⟩ => show win1_0.index t (2 : Fin 3) * 1000 + 1 * r.val = r.val; omega

/-- Where input window 1 stands at each grid point. -/
theorem idx1_1 : ∀ t : Fin cfg1.N, win1_1.index t (0 : Fin 3) = t.val ∧ win1_1.index t (1 : Fin 3) = 0 ∧ win1_1.index t (2 : Fin 3) = 0 :=
  (by decide +kernel : ∀ t : Fin grid1.N, _)

/-- Window 1's block at point `t` is the array's block `t`. -/
theorem rd1_1 (c : Dev nD) (t : Fin cfg1.N) (r : Fin 1000) (s : Fin 160) (hs : s.val = t.val) :
    (iblk1 V c 1 t : Vec F S1x1x1000 .i32) (ix3 0 0 r) = (V c main_v5 : Vec F S160x1x1000 .i32) (ix3 s 0 r) := by
  obtain ⟨h0, h1, h2⟩ := idx1_1 t
  show V c main_v5 (((cfg1.win 1).blk t).view.emb (ix3 0 0 r)) = V c main_v5 (ix3 s 0 r)
  refine congrArg (V c main_v5) ?_
  funext a; apply Fin.ext
  match a with
  | ⟨0, _⟩ => show win1_1.index t (0 : Fin 3) * 1 + 1 * 0 = s.val; omega
  | ⟨1, _⟩ => show win1_1.index t (1 : Fin 3) * 1 + 1 * 0 = 0; omega
  | ⟨2, _⟩ => show win1_1.index t (2 : Fin 3) * 1000 + 1 * r.val = r.val; omega

/-- Where input window 2 stands at each grid point. -/
theorem idx1_2 : ∀ t : Fin cfg1.N, win1_2.index t (0 : Fin 2) = 0 ∧ win1_2.index t (1 : Fin 2) = 0 :=
  (by decide +kernel : ∀ t : Fin grid1.N, _)

/-- Window 2's block is its whole array. -/
theorem rd1_2 (c : Dev nD) (t : Fin cfg1.N) : iblk1 V c 2 t = (V c main_v17 : Vec F S512x8 .f32) := by
  obtain ⟨h0, h1⟩ := idx1_2 t
  funext y
  show V c main_v17 (((cfg1.win 2).blk t).view.emb y) = V c main_v17 y
  refine congrArg (V c main_v17) ?_
  funext a; apply Fin.ext
  match a with
  | ⟨0, _⟩ => show win1_2.index t (0 : Fin 2) * 512 + 1 * (y 0).val = (y 0).val; omega
  | ⟨1, _⟩ => show win1_2.index t (1 : Fin 2) * 8 + 1 * (y 1).val = (y 1).val; omega

/-- Where input window 3 stands at each grid point. -/
theorem idx1_3 : ∀ t : Fin cfg1.N, win1_3.index t (0 : Fin 2) = 0 ∧ win1_3.index t (1 : Fin 2) = 0 :=
  (by decide +kernel : ∀ t : Fin grid1.N, _)

/-- Window 3's block is its whole array. -/
theorem rd1_3 (c : Dev nD) (t : Fin cfg1.N) : iblk1 V c 3 t = (V c main_v13_0 : Vec F S512x8 .f32) := by
  obtain ⟨h0, h1⟩ := idx1_3 t
  funext y
  show V c main_v13_0 (((cfg1.win 3).blk t).view.emb y) = V c main_v13_0 y
  refine congrArg (V c main_v13_0) ?_
  funext a; apply Fin.ext
  match a with
  | ⟨0, _⟩ => show win1_3.index t (0 : Fin 2) * 512 + 1 * (y 0).val = (y 0).val; omega
  | ⟨1, _⟩ => show win1_3.index t (1 : Fin 2) * 8 + 1 * (y 1).val = (y 1).val; omega

/-- Where output window 4 stands at each grid point. -/
theorem oidx1_4 : ∀ t : Fin cfg1.N, win1_4.index t (0 : Fin 2) = t.val ∧ win1_4.index t (1 : Fin 2) = 0 :=
  (by decide +kernel : ∀ t : Fin grid1.N, _)

/-- Rows `1000·t …` of the output array end at what point `t` writes. -/
theorem final1_4 (c : Dev nD) (t : Fin cfg1.N) (r : Fin 1000) (j : Fin 32) (e : Fin 160000) (he : e.val = 1000 * t.val + r.val) :
    ((dat1 V c).arrAt 4 cfg1.N : Vec F S160000x32 .f32) (ix2 e j) = (out1_4 (iblk1 V c 0 t) (iblk1 V c 1 t) (iblk1 V c 2 t) (iblk1 V c 3 t) : Vec F S1000x32 .f32) (ix2 r j) := by
  have hd : ∀ t t' : Fin cfg1.N, (cfg1.win 4).flush t = true → (cfg1.win 4).flush t' = true → t ≠ t' →
      Disjoint ((cfg1.win 4).blk t).view.set ((cfg1.win 4).blk t').view.set := by
    intro t t' _ _ hne
    refine (cfg1.win 4).disjoint_blk fun h => hne (Fin.ext ?_)
    have h1 := (oidx1_4 t).1
    have h2 := (oidx1_4 t').1
    rw [← h1, ← h2]
    exact congrFun h (0 : Fin 2)
  have hh := (dat1 V c).arrAt_emb_eq_flushed 4 hd t (flush1_4 t) (ix2 r j)
  obtain ⟨h0, h1⟩ := oidx1_4 t
  have hi : ((cfg1.win 4).blk t).view.emb (ix2 r j) = ix2 e j := by
    funext a; apply Fin.ext
    match a with
    | ⟨0, _⟩ => show win1_4.index t (0 : Fin 2) * 1000 + 1 * r.val = e.val; omega
    | ⟨1, _⟩ => show win1_4.index t (1 : Fin 2) * 32 + 1 * j.val = j.val; omega
  rw [hi] at hh
  refine hh.trans ?_
  show (cfg1.win 4).cut (grid1.coords t) ((dat1 V c).after 4 t) (ix2 r j) = _
  rw [after1_4]
  rfl

/-- Where output window 5 stands at each grid point. -/
theorem oidx1_5 : ∀ t : Fin cfg1.N, win1_5.index t (0 : Fin 2) = t.val ∧ win1_5.index t (1 : Fin 2) = 0 :=
  (by decide +kernel : ∀ t : Fin grid1.N, _)

/-- Rows `1000·t …` of the output array end at what point `t` writes. -/
theorem final1_5 (c : Dev nD) (t : Fin cfg1.N) (r : Fin 1000) (j : Fin 4) (e : Fin 160000) (he : e.val = 1000 * t.val + r.val) :
    ((dat1 V c).arrAt 5 cfg1.N : Vec F S160000x4 .f32) (ix2 e j) = (out1_5 (iblk1 V c 0 t) (iblk1 V c 1 t) (iblk1 V c 2 t) (iblk1 V c 3 t) : Vec F S1000x4 .f32) (ix2 r j) := by
  have hd : ∀ t t' : Fin cfg1.N, (cfg1.win 5).flush t = true → (cfg1.win 5).flush t' = true → t ≠ t' →
      Disjoint ((cfg1.win 5).blk t).view.set ((cfg1.win 5).blk t').view.set := by
    intro t t' _ _ hne
    refine (cfg1.win 5).disjoint_blk fun h => hne (Fin.ext ?_)
    have h1 := (oidx1_5 t).1
    have h2 := (oidx1_5 t').1
    rw [← h1, ← h2]
    exact congrFun h (0 : Fin 2)
  have hh := (dat1 V c).arrAt_emb_eq_flushed 5 hd t (flush1_5 t) (ix2 r j)
  obtain ⟨h0, h1⟩ := oidx1_5 t
  have hi : ((cfg1.win 5).blk t).view.emb (ix2 r j) = ix2 e j := by
    funext a; apply Fin.ext
    match a with
    | ⟨0, _⟩ => show win1_5.index t (0 : Fin 2) * 1000 + 1 * r.val = e.val; omega
    | ⟨1, _⟩ => show win1_5.index t (1 : Fin 2) * 4 + 1 * j.val = j.val; omega
  rw [hi] at hh
  refine hh.trans ?_
  show (cfg1.win 5).cut (grid1.coords t) ((dat1 V c).after 5 t) (ix2 r j) = _
  rw [after1_5]
  rfl

end

end Cert.KernelIdeal.Val

end
-- ==== Proof.Reg1.lean ====
/- The geometry stage (region 1), edge by edge. -/
module

public import proofs.«01_k».proof.Proof.Pay
public import proofs.«01_k».proof.Proof.Blk1
public import proofs.«01_k».proof.Proof.Spec

@[expose] public section
set_option maxHeartbeats 4000000
noncomputable section
namespace Cert.KernelIdeal.Val
open Cert.KernelIdeal Cert.KernelIdeal.Gen Idealize.ShloMosaic Idealize.ShloMosaic.TcCoe Cert.Spec Idealize.ShloMosaic.Pointwise

variable (V : (c : Dev nD) → (b : Ref sig .tc) → Buf (Elt Ideal) ((c : Thread nD τ).loc b))

/-- An edge's difference of positions, coordinate `k`. -/
def geoVec (c : Dev nD) (e : Fin (160 * 1000)) (k : Fin 8) : EReal :=
  (∑ g : Fin 512, oh ((V c main_v4 : Vec Ideal S160x1x1000 .i32) (ix3 (hi 160 e) 0 (lo 160 e))) g.val * (V c main_v17 : Vec Ideal S512x8 .f32) (ix2 g k))
    - ∑ g : Fin 512, oh ((V c main_v5 : Vec Ideal S160x1x1000 .i32) (ix3 (hi 160 e) 0 (lo 160 e))) g.val * (V c main_v13_0 : Vec Ideal S512x8 .f32) (ix2 g k)

/-- An edge's length. -/
def geoDist (c : Dev nD) (e : Fin (160 * 1000)) : EReal := Ideal.sqrt (∑ k : Fin 8, geoVec V c e k * geoVec V c e k)

/-- The two-axis zero start, as a function. -/
theorem hzz1 : (![0, 0] : Fin 2 → Nat) = fun _ => 0 := funext fun a => by fin_cases a <;> rfl
/-- The three-axis zero start, as a function. -/
theorem hzzz1 : (![0, 0, 0] : Fin 3 → Nat) = fun _ => 0 := funext fun a => by fin_cases a <;> rfl

/-- What a point computes for its edges' vectors is the vectors of those edges. -/
theorem geoVec_eq (c : Dev nD) (t : Fin cfg1.N) (ht : t.val < 160) (r : Fin 1000) (k : Fin 8) :
    k1_pay2 (iblk1 V c 0 t) (iblk1 V c 1 t) (iblk1 V c 2 t) (iblk1 V c 3 t) (ix2 r k) = geoVec V c (mk 160 ⟨t.val, ht⟩ r) k := by
  refine (k1_pay2_apply _ _ _ _ _ _).trans ?_
  unfold geoVec
  simp only [hi_mk, lo_mk]
  rw [rd1_0 V c t r ⟨t.val, ht⟩ rfl, rd1_1 V c t r ⟨t.val, ht⟩ rfl, rd1_2, rd1_3]

/-- What a point computes for its edges' lengths is the lengths of those edges. -/
theorem geoDist_eq (c : Dev nD) (t : Fin cfg1.N) (ht : t.val < 160) (r : Fin 1000) :
    k1_pay3 (iblk1 V c 0 t) (iblk1 V c 1 t) (iblk1 V c 2 t) (iblk1 V c 3 t) (ix2 r 0) = geoDist V c (mk 160 ⟨t.val, ht⟩ r) := by
  refine (k1_pay3_apply _ _ _ _ _ _).trans ?_
  unfold geoDist
  simp only [geoVec_eq V c t ht r]

/-- The distance basis of an edge. -/
theorem geoFinal4 (c : Dev nD) (e : Fin (160 * 1000)) (b : Fin 32) :
    ((dat1 V c).arrAt 4 cfg1.N : Vec Ideal S160000x32 .f32) (ix2 e b) = bump (geoDist V c e) (((b.val : ℝ) : EReal) * ((10 / 31 : ℝ) : EReal)) := by
  have hn : e.val < 160 * 1000 := e.isLt
  have ht : e.val / 1000 < 160 := by omega
  have h : e.val / 1000 < cfg1.N := lt_of_lt_of_eq ht (show cfg1.N = 160 from N_1).symm
  have he : e.val = 1000 * (⟨e.val / 1000, h⟩ : Fin cfg1.N).val + (lo 160 e).val := by
    show e.val = 1000 * (e.val / 1000) + e.val % 1000
    omega
  refine (final1_4 V c ⟨e.val / 1000, h⟩ (lo 160 e) b e he).trans ?_
  unfold out1_4
  rw [View.canon_unit_zero hzz1]
  simp only [View.ld_unit_zero (S := S512x8) hzz1, View.ld_unit_zero (S := S1x1x1000) hzzz1]
  rw [k1_pay4_apply, geoDist_eq V c ⟨e.val / 1000, h⟩ ht]
  exact congrArg (fun e => bump (geoDist V c e) _) (mk_hi_lo 160 e)

/-- The harmonics of an edge. -/
theorem geoFinal5 (c : Dev nD) (e : Fin (160 * 1000)) (q : Fin 4) :
    ((dat1 V c).arrAt 5 cfg1.N : Vec Ideal S160000x4 .f32) (ix2 e q) = if q.val = 0 then 1 else
      rt3 * geoVec V c e ⟨q.val % 3, by omega⟩ * Ideal.div 1 (geoDist V c e + tiny) := by
  have hn : e.val < 160 * 1000 := e.isLt
  have ht : e.val / 1000 < 160 := by omega
  have h : e.val / 1000 < cfg1.N := lt_of_lt_of_eq ht (show cfg1.N = 160 from N_1).symm
  have he : e.val = 1000 * (⟨e.val / 1000, h⟩ : Fin cfg1.N).val + (lo 160 e).val := by
    show e.val = 1000 * (e.val / 1000) + e.val % 1000
    omega
  refine (final1_5 V c ⟨e.val / 1000, h⟩ (lo 160 e) q e he).trans ?_
  unfold out1_5
  rw [View.canon_unit_zero hzz1]
  simp only [View.ld_unit_zero (S := S512x8) hzz1, View.ld_unit_zero (S := S1x1x1000) hzzz1]
  rw [k1_pay1_apply, geoDist_eq V c ⟨e.val / 1000, h⟩ ht, geoVec_eq V c ⟨e.val / 1000, h⟩ ht]
  exact congrArg (fun e => if q.val = 0 then (1 : EReal) else
      rt3 * geoVec V c e ⟨q.val % 3, by omega⟩ * Ideal.div 1 (geoDist V c e + tiny)) (mk_hi_lo 160 e)

end Cert.KernelIdeal.Val

end
-- ==== Proof.KGeo.lean ====
/- The kernel's first two stages as mathematics: the groups' centres and counts, the edges' basis and harmonics. -/
module

public import proofs.«01_k».proof.Proof.Layer
public import proofs.«01_k».proof.Proof.Carry
public import proofs.«01_k».proof.Proof.Host
public import proofs.«01_k».proof.Proof.Reg0
public import proofs.«01_k».proof.Proof.Reg1

@[expose] public section
set_option maxHeartbeats 4000000
noncomputable section
namespace Cert.KernelIdeal.Val
open Cert.KernelIdeal Cert.KernelIdeal.Gen Idealize.ShloMosaic Idealize.ShloMosaic.TcCoe Cert.Spec Idealize.ShloMosaic.Pointwise

variable (m : (ℓ : Loc nD τ sig) → Buf (Elt Ideal) ℓ) (ρ : Dev nD → PrngReg) (c : Dev nD)

/-- The kernel's arguments are the given quantities. -/
structure Given (A : Args) : Prop where
  pos : ∀ n k, @Eq EReal ((m ((c : Thread nD τ).loc main_arg0) : Vec Ideal S10000x3 .f32) (ix2 n k)) (A.pos n k)
  lab : ∀ n, @Eq (BitVec 32) ((m ((c : Thread nD τ).loc main_arg1) : Vec Ideal S10000 .i32) (ix1 n)) (A.lab n)
  wt : ∀ n, @Eq EReal ((m ((c : Thread nD τ).loc main_arg2) : Vec Ideal S10000x1 .f32) (ix2 n 0)) (A.wt n)
  nd : ∀ e, @Eq (BitVec 32) ((m ((c : Thread nD τ).loc main_arg3) : Vec Ideal S2x160000 .i32) (ix2 0 e)) (BitVec.ofNat 32 (A.N e).val)
  gp : ∀ e, @Eq (BitVec 32) ((m ((c : Thread nD τ).loc main_arg3) : Vec Ideal S2x160000 .i32) (ix2 1 e)) (BitVec.ofNat 32 (A.G e).val)
  fcw : ∀ b j, @Eq EReal ((m ((c : Thread nD τ).loc main_arg5) : Vec Ideal S32x256 .f32) (ix2 b j)) (A.fcw b j)
  sc : ∀ v, @Eq EReal ((m ((c : Thread nD τ).loc main_arg6) : Vec Ideal S2x64 .f32) (ix2 0 v)) (A.sc v)
  vw : ∀ v, @Eq EReal ((m ((c : Thread nD τ).loc main_arg6) : Vec Ideal S2x64 .f32) (ix2 1 v)) A.vw
  bias : ∀ v, @Eq EReal ((m ((c : Thread nD τ).loc main_arg7) : Vec Ideal S64 .f32) (ix1 v)) (A.bias v)

variable {m c} {A : Args} (hA : Given m c A)
include hA

/-- The edges' node words, as the first stage finds them. -/
theorem k_v4 (e : Fin 160000) : (V1 m ρ c main_v4 : Vec Ideal S160x1x1000 .i32) (ix3 (hi 160 e) 0 (lo 160 e)) = BitVec.ofNat 32 (A.N e).val :=
  (h0_v4 (W0 m ρ c) (hi 160 e) (lo 160 e)).trans
    ((congrArg (fun x : Fin 160000 => (m ((c : Thread nD τ).loc main_arg3) : Vec Ideal S2x160000 .i32) (ix2 0 x)) (mk_hi_lo 160 e)).trans (hA.nd e))
/-- The edges' group words, as the first stage finds them. -/
theorem k_v5 (e : Fin 160000) : (V1 m ρ c main_v5 : Vec Ideal S160x1x1000 .i32) (ix3 (hi 160 e) 0 (lo 160 e)) = BitVec.ofNat 32 (A.G e).val :=
  (h0_v5 (W0 m ρ c) (hi 160 e) (lo 160 e)).trans
    ((congrArg (fun x : Fin 160000 => (m ((c : Thread nD τ).loc main_arg3) : Vec Ideal S2x160000 .i32) (ix2 1 x)) (mk_hi_lo 160 e)).trans (hA.gp e))
/-- The nodes' group words, as the first stage finds them. -/
theorem k_v6 (n : Fin 10000) : (V1 m ρ c main_v6 : Vec Ideal S10x1x1000 .i32) (ix3 (hi 10 n) 0 (lo 10 n)) = A.lab n :=
  (h0_v6 (W0 m ρ c) (hi 10 n) (lo 10 n)).trans
    ((congrArg (fun x : Fin 10000 => (m ((c : Thread nD τ).loc main_arg1) : Vec Ideal S10000 .i32) (ix1 x)) (mk_hi_lo 10 n)).trans (hA.lab n))
/-- The nodes' group words, as the first stage finds them. -/
theorem k_v12 (n : Fin 10000) : (V1 m ρ c main_v12 : Vec Ideal S10x1x1000 .i32) (ix3 (hi 10 n) 0 (lo 10 n)) = A.lab n :=
  (h0_v12 (W0 m ρ c) (hi 10 n) (lo 10 n)).trans
    ((congrArg (fun x : Fin 10000 => (m ((c : Thread nD τ).loc main_arg1) : Vec Ideal S10000 .i32) (ix1 x)) (mk_hi_lo 10 n)).trans (hA.lab n))

/-- A node's term of the grouping, weighted position. -/
theorem k_term_pos (g : Fin 512) (k : Fin 3) (n : Fin 10000) :
    grpTerm (V1 m ρ) c g ⟨k.val, by omega⟩ n = oh (A.lab n) g.val * (A.pos n k * A.wt n) := by
  unfold grpTerm
  refine congr (congrArg (fun x y : EReal => x * y) (congrArg (fun l => oh l g.val) (k_v12 ρ hA n))) ?_
  refine (h0_v11_pos (W0 m ρ c) n k).trans ?_
  exact congr (congrArg mulE (hA.pos n k)) (hA.wt n)
/-- A node's term of the grouping, the weight. -/
theorem k_term_wt (g : Fin 512) (n : Fin 10000) : grpTerm (V1 m ρ) c g 3 n = oh (A.lab n) g.val * A.wt n := by
  unfold grpTerm
  refine congr (congrArg (fun x y : EReal => x * y) (congrArg (fun l => oh l g.val) (k_v12 ρ hA n))) ?_
  exact (h0_v11_at (W0 m ρ c) n).trans (hA.wt n)
/-- A node's term of the grouping, the count. -/
theorem k_term_one (g : Fin 512) (n : Fin 10000) : grpTerm (V1 m ρ) c g 4 n = oh (A.lab n) g.val * 1 := by
  unfold grpTerm
  refine congr (congrArg (fun x y : EReal => x * y) (congrArg (fun l => oh l g.val) (k_v12 ρ hA n))) ?_
  exact h0_v11_one (W0 m ρ c) n

/-- The groups' centres. -/
theorem k_v13_0 (g : Fin 512) (k : Fin 8) :
    @Eq EReal ((V2 m ρ c main_v13_0 : Vec Ideal S512x8 .f32) (ix2 g k)) (if h : k.val < 3 then grp A g.val ⟨k.val, h⟩ else 0) := by
  refine (congrFun (W2_arr m ρ c 2) (ix2 g k)).trans ((grpFinal2 (V1 m ρ) c g k).trans ?_)
  by_cases h : k.val < 3
  · rw [if_pos h, dif_pos h]
    have e1 : ∀ n : Fin 10000, grpTerm (V1 m ρ) c g k n = _ := k_term_pos ρ hA g ⟨k.val, h⟩
    have e2 := k_term_wt ρ hA g
    rw [show ∑ n : Fin (10 * 1000), grpTerm (V1 m ρ) c g k n = _ from Finset.sum_congr rfl fun n _ => e1 n,
      show ∑ n : Fin (10 * 1000), grpTerm (V1 m ρ) c g 3 n = _ from Finset.sum_congr rfl fun n _ => e2 n]
    rfl
  · rw [if_neg h, dif_neg h]

/-- One over the groups' counts. -/
theorem k_v13_1 (g : Fin 512) : @Eq EReal ((V2 m ρ c main_v13_1 : Vec Ideal S1x512 .f32) (ix2 0 g)) (invc A g.val) := by
  refine (congrFun (W2_arr m ρ c 3) (ix2 0 g)).trans ((grpFinal3 (V1 m ρ) c g).trans ?_)
  rw [show ∑ n : Fin (10 * 1000), grpTerm (V1 m ρ) c g 4 n = _ from Finset.sum_congr rfl fun n _ => k_term_one ρ hA g n]
  rfl

/-- The first five hundred positions, padded. -/
theorem k_v17 (n : Fin 512) (k : Fin 8) : @Eq EReal ((V4 m ρ c main_v17 : Vec Ideal S512x8 .f32) (ix2 n k))
    (if h : n.val < 500 then if h1 : k.val < 3 then A.pos ⟨n.val, by omega⟩ ⟨k.val, h1⟩ else 0 else 0) := by
  refine (h1_v17 (W2 m ρ c) n k).trans ?_
  by_cases h : n.val < 500
  · rw [dif_pos h, dif_pos h]
    by_cases h1 : k.val < 3
    · rw [dif_pos h1, dif_pos h1]
      exact (congrFun (W2_args m ρ c main_arg0 (by decide)) _).trans (hA.pos _ _)
    · rw [dif_neg h1, dif_neg h1]
  · rw [dif_neg h, dif_neg h]

/-- An edge's vector, padded. -/
theorem k_vec (e : Fin 160000) (k : Fin 8) : geoVec (V4 m ρ) c e k = if h : k.val < 3 then evec A e ⟨k.val, h⟩ else 0 := by
  have hN := (A.N e).isLt
  have hG := (A.G e).isLt
  have e4 : (V4 m ρ c main_v4 : Vec Ideal S160x1x1000 .i32) (ix3 (hi 160 e) 0 (lo 160 e)) = BitVec.ofNat 32 (A.N e).val :=
    (congrFun (keep_v4_1_4 m ρ c) _).trans (k_v4 ρ hA e)
  have e5 : (V4 m ρ c main_v5 : Vec Ideal S160x1x1000 .i32) (ix3 (hi 160 e) 0 (lo 160 e)) = BitVec.ofNat 32 (A.G e).val :=
    (congrFun (keep_v5_1_4 m ρ c) _).trans (k_v5 ρ hA e)
  have e13 : ∀ g : Fin 512, @Eq EReal ((V4 m ρ c main_v13_0 : Vec Ideal S512x8 .f32) (ix2 g k)) (if h : k.val < 3 then grp A g.val ⟨k.val, h⟩ else 0) :=
    fun g => (congrFun (keep_v13_0_2_4 m ρ c) _).trans (k_v13_0 ρ hA g k)
  unfold geoVec
  rw [e4, e5]
  rw [show (∑ g : Fin 512, oh (BitVec.ofNat 32 (A.N e).val) g.val * (V4 m ρ c main_v17 : Vec Ideal S512x8 .f32) (ix2 g k)) = _ from
      oh_pick 512 (by norm_num) (A.N e).val (by omega) (fun g => (V4 m ρ c main_v17 : Vec Ideal S512x8 .f32) (ix2 g k)),
    show (∑ g : Fin 512, oh (BitVec.ofNat 32 (A.G e).val) g.val * (V4 m ρ c main_v13_0 : Vec Ideal S512x8 .f32) (ix2 g k)) = _ from
      oh_pick 512 (by norm_num) (A.G e).val (by omega) (fun g => (V4 m ρ c main_v13_0 : Vec Ideal S512x8 .f32) (ix2 g k))]
  refine (congr (congrArg (fun x y : EReal => x - y) (k_v17 ρ hA _ k)) (e13 _)).trans ?_
  by_cases h : k.val < 3
  · simp only [h, hN, dite_true]
    rfl
  · simp only [h, hN, dite_true, dite_false, sub_zero]

/-- An edge's length. -/
theorem k_dist (e : Fin 160000) : geoDist (V4 m ρ) c e = elen A e := by
  unfold geoDist elen
  simp only [show ∀ k : Fin 8, geoVec (V4 m ρ) c e k = _ from k_vec ρ hA e]
  rw [Fin.sum_univ_eight, Fin.sum_univ_three]
  simp

/-- The distance basis. -/
theorem k_v18_0 (e : Fin 160000) (b : Fin 32) : @Eq EReal ((V5 m ρ c main_v18_0 : Vec Ideal S160000x32 .f32) (ix2 e b)) (rad A e b) :=
  (congrFun (W5_arr m ρ c 4) (ix2 e b)).trans ((geoFinal4 (V4 m ρ) c e b).trans
    (congrArg (fun d => bump d _) (k_dist ρ hA e)))

/-- The harmonics. -/
theorem k_v18_1 (e : Fin 160000) (q : Fin 4) : @Eq EReal ((V5 m ρ c main_v18_1 : Vec Ideal S160000x4 .f32) (ix2 e q)) (shr A e q) := by
  refine (congrFun (W5_arr m ρ c 5) (ix2 e q)).trans ((geoFinal5 (V4 m ρ) c e q).trans ?_)
  unfold shr
  by_cases h : q.val = 0
  · rw [if_pos h, if_pos h]
  · rw [if_neg h, if_neg h]
    have hv := k_vec ρ hA e ⟨q.val % 3, by omega⟩
    rw [dif_pos (show q.val % 3 < 3 by omega)] at hv
    exact congr (congrArg (fun x y : EReal => x * y) (congrArg (fun x => _ * x) hv)) (congrArg (fun d => Ideal.div 1 (d + tiny)) (k_dist ρ hA e))

end Cert.KernelIdeal.Val
end
-- ==== Proof.RScat.lean ====
/- The reference's row sums: a scatter that adds rows by label words is, at each place, the sum over the labelled rows. -/
module

public import proofs.«01_k».proof.Proof.Spec
public import Idealize.ShloMosaic.Lib.Routing.OpsPair
public import Idealize.ShloMosaic.Lib.WordArith
public import Idealize.ShloMosaic.Lib.ValueIdxRank1

@[expose] public section

noncomputable section

namespace Cert.Spec

open Idealize.ShloMosaic hiding ix1 ix2 ix3 sum_idx2
open Idealize.ShloMosaic.ValueIdx Idealize.ShloMosaic.Routing

/-- A word read signed is a small number exactly when it is that number's word. -/
theorem toInt_eq_iff (w : BitVec 32) (r : ℕ) (hr : r < 2 ^ 31) : w.toInt = (r : Int) ↔ w = BitVec.ofNat 32 r := by
  constructor
  · intro h
    refine BitVec.eq_of_toInt_eq ?_
    rw [h, WordArith.toInt_ofNat_small r hr]
  · intro h
    rw [h, WordArith.toInt_ofNat_small r hr]

/-- Update `(e, c')` of a scatter of whole rows, one label word each, lands at `(r, c)` exactly when row `e`'s word,
    read signed, is `r` and the columns agree. -/
theorem rows_land {K C M : ℕ} (d : ScatterDims (shape2 K C) (shape2 M 1) (shape2 M C)) (huw : d.updateWindowDims = [1])
    (hiw : d.insertedWindowDims = [0]) (hsd : d.scatterDimsToOperandDims = [0]) (hivd : d.indexVectorDim = 1)
    (idx : IVec (shape2 M 1) 32) (e : Fin M) (c' : Fin C) (r : Fin K) (c : Fin C) :
    d.resultIdx? (ix2 e c') idx = some (ix2 r c) ↔ (idx (ix2 e (0 : Fin 1))).toInt = (r.val : Int) ∧ c' = c := by
  have hm : (0 : Fin 2) ∈ d.scatterDimsToOperandDims := by rw [hsd]; exact List.mem_singleton.2 rfl
  have hn : (1 : Fin 2) ∉ d.scatterDimsToOperandDims := by rw [hsd]; simp
  have hk : d.sKept = [1] := by
    show (shape2 K C).kept d.insertedWindowDims = _
    rw [hiw]
    rfl
  have hu : d.uScatter = [0] := by
    show (shape2 M C).kept d.updateWindowDims = _
    rw [huw]
    rfl
  have hs : d.siKept = [0] := by
    show (List.finRange 2).filter (fun x => decide (x.val ≠ d.indexVectorDim)) = _
    rw [hivd]
    rfl
  have one : ∀ (l : List (Fin 2)) (n : ℕ) (h : n < l.length) (m : Fin 2), l = [m] → l[n]'h = m := by
    intro l n h m hl
    subst hl
    simp
  have hw0 : d.window (ix2 e c') 0 = 0 := by
    unfold ScatterDims.window
    rw [dif_neg (by rw [hk]; simp)]
  have hw1 : d.window (ix2 e c') 1 = c'.val := by
    unfold ScatterDims.window
    rw [dif_pos (by rw [hk]; simp)]
    rw [one _ _ _ 1 huw]
  have hst1 : d.start (ix2 e c') idx 1 = 0 := by
    unfold ScatterDims.start
    rw [dif_neg hn]
  have hst0 : d.start (ix2 e c') idx 0 = (idx (ix2 e (0 : Fin 1))).toInt := by
    unfold ScatterDims.start
    rw [dif_pos hm]
    have hsi : d.siIdx (ix2 e c') ⟨d.scatterDimsToOperandDims.idxOf 0, List.idxOf_lt_length_iff.2 hm⟩ = ix2 e (0 : Fin 1) := by
      funext b'
      apply Fin.ext
      match b' with
      | ⟨0, _⟩ =>
        unfold ScatterDims.siIdx
        rw [dif_neg (by rw [hivd]; exact Nat.zero_ne_one)]
        unfold ScatterDims.siCoord
        simp only [Fin.val_cast]
        rw [one _ _ _ 0 hu]
      | ⟨1, _⟩ =>
        unfold ScatterDims.siIdx
        rw [dif_pos (by rw [hivd])]
        show List.idxOf (0 : Fin 2) d.scatterDimsToOperandDims = 0
        rw [hsd]; simp
    rw [hsi]
  rw [resultIdx?_ix2, hst0, hst1, hw0, hw1]
  constructor
  · rintro ⟨h1, h2⟩
    exact ⟨by omega, Fin.ext (by omega)⟩
  · rintro ⟨h1, h2⟩
    subst h2
    exact ⟨by omega, by omega⟩

/-- A scatter of whole rows with addition: what was there plus the sum of the rows labelled by this place. -/
theorem scat_rows {K C M : ℕ} (d : ScatterDims (shape2 K C) (shape2 M 1) (shape2 M C)) (huw : d.updateWindowDims = [1])
    (hiw : d.insertedWindowDims = [0]) (hsd : d.scatterDimsToOperandDims = [0]) (hivd : d.indexVectorDim = 1)
    (hK : K < 2 ^ 31) (v : (shape2 K C).Idx → EReal) (idx : IVec (shape2 M 1) 32) (upd : (shape2 M C).Idx → EReal)
    (r : Fin K) (c : Fin C) :
    Ideal.hostScatterAdd d v idx upd (ix2 r c)
      = v (ix2 r c) + seg (fun e : Fin M => idx (ix2 e (0 : Fin 1))) (fun e => upd (ix2 e c)) r.val := by
  unfold Ideal.hostScatterAdd seg
  refine congrArg (fun z : EReal => v (ix2 r c) + z) ?_
  rw [Finset.sum_filter, sum_idx2]
  refine Finset.sum_congr rfl fun e _ => ?_
  have hr := r.isLt
  have key : ∀ c' : Fin C, (if d.resultIdx? (ix2 e c') idx = some (ix2 r c) then upd (ix2 e c') else 0)
      = if c' = c then oh (idx (ix2 e (0 : Fin 1))) r.val * upd (ix2 e c) else 0 := by
    intro c'
    have hl := rows_land d huw hiw hsd hivd idx e c' r c
    rw [toInt_eq_iff _ _ (by omega)] at hl
    by_cases hc : c' = c
    · subst hc
      rw [if_pos rfl]
      unfold oh
      by_cases hw : idx (ix2 e (0 : Fin 1)) = BitVec.ofNat 32 r.val
      · rw [if_pos (hl.2 ⟨hw, rfl⟩), if_pos hw, one_mul]
      · rw [if_neg fun h => hw (hl.1 h).1, if_neg hw, zero_mul]
    · rw [if_neg hc, if_neg fun h => hc (hl.1 h).2]
  rw [Finset.sum_congr rfl fun c' _ => key c', Finset.sum_ite_eq' Finset.univ c, if_pos (Finset.mem_univ c)]

/-- Update `e` of a scatter of scalars, one label word each, lands at `r` exactly when the word, read signed, is `r`. -/
theorem scalars_land {K M : ℕ} (d : ScatterDims (shape1 K) (shape2 M 1) (shape1 M))
    (hiw : d.insertedWindowDims = [0]) (hsd : d.scatterDimsToOperandDims = [0]) (hivd : d.indexVectorDim = 1)
    (idx : IVec (shape2 M 1) 32) (e : Fin M) (r : Fin K) :
    d.resultIdx? (ix1 e) idx = some (ix1 r) ↔ (idx (ix2 e (0 : Fin 1))).toInt = (r.val : Int) := by
  have hm : (0 : Fin 1) ∈ d.scatterDimsToOperandDims := by rw [hsd]; exact List.mem_singleton.2 rfl
  have hw0 : d.window (ix1 e) 0 = 0 := by
    unfold ScatterDims.window
    rw [dif_neg fun h => (of_decide_eq_true (List.mem_filter.1 h).2) (by rw [hiw]; exact List.mem_singleton.2 rfl)]
  have hst0 : d.start (ix1 e) idx 0 = (idx (ix2 e (0 : Fin 1))).toInt := by
    unfold ScatterDims.start
    rw [dif_pos hm]
    have hsi : d.siIdx (ix1 e) ⟨d.scatterDimsToOperandDims.idxOf 0, List.idxOf_lt_length_iff.2 hm⟩ = ix2 e (0 : Fin 1) := by
      funext b'
      apply Fin.ext
      match b' with
      | ⟨0, _⟩ =>
        unfold ScatterDims.siIdx
        rw [dif_neg (by rw [hivd]; exact Nat.zero_ne_one)]
        unfold ScatterDims.siCoord
        simp only [Fin.val_cast]
        have h : ∀ X : Fin 1, (ix1 e X).val = e.val := fun X => by
          obtain rfl : X = 0 := Subsingleton.elim _ _
          rfl
        exact h _
      | ⟨1, _⟩ =>
        unfold ScatterDims.siIdx
        rw [dif_pos (by rw [hivd])]
        show List.idxOf (0 : Fin 1) d.scatterDimsToOperandDims = 0
        rw [hsd]; simp
    rw [hsi]
  rw [resultIdx?_ix1, hst0, hw0]
  constructor
  · intro h; omega
  · intro h; omega

/-- A scatter of scalars with addition: what was there plus the sum of the scalars labelled by this place. -/
theorem scat_scalars {K M : ℕ} (d : ScatterDims (shape1 K) (shape2 M 1) (shape1 M))
    (hiw : d.insertedWindowDims = [0]) (hsd : d.scatterDimsToOperandDims = [0]) (hivd : d.indexVectorDim = 1)
    (hK : K < 2 ^ 31) (v : (shape1 K).Idx → EReal) (idx : IVec (shape2 M 1) 32) (upd : (shape1 M).Idx → EReal)
    (r : Fin K) :
    Ideal.hostScatterAdd d v idx upd (ix1 r)
      = v (ix1 r) + seg (fun e : Fin M => idx (ix2 e (0 : Fin 1))) (fun e => upd (ix1 e)) r.val := by
  unfold Ideal.hostScatterAdd seg
  refine congrArg (fun z : EReal => v (ix1 r) + z) ?_
  rw [Finset.sum_filter, ← Equiv.sum_comp (idxEquiv1 (n := M)).symm]
  refine Finset.sum_congr rfl fun e _ => ?_
  have hr := r.isLt
  have hl := scalars_land d hiw hsd hivd idx e r
  rw [toInt_eq_iff _ _ (by omega)] at hl
  show (if d.resultIdx? (ix1 e) idx = some (ix1 r) then upd (ix1 e) else 0) = _
  unfold oh
  by_cases hw : idx (ix2 e (0 : Fin 1)) = BitVec.ofNat 32 r.val
  · rw [if_pos (hl.2 hw), if_pos hw, one_mul]
  · rw [if_neg fun h => hw (hl.1 h), if_neg hw, zero_mul]

end Cert.Spec

end
-- ==== Proof.RAlg.lean ====
/- Facts about extended reals the comparison needs: constants, quotients, roots. -/
module

public import proofs.«01_k».proof.Proof.Layer
public import Idealize.ShloMosaic.Lib.IdealHost

@[expose] public section

noncomputable section

namespace Cert.Spec

open Idealize.ShloMosaic

/-- The word for one half is one half. -/
theorem half_eq : half = ((1 / 2 : ℝ) : EReal) := by
  unfold half
  simp [Ideal.ofBits, Ideal.ieee, -EReal.coe_mul]; norm_num
/-- The word for minus one half. -/
theorem neg_half_eq : Ideal.ofBits .f32 0xBF000000#32 = ((-(1 / 2) : ℝ) : EReal) := by
  simp [Ideal.ofBits, Ideal.ieee, -EReal.coe_mul]; norm_num
/-- The word for the root of three, as a rational. -/
theorem rt3_eq : rt3 = ((14529495 / 8388608 : ℝ) : EReal) := by
  unfold rt3
  simp [Ideal.ofBits, Ideal.ieee, -EReal.coe_mul]; norm_num
/-- The word for the root of thirty-two, as a rational. -/
theorem rt32_eq : rt32 = ((11863283 / 2097152 : ℝ) : EReal) := by
  unfold rt32
  simp [Ideal.ofBits, Ideal.ieee, -EReal.coe_mul]; norm_num
/-- The offset of the harmonics' norm, as a rational. -/
theorem tiny_eq : tiny = ((9223372 / 9223372036854775808 : ℝ) : EReal) := by
  unfold tiny
  simp [Ideal.ofBits, Ideal.ieee, -EReal.coe_mul]; norm_num
/-- The offset of the normalization, as a rational. -/
theorem epsn_eq : epsn = ((10995116 / 1099511627776 : ℝ) : EReal) := by
  unfold epsn
  simp [Ideal.ofBits, Ideal.ieee, -EReal.coe_mul]; norm_num
/-- The word for sixty-four. -/
theorem c64_eq : c64 = ((64 : ℝ) : EReal) := by
  unfold c64
  simp [Ideal.ofBits, Ideal.ieee, -EReal.coe_mul]; norm_num
/-- The word for a hundred and ninety-two. -/
theorem c192_eq : c192 = ((192 : ℝ) : EReal) := by
  unfold c192
  simp [Ideal.ofBits, Ideal.ieee, -EReal.coe_mul]; norm_num
/-- The word for ten. -/
theorem ten_eq : Ideal.ofBits .f32 0x41200000#32 = ((10 : ℝ) : EReal) := by
  simp [Ideal.ofBits, Ideal.ieee, -EReal.coe_mul]; norm_num
/-- The word for thirty-one. -/
theorem thirtyone_eq : Ideal.ofBits .f32 0x41F80000#32 = ((31 : ℝ) : EReal) := by
  simp [Ideal.ofBits, Ideal.ieee, -EReal.coe_mul]; norm_num

/-- A quotient by what is not zero is a product with the inverse. -/
theorem div_ne (x y : EReal) (h : y ≠ 0) : Ideal.div x y = x * y⁻¹ := by
  unfold Ideal.div
  rw [if_neg h]

/-- A quotient by what is not zero is a product with the quotient of one. -/
theorem div_eq_mul_div_one (x y : EReal) (h : y ≠ 0) : Ideal.div x y = x * Ideal.div 1 y := by
  rw [div_ne x y h, div_ne 1 y h, one_mul]

/-- Dividing by the word for the root of thirty-two. -/
theorem div_rt32 (x : EReal) : Ideal.div x rt32 = x * rt32inv := by
  rw [rt32_eq, Ideal.div_coe (by norm_num), rt32inv]
  norm_num

/-- Half a quotient by the word for the root of three. -/
theorem half_div_rt3 (w d : EReal) : Ideal.div (half * w * d) rt3 = halfrt3inv * w * d := by
  rw [rt3_eq, Ideal.div_coe (by norm_num), half_eq, halfrt3inv, mul_comm, ← mul_assoc, ← mul_assoc, ← EReal.coe_mul]
  norm_num

/-- The power to minus one half is one over the root, of what is positive. -/
theorem pow_neg_half (x : EReal) (h : 0 < x) : Ideal.pow x (Ideal.ofBits .f32 0xBF000000#32) = Ideal.rsqrt x := by
  rw [neg_half_eq]
  induction x using EReal.rec with
  | bot => exact absurd h (by simp)
  | top =>
    show (if (0 : EReal) < ((-(1 / 2) : ℝ) : EReal) then ⊤ else if ((-(1 / 2) : ℝ) : EReal) = 0 then 1 else 0) = (0 : EReal)
    rw [if_neg, if_neg]
    · exact_mod_cast (by norm_num : ¬ (-(1 / 2) : ℝ) = 0)
    · exact_mod_cast (by norm_num : ¬ (0 : ℝ) < -(1 / 2))
  | coe r =>
    have hr : 0 < r := by exact_mod_cast h
    show ((Real.rpow r (-(1 / 2)) : ℝ) : EReal) = Ideal.rsqrt (r : EReal)
    rw [Ideal.rsqrt_coe, if_neg (not_lt.2 hr.le), if_neg hr.ne']
    refine congrArg _ ?_
    show r ^ (-(1 / 2) : ℝ) = _
    rw [Real.rpow_neg hr.le, ← Real.sqrt_eq_rpow]

/-- A square is not negative. -/
theorem sq_nonneg' (x : EReal) : 0 ≤ x * x := by
  induction x using EReal.rec with
  | bot => simp
  | top => simp
  | coe r => exact_mod_cast mul_self_nonneg r

/-- A sum of squares is not negative. -/
theorem sum_sq_nonneg {ι : Type} [Fintype ι] (f : ι → EReal) : 0 ≤ ∑ i, f i * f i :=
  Finset.sum_nonneg fun i _ => sq_nonneg' (f i)

/-- A mean of squares with the offset added is positive. -/
theorem mean_pos (s : EReal) (n : ℝ) (hn : 0 < n) (hs : 0 ≤ s) : 0 < Ideal.div s (n : EReal) + epsn := by
  rw [Ideal.div_coe hn.ne', epsn_eq]
  refine lt_of_lt_of_le (b := ((10995116 / 1099511627776 : ℝ) : EReal)) (by exact_mod_cast (by norm_num : (0:ℝ) < _)) ?_
  refine le_add_of_nonneg_left (mul_nonneg hs ?_)
  exact_mod_cast (by positivity : (0:ℝ) ≤ 1 / n)

/-- A root is not negative, of what is not negative. -/
theorem sqrt_nonneg' (x : EReal) (h : 0 ≤ x) : 0 ≤ Ideal.sqrt x := by
  induction x using EReal.rec with
  | bot => exact absurd h (by simp)
  | top => exact le_top
  | coe r =>
    have hr : 0 ≤ r := by exact_mod_cast h
    rw [Ideal.sqrt_coe, if_neg (not_lt.2 hr)]
    exact_mod_cast Real.sqrt_nonneg r

/-- A length with the offset added is not zero. -/
theorem len_ne (x : EReal) (h : 0 ≤ x) : Ideal.sqrt x + tiny ≠ 0 := by
  refine (lt_of_lt_of_le (b := tiny) ?_ (le_add_of_nonneg_left (sqrt_nonneg' x h))).ne'
  rw [tiny_eq]
  exact_mod_cast (by norm_num : (0:ℝ) < _)

/-- A factor that is finite and not negative moves out of a sum. -/
theorem sum_mul_left {ι : Type} (s : Finset ι) (c : EReal) (h0 : 0 ≤ c) (ht : c ≠ ⊤) (f : ι → EReal) :
    ∑ i ∈ s, c * f i = c * ∑ i ∈ s, f i := by
  classical
  induction s using Finset.induction_on with
  | empty => simp
  | insert a s ha ih => rw [Finset.sum_insert ha, Finset.sum_insert ha, ih, EReal.left_distrib_of_nonneg_of_ne_top h0 ht]

/-- The reciprocal of a count, at least one, is finite and not negative. -/
theorem inv_max_one (x : EReal) : 0 ≤ Ideal.div 1 (max x 1) ∧ Ideal.div 1 (max x 1) ≠ ⊤ ∧ max x 1 ≠ 0 := by
  have h1 : (1 : EReal) ≤ max x 1 := le_max_right _ _
  have hp : (0 : EReal) < max x 1 := lt_of_lt_of_le zero_lt_one h1
  rw [div_ne _ _ hp.ne', one_mul]
  refine ⟨EReal.inv_nonneg_of_nonneg hp.le, ?_, hp.ne'⟩
  generalize max x 1 = y at h1 hp
  induction y using EReal.rec with
  | bot => exact absurd hp (by simp)
  | top => simp
  | coe r => rw [← EReal.coe_inv]; exact EReal.coe_ne_top _

end Cert.Spec

end
-- ==== Proof.RGeo.lean ====
/- The reference's edges: centres of the groups, edge vectors and lengths, basis, harmonics, weights. -/
module

public import proofs.«01_k».proof.Proof.RScat
public import proofs.«01_k».proof.Proof.RAlg
public import Idealize.ShloMosaic.Lib.Routing.Ops
public import proofs.«01_k».proof.Proof.Gen.ReferenceIdeal.Read

@[expose] public section
set_option maxHeartbeats 4000000
noncomputable section
namespace Cert.ReferenceIdeal.Val
open Cert.ReferenceIdeal Cert.ReferenceIdeal.Gen Cert.ReferenceIdeal.Read Idealize.ShloMosaic Cert.Spec Idealize.ShloMosaic.Pointwise

/-- The reference's arguments, apart from the node features, are the given quantities. -/
structure Given (x0 : Vec Ideal S10000x3 .f32) (x1 : Vec Ideal S10000 .i32) (x2 : Vec Ideal S10000x1 .f32)
    (x3 : Vec Ideal S2x160000 .i32) (x5 : Vec Ideal S32x256 .f32) (x6 : Vec Ideal S2x64 .f32) (x7 : Vec Ideal S64 .f32)
    (A : Args) : Prop where
  pos : ∀ n k, @Eq EReal (x0 (ix2 n k)) (A.pos n k)
  lab : ∀ n, @Eq (BitVec 32) (x1 (ix1 n)) (A.lab n)
  wt : ∀ n, @Eq EReal (x2 (ix2 n 0)) (A.wt n)
  nd : ∀ e, @Eq (BitVec 32) (x3 (ix2 0 e)) (BitVec.ofNat 32 (A.N e).val)
  gp : ∀ e, @Eq (BitVec 32) (x3 (ix2 1 e)) (BitVec.ofNat 32 (A.G e).val)
  fcw : ∀ b j, @Eq EReal (x5 (ix2 b j)) (A.fcw b j)
  sc : ∀ v, @Eq EReal (x6 (ix2 0 v)) (A.sc v)
  vw : ∀ v, @Eq EReal (x6 (ix2 1 v)) A.vw
  bias : ∀ v, @Eq EReal (x7 (ix1 v)) (A.bias v)

variable {x0 : Vec Ideal S10000x3 .f32} {x1 : Vec Ideal S10000 .i32} {x2 : Vec Ideal S10000x1 .f32}
  {x3 : Vec Ideal S2x160000 .i32} {x5 : Vec Ideal S32x256 .f32} {x6 : Vec Ideal S2x64 .f32} {x7 : Vec Ideal S64 .f32}
  {A : Args} (hA : Given x0 x1 x2 x3 x5 x6 x7 A)
include hA

/-- The groups' sums of weighted positions. -/
theorem r_v4 (g : Fin 500) (k : Fin 3) :
    @Eq EReal (val_main_v4 (F := Ideal) x0 x1 x2 (ix2 g k)) (seg A.lab (fun n => A.pos n k * A.wt n) g.val) := by
  refine (scat_rows scatter_S500x3_S10000x1_S10000x3_1_0_0_1 rfl rfl rfl rfl (by norm_num) (val_main_v2 (F := Ideal))
    (val_main_v3 (F := Ideal) x1) (val_main_v1 (F := Ideal) x0 x2) g k).trans ?_
  have h0 : @Eq EReal (val_main_v2 (F := Ideal) (ix2 g k)) 0 := by pointwise [val_main_v2, val_main_cst]
  have h1 : ∀ e : Fin 10000, val_main_v3 (F := Ideal) x1 (ix2 e 0) = A.lab e := fun e => by
    refine Eq.trans ?_ (hA.lab e)
    pointwise [val_main_v3]
  have h2 : ∀ e : Fin 10000, @Eq EReal (val_main_v1 (F := Ideal) x0 x2 (ix2 e k)) (A.pos e k * A.wt e) := fun e => by
    rw [← hA.pos e k, ← hA.wt e]
    pointwise [val_main_v1, val_main_v0]
  refine (congrArg (fun z : EReal => z + _) h0).trans ((zero_add _).trans ?_)
  unfold seg
  refine Finset.sum_congr (M := EReal) rfl fun e _ => ?_
  exact congr (congrArg (fun x y : EReal => x * y) (congrArg (fun l => oh l g.val) (h1 e))) (h2 e)

/-- The groups' sums of weights. -/
theorem r_v7 (g : Fin 500) :
    @Eq EReal (val_main_v7 (F := Ideal) x1 x2 (ix2 g 0)) (seg A.lab A.wt g.val) := by
  refine (scat_rows scatter_S500x1_S10000x1_S10000x1_1_0_0_1 rfl rfl rfl rfl (by norm_num) (val_main_v5 (F := Ideal))
    (val_main_v6 (F := Ideal) x1) x2 g 0).trans ?_
  have h0 : @Eq EReal (val_main_v5 (F := Ideal) (ix2 g 0)) 0 := by pointwise [val_main_v5, val_main_cst_0]
  have h1 : ∀ e : Fin 10000, val_main_v6 (F := Ideal) x1 (ix2 e 0) = A.lab e := fun e => by
    refine Eq.trans ?_ (hA.lab e)
    pointwise [val_main_v6]
  refine (congrArg (fun z : EReal => z + _) h0).trans ((zero_add _).trans ?_)
  unfold seg
  refine Finset.sum_congr (M := EReal) rfl fun e _ => ?_
  exact congr (congrArg (fun x y : EReal => x * y) (congrArg (fun l => oh l g.val) (h1 e))) (hA.wt e)

/-- The groups' centres. -/
theorem r_v12 (g : Fin 500) (k : Fin 3) :
    @Eq EReal (val_main_v12 (F := Ideal) x0 x1 x2 (ix2 g k)) (grp A g.val k) := by
  unfold grp
  rw [← r_v4 hA g k, ← r_v7 hA g]
  pointwise [val_main_v12, val_main_v11, val_main_v10, val_main_v9, val_main_v8, val_main_call0_v1, val_main_call0_v0, val_main_cst_1, val_main_cst_2]
  have h1 : (id (constant (F := Ideal) S_ FTy.f32 1065353216#32) ix0 : EReal) = 1 := Ideal.ofBits_one_f32
  simp only [h1]

/-- The edges' node words. -/
theorem r_v14 (e : Fin 160000) : val_main_v14 (F := Ideal) x3 (ix1 e) = BitVec.ofNat 32 (A.N e).val := by
  rw [← hA.nd e]
  pointwise [val_main_v14, val_main_v13]
/-- The edges' group words. -/
theorem r_v16 (e : Fin 160000) : val_main_v16 (F := Ideal) x3 (ix1 e) = BitVec.ofNat 32 (A.G e).val := by
  rw [← hA.gp e]
  pointwise [val_main_v16, val_main_v15]

/-- The node words again, after the wrap of negative ones. -/
theorem r_v22 (e : Fin 160000) : val_main_v22 (F := Ideal) x3 (ix2 e 0) = BitVec.ofNat 32 (A.N e).val := by
  have h := (A.N e).isLt
  refine Eq.trans ?_ (Routing.wrap_of_lt (BitVec.ofNat 32 (A.N e).val) (IntOp.addi (BitVec.ofNat 32 (A.N e).val) 10000#32) (by rw [BitVec.toNat_ofNat]; omega))
  rw [← r_v14 hA e]
  pointwise [val_main_v22, val_main_v21, val_main_v20, val_main_v19, val_main_v18, val_main_v17, val_main_c, val_main_c_3]

/-- The group words again, after the wrap of negative ones. -/
theorem r_v29 (e : Fin 160000) : val_main_v29 (F := Ideal) x3 (ix2 e 0) = BitVec.ofNat 32 (A.G e).val := by
  have h := (A.G e).isLt
  refine Eq.trans ?_ (Routing.wrap_of_lt (BitVec.ofNat 32 (A.G e).val) (IntOp.addi (BitVec.ofNat 32 (A.G e).val) 500#32) (by rw [BitVec.toNat_ofNat]; omega))
  rw [← r_v16 hA e]
  pointwise [val_main_v29, val_main_v28, val_main_v27, val_main_v26, val_main_v25, val_main_v24, val_main_c_4, val_main_c_5]

/-- The group words again, after the wrap of negative ones. -/
theorem r_v75 (e : Fin 160000) : val_main_v75 (F := Ideal) x3 (ix2 e 0) = BitVec.ofNat 32 (A.G e).val := by
  have h := (A.G e).isLt
  refine Eq.trans ?_ (Routing.wrap_of_lt (BitVec.ofNat 32 (A.G e).val) (IntOp.addi (BitVec.ofNat 32 (A.G e).val) 500#32) (by rw [BitVec.toNat_ofNat]; omega))
  rw [← r_v16 hA e]
  pointwise [val_main_v75, val_main_v74, val_main_v73, val_main_v72, val_main_v71, val_main_v70, val_main_c_17, val_main_c_18]

/-- The node words again, after the wrap of negative ones. -/
theorem r_v121 (e : Fin 160000) : val_main_v121 (F := Ideal) x3 (ix2 e 0) = BitVec.ofNat 32 (A.N e).val := by
  have h := (A.N e).isLt
  refine Eq.trans ?_ (Routing.wrap_of_lt (BitVec.ofNat 32 (A.N e).val) (IntOp.addi (BitVec.ofNat 32 (A.N e).val) 10000#32) (by rw [BitVec.toNat_ofNat]; omega))
  rw [← r_v14 hA e]
  pointwise [val_main_v121, val_main_v120, val_main_v119, val_main_v118, val_main_v117, val_main_v116, val_main_c_24, val_main_c_25]

/-- The edges' node positions. -/
theorem r_v23 (e : Fin 160000) (k : Fin 3) : @Eq EReal (val_main_v23 (F := Ideal) x0 x3 (ix2 e k)) (A.pos (big (A.N e)) k) := by
  have h := (A.N e).isLt
  refine (Routing.gather_row gather_S10000x3_S160000x1_S160000x3_1_0_n_n_0_1_13 rfl rfl rfl rfl rfl x0 (val_main_v22 (F := Ideal) x3) e k
    (big (A.N e)) (r_v22 hA e) (by norm_num)).trans ?_
  exact hA.pos (big (A.N e)) k
/-- The edges' group centres. -/
theorem r_v30 (e : Fin 160000) (k : Fin 3) : @Eq EReal (val_main_v30 (F := Ideal) x0 x1 x2 x3 (ix2 e k)) (grp A (A.G e).val k) := by
  refine (Routing.gather_row gather_S500x3_S160000x1_S160000x3_1_0_n_n_0_1_13 rfl rfl rfl rfl rfl (val_main_v12 (F := Ideal) x0 x1 x2)
    (val_main_v29 (F := Ideal) x3) e k (A.G e) (r_v29 hA e) (by norm_num)).trans ?_
  exact r_v12 hA (A.G e) k
/-- The edges' vectors. -/
theorem r_v31 (e : Fin 160000) (k : Fin 3) : @Eq EReal (val_main_v31 (F := Ideal) x0 x1 x2 x3 (ix2 e k)) (evec A e k) := by
  unfold evec
  rw [← r_v23 hA e k, ← r_v30 hA e k]
  pointwise [val_main_v31]
/-- The edges' lengths. -/
theorem r_v32 (e : Fin 160000) : @Eq EReal (val_main_v32 (F := Ideal) x0 x1 x2 x3 (ix2 e 0)) (elen A e) := by
  unfold elen
  simp only [← r_v31 hA e]
  pointwise [val_main_v32, val_main_call1_v2, val_main_call1_v1, val_main_call1_cst, val_main_call1_v0]

omit hA in
/-- The basis centres: ten thirty-firsts apart, from zero to ten. -/
theorem r_v33 (b : Fin 32) : @Eq EReal (val_main_v33 (F := Ideal) (ix1 b)) (((b.val : ℝ) : EReal) * ((10 / 31 : ℝ) : EReal)) := by
  pointwise [val_main_v33, val_main_call2_v0, val_main_call2_v1, val_main_call2_v2, val_main_call2_v3, val_main_call2_v4, val_main_call2_v5, val_main_call2_v6,
    val_main_call2_v7, val_main_call2_v8, val_main_call2_v9, val_main_call2_v10, val_main_call2_v11, val_main_call2_v12, val_main_call2_v13, val_main_call2_v14,
    val_main_call2_v15, val_main_call2_v16, val_main_call2_cst, val_main_call2_cst_0, val_main_call2_cst_1, val_main_cst_6, val_main_cst_7]
  have h0 : (id (constant (F := Ideal) S_ FTy.f32 0#32) ix0 : EReal) = 0 := Ideal.ofBits_zero_f32
  have h10 : (id (constant (F := Ideal) S_ FTy.f32 1092616192#32) ix0 : EReal) = ((10 : ℝ) : EReal) := ten_eq
  have hb : (FloatOps.sitofp (F := Ideal) FTy.f32 (BitVec.ofNat 32 b.val) : EReal) = ((b.val : ℝ) : EReal) := by
    show (((BitVec.ofNat 32 b.val).toInt : ℝ) : EReal) = _
    rw [WordArith.toInt_ofNat_small _ (by omega)]
    rfl
  simp only [h0, h10, hb, thirtyone_eq, zero_mul, zero_add]
  split
  · rw [Ideal.div_coe (by norm_num), ← EReal.coe_mul, ← EReal.coe_mul, ← EReal.coe_mul]
    refine congrArg _ ?_
    ring
  · have h31 : b.val = 31 := by omega
    rw [h31, ← EReal.coe_mul]
    refine congrArg _ ?_
    norm_num

/-- The edges' basis values. -/
theorem r_v42 (e : Fin 160000) (b : Fin 32) : @Eq EReal (val_main_v42 (F := Ideal) x0 x1 x2 x3 (ix2 e b)) (rad A e b) := by
  unfold rad bump width
  rw [← r_v33 b, ← r_v32 hA e, zero_sub]
  pointwise [val_main_v42, val_main_v41, val_main_v40, val_main_v39, val_main_v38, val_main_v37, val_main_v36, val_main_v35, val_main_v34, val_main_cst_8]

/-- The edges' vectors, the coordinates turned by one place. -/
theorem r_v45 (e : Fin 160000) (k : Fin 3) : @Eq EReal (val_main_v45 (F := Ideal) x0 x1 x2 x3 (ix2 e k)) (evec A e ⟨(k.val + 1) % 3, Nat.mod_lt _ (by norm_num)⟩) := by
  rw [← r_v31 hA e]
  fin_cases k <;> pointwise [val_main_v45, val_main_v44, val_main_v43] <;> rfl

/-- The turned vectors' lengths, with the offset. -/
theorem r_v48 (e : Fin 160000) : @Eq EReal (val_main_v48 (F := Ideal) x0 x1 x2 x3 (ix2 e 0)) (elen A e + tiny) := by
  have h : elen A e = Ideal.sqrt (∑ k : Fin 3, @HMul.hMul EReal EReal EReal _ (val_main_v45 (F := Ideal) x0 x1 x2 x3 (ix2 e k)) (val_main_v45 (F := Ideal) x0 x1 x2 x3 (ix2 e k))) := by
    simp only [r_v45 hA e]
    unfold elen
    rw [Fin.sum_univ_three, Fin.sum_univ_three]
    refine congrArg Ideal.sqrt ?_
    show evec A e 0 * evec A e 0 + evec A e 1 * evec A e 1 + evec A e 2 * evec A e 2
      = evec A e 1 * evec A e 1 + evec A e 2 * evec A e 2 + evec A e 0 * evec A e 0
    rw [add_assoc, add_comm]
  rw [h]
  unfold tiny
  pointwise [val_main_v48, val_main_v47, val_main_v46, val_main_call3_v2, val_main_call3_v1, val_main_call3_cst, val_main_call3_v0, val_main_cst_9]

/-- The edges' harmonics. -/
theorem r_v54 (e : Fin 160000) (q : Fin 4) : @Eq EReal (val_main_v54 (F := Ideal) x0 x1 x2 x3 (ix2 e q)) (shr A e q) := by
  have hn : elen A e + tiny ≠ 0 := len_ne _ (sum_sq_nonneg _)
  have key : ∀ k : Fin 3, @Eq EReal (val_main_v53 (F := Ideal) x0 x1 x2 x3 (ix2 e k))
      (rt3 * evec A e ⟨(k.val + 1) % 3, Nat.mod_lt _ (by norm_num)⟩ * Ideal.div 1 (elen A e + tiny)) := fun k => by
    rw [mul_assoc, ← div_eq_mul_div_one _ _ hn, ← r_v45 hA e k, ← r_v48 hA e]
    unfold rt3
    pointwise [val_main_v53, val_main_v52, val_main_v50, val_main_v49, val_main_cst_11]
  unfold shr
  have h : @Eq EReal (val_main_v54 (F := Ideal) x0 x1 x2 x3 (ix2 e q))
      (if h : q.val < 1 then 1 else val_main_v53 (F := Ideal) x0 x1 x2 x3 (ix2 e ⟨q.val - 1, by omega⟩)) := by
    pointwise [val_main_v54, val_main_v51, val_main_cst_10]
  rw [h]
  by_cases hq : q.val = 0
  · rw [if_pos hq, dif_pos (by omega)]
  · rw [if_neg hq, dif_neg (by omega), key]
    have hk : ∀ x y : Fin 3, x = y → rt3 * evec A e x * Ideal.div 1 (elen A e + tiny) = rt3 * evec A e y * Ideal.div 1 (elen A e + tiny) :=
      fun x y h => by rw [h]
    exact hk _ _ (Fin.ext (by show (q.val - 1 + 1) % 3 = q.val % 3; rw [Nat.sub_add_cancel (by omega)]))

/-- The edges' weights. -/
theorem r_v69 (e : Fin 160000) (j : Fin 256) : @Eq EReal (val_main_v69 (F := Ideal) x0 x1 x2 x3 x5 (ix2 e j)) (wts A e j) := by
  unfold wts
  rw [← div_rt32]
  simp only [← r_v42 hA e, ← hA.fcw]
  unfold rt32
  pointwise [val_main_v69, val_main_v68, val_main_v67, val_main_cst_16]

end Cert.ReferenceIdeal.Val
end
-- ==== Proof.Given.lean ====
/- From the precondition to the given quantities: edge words that number nodes and groups, one scale for all vector channels. -/
module

public import proofs.«01_k».proof.Defs
public import proofs.«01_k».proof.Proof.Gen.Pre_in_range
public import proofs.«01_k».proof.Proof.KGeo
public import proofs.«01_k».proof.Proof.RGeo

@[expose] public section
set_option maxHeartbeats 4000000
noncomputable section
namespace Cert.Join
open Idealize.ShloMosaic Idealize.ShloMosaic.TcCoe Cert.Spec Idealize.ShloMosaic.Pointwise

/-- A word that passes both comparisons is a number below five hundred. -/
theorem word_lt (w : BitVec 32) (h : IntOp.andi (IntOp.cmpi .sge w 0#32) (IntOp.cmpi .slt w 500#32) = 1#1) :
    ∃ i : Fin 500, w = BitVec.ofNat 32 i.val := by
  simp only [IntOp.cmpi, WordArith.andi_ofBool, WordArith.ofBool_eq_one_iff, Bool.and_eq_true] at h
  obtain ⟨h0, h1⟩ := h
  rw [BitVec.sle_iff_toInt_le] at h0
  rw [BitVec.slt_iff_toInt_lt] at h1
  have e0 : (0#32 : BitVec 32).toInt = 0 := by decide
  have e5 : (500#32 : BitVec 32).toInt = 500 := by decide
  rw [e0] at h0
  rw [e5] at h1
  refine ⟨⟨w.toInt.toNat, by omega⟩, (toInt_eq_iff w _ (by show w.toInt.toNat < 2 ^ 31; omega)).1 ?_⟩
  show w.toInt = (w.toInt.toNat : Int)
  omega

variable (m : (ℓ : Loc Cert.KernelIdeal.nD Cert.KernelIdeal.τ Cert.KernelIdeal.sig) → Buf (Elt Ideal) ℓ)

/-- Arguments within the precondition are given quantities. -/
theorem exists_args (h : Cert.Pre_KernelIdeal_in_range m) (c : Dev Cert.KernelIdeal.nD) : ∃ A : Args, Cert.KernelIdeal.Val.Given m c A := by
  obtain ⟨h1, h2⟩ := h c
  have hw : ∀ (r : Fin 2) (e : Fin 160000), ∃ i : Fin 500,
      @Eq (BitVec 32) ((m ((c : Thread Cert.KernelIdeal.nD Cert.KernelIdeal.τ).loc Cert.KernelIdeal.main_arg3) : Vec Ideal ⟨2, ![2, 160000]⟩ .i32) (ix2 r e)) (BitVec.ofNat 32 i.val) :=
    fun r e => word_lt _ (by
      refine Eq.trans ?_ (congrFun h1 (ix2 r e))
      pointwise [Cert.Pre_in_range.fn])
  have hs : ∀ v : Fin 64, @Eq EReal ((m ((c : Thread Cert.KernelIdeal.nD Cert.KernelIdeal.τ).loc Cert.KernelIdeal.main_arg6) : Vec Ideal ⟨2, ![2, 64]⟩ .f32) (ix2 1 v))
      ((m ((c : Thread Cert.KernelIdeal.nD Cert.KernelIdeal.τ).loc Cert.KernelIdeal.main_arg6) : Vec Ideal ⟨2, ![2, 64]⟩ .f32) (ix2 1 0)) := fun v => by
    have := congrFun h2 (ix2 0 v)
    revert this
    pointwise [Cert.Pre_in_range.fn]
    intro h
    rw [WordArith.ofBool_eq_one_iff] at h
    exact of_decide_eq_true h
  choose N hN using hw 0
  choose G hG using hw 1
  exact ⟨{ lab := fun n => (m ((c : Thread Cert.KernelIdeal.nD Cert.KernelIdeal.τ).loc Cert.KernelIdeal.main_arg1) : Vec Ideal ⟨1, ![10000]⟩ .i32) (ix1 n)
           wt := fun n => (m ((c : Thread Cert.KernelIdeal.nD Cert.KernelIdeal.τ).loc Cert.KernelIdeal.main_arg2) : Vec Ideal ⟨2, ![10000, 1]⟩ .f32) (ix2 n 0)
           pos := fun n k => (m ((c : Thread Cert.KernelIdeal.nD Cert.KernelIdeal.τ).loc Cert.KernelIdeal.main_arg0) : Vec Ideal ⟨2, ![10000, 3]⟩ .f32) (ix2 n k)
           N := N
           G := G
           fcw := fun b j => (m ((c : Thread Cert.KernelIdeal.nD Cert.KernelIdeal.τ).loc Cert.KernelIdeal.main_arg5) : Vec Ideal ⟨2, ![32, 256]⟩ .f32) (ix2 b j)
           sc := fun v => (m ((c : Thread Cert.KernelIdeal.nD Cert.KernelIdeal.τ).loc Cert.KernelIdeal.main_arg6) : Vec Ideal ⟨2, ![2, 64]⟩ .f32) (ix2 0 v)
           vw := (m ((c : Thread Cert.KernelIdeal.nD Cert.KernelIdeal.τ).loc Cert.KernelIdeal.main_arg6) : Vec Ideal ⟨2, ![2, 64]⟩ .f32) (ix2 1 0)
           bias := fun v => (m ((c : Thread Cert.KernelIdeal.nD Cert.KernelIdeal.τ).loc Cert.KernelIdeal.main_arg7) : Vec Ideal ⟨1, ![64]⟩ .f32) (ix1 v) },
    { pos := fun _ _ => rfl, lab := fun _ => rfl, wt := fun _ => rfl, nd := hN, gp := hG, fcw := fun _ _ => rfl, sc := fun _ => rfl, vw := hs, bias := fun _ => rfl }⟩

end Cert.Join
end
-- ==== Proof.HostPerm.lean ====
/- The column-reordering matrix the host operations build. -/
module

public import proofs.«01_k».proof.Proof.Gen.KernelIdeal.Frame.Fold0
public import Idealize.ShloMosaic.Lib.StableHlo.ReadAt
public import Idealize.ShloMosaic.Lib.Pointwise
public import proofs.«01_k».proof.Proof.Spec

@[expose] public section
set_option maxHeartbeats 4000000
noncomputable section
namespace Cert.KernelIdeal.Val
open Cert.KernelIdeal Cert.KernelIdeal.Gen Idealize.ShloMosaic Idealize.ShloMosaic.TcCoe Cert.Spec Idealize.ShloMosaic.Pointwise Idealize.ShloMosaic.StableHlo

variable (U : Valuation τ sig (Elt Ideal))

/-- The list of columns: place `n` names the column `perm n`. -/
theorem h2_v49 (n : Fin 256) : @Eq (BitVec 32) ((after hostOps2_4 (after hostOps2_3 (after hostOps2_2 (after hostOps2_1 (after hostOps2 U)))) (Proc.devRef .tc main_v49) : Vec Ideal S256 .i32) (ix1 n)) (BitVec.ofNat 32 (perm n).val) := by
  after_reads_at
  after_reads_at
  have hc : (id (constantI S_ 32 64#32) ix0 : BitVec 32) = 64#32 := rfl
  simp only [hc]
  revert n
  decide +kernel

/-- The columns' gather, read at an index. -/
theorem gather_cols {α : Type} (x : S256x256.Idx → α) (idx : IVec S256x1 32) (n k q : Fin 256) (h : idx (ix2 k 0) = BitVec.ofNat 32 q.val) :
    Host.gather gather_S256x256_S256x1_S256x256_0_1_n_n_1_1_2561 x idx (ix2 n k) = x (ix2 n q) := by
  unfold Host.gather
  refine congrArg x (funext fun a => Fin.ext ?_)
  match a with
  | ⟨0, _⟩ =>
    show GatherDims.start gather_S256x256_S256x1_S256x256_0_1_n_n_1_1_2561 (ix2 n k) idx 0 + GatherDims.batchCoord gather_S256x256_S256x1_S256x256_0_1_n_n_1_1_2561 (ix2 n k) 0 + GatherDims.offCoord gather_S256x256_S256x1_S256x256_0_1_n_n_1_1_2561 (ix2 n k) 0 = n.val
    have hm : (0 : Fin 2) ∉ gather_S256x256_S256x1_S256x256_0_1_n_n_1_1_2561.startIndexMap := by decide
    have hk : (0 : Fin 2) ∈ gather_S256x256_S256x1_S256x256_0_1_n_n_1_1_2561.sKept := (GatherDims.mem_sKept _ 0).2 ⟨by decide, by decide⟩
    rw [GatherDims.batchCoord_eq_zero _ _ _ (by decide), Nat.add_zero]
    unfold GatherDims.start GatherDims.offCoord
    rw [dif_neg hm, dif_pos hk, Nat.zero_add]
    have e0 : ∀ X : Fin 2, X = 0 → (ix2 n k X).val = n.val := fun X h => by subst h; rfl
    exact e0 _ (List.mem_singleton.1 (List.getElem_mem _))
  | ⟨1, _⟩ =>
    have hs : gather_S256x256_S256x1_S256x256_0_1_n_n_1_1_2561.siIdx (ix2 n k) ⟨0, by decide⟩ = ix2 k (0 : Fin 1) := by
      funext b
      match b with
      | ⟨0, _⟩ => rfl
      | ⟨1, _⟩ => rfl
    have e : GatherDims.start gather_S256x256_S256x1_S256x256_0_1_n_n_1_1_2561 (ix2 n k) idx 1 = min (idx (gather_S256x256_S256x1_S256x256_0_1_n_n_1_1_2561.siIdx (ix2 n k) ⟨0, by decide⟩)).toInt.toNat 255 := rfl
    show GatherDims.start gather_S256x256_S256x1_S256x256_0_1_n_n_1_1_2561 (ix2 n k) idx 1 + 0 + 0 = q.val
    have hq := q.isLt
    rw [e, hs, h, BitVec.toInt_eq_toNat_of_lt (by rw [BitVec.toNat_ofNat]; omega), BitVec.toNat_ofNat, Nat.mod_eq_of_lt (by omega)]
    omega

/-- The identity matrix's element, converted from the comparison. -/
theorem eye_elt (n k : Fin 256) : @Eq EReal (FloatOps.uitofp (F := Ideal) FTy.f32 (IntOp.cmpi CmpIPredicate.eq (IntOp.addi (BitVec.ofNat 32 n.val) 0#32) (BitVec.ofNat 32 k.val))) (if n = k then 1 else 0) := by
  have h : IntOp.cmpi CmpIPredicate.eq (IntOp.addi (BitVec.ofNat 32 n.val) 0#32) (BitVec.ofNat 32 k.val) = if n = k then 1#1 else 0#1 := by
    have e : (BitVec.ofNat 32 n.val + 0#32 == BitVec.ofNat 32 k.val) = decide (n = k) := by
      rw [Bool.eq_iff_iff, beq_iff_eq, decide_eq_true_eq]
      constructor
      · intro h
        have h' := congrArg BitVec.toNat h
        simp only [BitVec.add_zero, BitVec.toNat_ofNat] at h'
        exact Fin.ext (by omega)
      · rintro rfl
        simp
    show BitVec.ofBool (BitVec.ofNat 32 n.val + 0#32 == BitVec.ofNat 32 k.val) = _
    rw [e]
    by_cases h : n = k
    · rw [if_pos h, decide_eq_true h]; rfl
    · rw [if_neg h, decide_eq_false h]; rfl
  rw [h]
  by_cases e : n = k
  · rw [if_pos e, if_pos e]
    show (((1#1 : BitVec 1).toNat : ℝ) : EReal) = 1
    norm_num
  · rw [if_neg e, if_neg e]
    show (((0#1 : BitVec 1).toNat : ℝ) : EReal) = 0
    norm_num

/-- The column-reordering matrix. -/
theorem h2_v51 (n k : Fin 256) : @Eq EReal ((after hostOps2_4 (after hostOps2_3 (after hostOps2_2 (after hostOps2_1 (after hostOps2 U)))) (Proc.devRef .tc main_v51) : Vec Ideal S256x256 .f32) (ix2 n k)) (if n = perm k then 1 else 0) := by
  have hi := h2_v49 U k
  have he : ∀ n k : Fin 256, @Eq EReal ((after hostOps2_4 (after hostOps2_3 (after hostOps2_2 (after hostOps2_1 (after hostOps2 U)))) (Proc.devRef .tc main_v44) : Vec Ideal S256x256 .f32) (ix2 n k)) (if n = k then 1 else 0) := fun n k => by
    after_reads_at
    exact eye_elt n k
  have hb : (after hostOps2_4 (after hostOps2_3 (after hostOps2_2 (after hostOps2_1 (after hostOps2 U)))) (Proc.devRef .tc main_v51) : Vec Ideal S256x256 .f32)
      = Host.gather gather_S256x256_S256x1_S256x256_0_1_n_n_1_1_2561 (after hostOps2_4 (after hostOps2_3 (after hostOps2_2 (after hostOps2_1 (after hostOps2 U)))) (Proc.devRef .tc main_v44) : Vec Ideal S256x256 .f32)
        (broadcastInDim S256x1 ![0] bcast_S256_S256x1_0 (after hostOps2_4 (after hostOps2_3 (after hostOps2_2 (after hostOps2_1 (after hostOps2 U)))) (Proc.devRef .tc main_v49) : Vec Ideal S256 .i32)) := by
    after_reads_simp
  rw [hb, gather_cols _ _ n k (perm k) (by pointwise; exact hi)]
  exact he n (perm k)

/-- The reordering matrix transposed. -/
theorem h2_v52 (n k : Fin 256) : @Eq EReal ((after hostOps2_4 (after hostOps2_3 (after hostOps2_2 (after hostOps2_1 (after hostOps2 U)))) (Proc.devRef .tc main_v52) : Vec Ideal S256x256 .f32) (ix2 n k)) (if k = perm n then 1 else 0) := by
  have hb : (after hostOps2_4 (after hostOps2_3 (after hostOps2_2 (after hostOps2_1 (after hostOps2 U)))) (Proc.devRef .tc main_v52) : Vec Ideal S256x256 .f32)
      = transpose S256x256 [1, 0] (after hostOps2_4 (after hostOps2_3 (after hostOps2_2 (after hostOps2_1 (after hostOps2 U)))) (Proc.devRef .tc main_v51) : Vec Ideal S256x256 .f32) transposes_S256x256_S256x256_1_0 := by
    after_reads_simp
  rw [hb, ← h2_v51 U k n]
  generalize (after hostOps2_4 (after hostOps2_3 (after hostOps2_2 (after hostOps2_1 (after hostOps2 U)))) (Proc.devRef .tc main_v51) : Vec Ideal S256x256 .f32) = y
  pointwise

end Cert.KernelIdeal.Val

end
-- ==== Proof.Blk2.lean ====
/- Region 2 of the kernel: each input block as the rows of its array, and what the accumulated outputs hold after each
   point as terms of the blocks. -/
module

public import proofs.«01_k».proof.Proof.Gen.KernelIdeal.Frame.Region2
public import Idealize.ShloMosaic.Lib.Pipeline.Value
public import Idealize.ShloMosaic.Lib.Pointwise

@[expose] public section

noncomputable section

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.Pointwise

section
variable {F : FTy → Type} [FloatOps F] [Named F]
variable (V : (c : Dev nD) → (b : Ref sig .tc) → Buf (Elt F) ((c : Thread nD τ).loc b))

/-- Where input window 0 stands at each grid point. -/
theorem idx2_0 : ∀ t : Fin cfg2.N, win2_0.index t (0 : Fin 3) = t.val ∧ win2_0.index t (1 : Fin 3) = 0 ∧ win2_0.index t (2 : Fin 3) = 0 :=
  (by decide +kernel : ∀ t : Fin grid2.N, _)

/-- Window 0's block at point `t` is the array's block `t`. -/
theorem rd2_0 (c : Dev nD) (t : Fin cfg2.N) (r : Fin 1000) (s : Fin 10) (hs : s.val = t.val) :
    (iblk2 V c 0 t : Vec F S1x1x1000 .i32) (ix3 0 0 r) = (V c main_v6 : Vec F S10x1x1000 .i32) (ix3 s 0 r) := by
  obtain ⟨h0, h1, h2⟩ := idx2_0 t
  show V c main_v6 (((cfg2.win 0).blk t).view.emb (ix3 0 0 r)) = V c main_v6 (ix3 s 0 r)
  refine congrArg (V c main_v6) ?_
  funext a; apply Fin.ext
  match a with
  | ⟨0, _⟩ => show win2_0.index t (0 : Fin 3) * 1 + 1 * 0 = s.val; omega
  | ⟨1, _⟩ => show win2_0.index t (1 : Fin 3) * 1 + 1 * 0 = 0; omega
  | ⟨2, _⟩ => show win2_0.index t (2 : Fin 3) * 1000 + 1 * r.val = r.val; omega

/-- Where input window 1 stands at each grid point. -/
theorem idx2_1 : ∀ t : Fin cfg2.N, win2_1.index t (0 : Fin 2) = t.val ∧ win2_1.index t (1 : Fin 2) = 0 :=
  (by decide +kernel : ∀ t : Fin grid2.N, _)

/-- Window 1's block at point `t` is the array's rows `1000·t …`. -/
theorem rd2_1 (c : Dev nD) (t : Fin cfg2.N) (r : Fin 1000) (j : Fin 256) (e : Fin 10000) (he : e.val = 1000 * t.val + r.val) :
    (iblk2 V c 1 t : Vec F S1000x256 .f32) (ix2 r j) = (V c main_arg4 : Vec F S10000x256 .f32) (ix2 e j) := by
  obtain ⟨h0, h1⟩ := idx2_1 t
  show V c main_arg4 (((cfg2.win 1).blk t).view.emb (ix2 r j)) = V c main_arg4 (ix2 e j)
  refine congrArg (V c main_arg4) ?_
  funext a; apply Fin.ext
  match a with
  | ⟨0, _⟩ => show win2_1.index t (0 : Fin 2) * 1000 + 1 * r.val = e.val; omega
  | ⟨1, _⟩ => show win2_1.index t (1 : Fin 2) * 256 + 1 * j.val = j.val; omega

/-- Where input window 2 stands at each grid point. -/
theorem idx2_2 : ∀ t : Fin cfg2.N, win2_2.index t (0 : Fin 2) = 0 ∧ win2_2.index t (1 : Fin 2) = 0 :=
  (by decide +kernel : ∀ t : Fin grid2.N, _)

/-- Window 2's block is its whole array. -/
theorem rd2_2 (c : Dev nD) (t : Fin cfg2.N) : iblk2 V c 2 t = (V c main_v13_1 : Vec F S1x512 .f32) := by
  obtain ⟨h0, h1⟩ := idx2_2 t
  funext y
  show V c main_v13_1 (((cfg2.win 2).blk t).view.emb y) = V c main_v13_1 y
  refine congrArg (V c main_v13_1) ?_
  funext a; apply Fin.ext
  match a with
  | ⟨0, _⟩ => show win2_2.index t (0 : Fin 2) * 1 + 1 * (y 0).val = (y 0).val; omega
  | ⟨1, _⟩ => show win2_2.index t (1 : Fin 2) * 512 + 1 * (y 1).val = (y 1).val; omega

/-- Where input window 3 stands at each grid point. -/
theorem idx2_3 : ∀ t : Fin cfg2.N, win2_3.index t (0 : Fin 2) = 0 ∧ win2_3.index t (1 : Fin 2) = 0 :=
  (by decide +kernel : ∀ t : Fin grid2.N, _)

/-- Window 3's block is its whole array. -/
theorem rd2_3 (c : Dev nD) (t : Fin cfg2.N) : iblk2 V c 3 t = (V c main_v51 : Vec F S256x256 .f32) := by
  obtain ⟨h0, h1⟩ := idx2_3 t
  funext y
  show V c main_v51 (((cfg2.win 3).blk t).view.emb y) = V c main_v51 y
  refine congrArg (V c main_v51) ?_
  funext a; apply Fin.ext
  match a with
  | ⟨0, _⟩ => show win2_3.index t (0 : Fin 2) * 256 + 1 * (y 0).val = (y 0).val; omega
  | ⟨1, _⟩ => show win2_3.index t (1 : Fin 2) * 256 + 1 * (y 1).val = (y 1).val; omega

/-- The two-axis zero start, as a function. -/
theorem hz2_2 : (![0, 0] : Fin 2 → Nat) = fun _ => 0 := funext fun a => by fin_cases a <;> rfl
/-- The three-axis zero start, as a function. -/
theorem hz3_2 : (![0, 0, 0] : Fin 3 → Nat) = fun _ => 0 := funext fun a => by fin_cases a <;> rfl

/-- What case A leaves in output 4's buffer. -/
theorem out2_A_4_eq (c : Dev nD) (i : grid2.Coords) (arg1 : Memref sig .tc .vmem S1x1x1000 .i32) (harg1 : arg1.IsWhole) (arg2 : Memref sig .tc .vmem S1000x256 .f32) (harg2 : arg2.IsWhole) (arg3 : Memref sig .tc .vmem S1x512 .f32) (harg3 : arg3.IsWhole) (arg4 : Memref sig .tc .vmem S256x256 .f32) (harg4 : arg4.IsWhole) (arg5 : Memref sig .tc .vmem S512x256 .f32) (harg5 : arg5.IsWhole) (hc0 : cond2_0 i) (hc1 : ¬cond2_1 i)
    (x0 : Vec F S1x1x1000 .i32) (x1 : Vec F S1000x256 .f32) (x2 : Vec F S1x512 .f32) (x3 : Vec F S256x256 .f32) :
    out2_A_4 c i arg1 harg1 arg2 harg2 arg3 harg3 arg4 harg4 arg5 harg5 hc0 hc1 x0 x1 x2 x3 = k2_pay2 x0 x2 (k2_pay1 (F := F)) x1 := by
  unfold out2_A_4
  rw [View.read_writes_eq_canon _ _ _ (cover2_A_4 c i arg1 harg1 arg2 harg2 arg3 harg3 arg4 harg4 arg5 harg5 hc0 hc1 x0 x1 x2 x3)]
  unfold kernelRun2_A
  dsimp only
  try sl_unfold_words

  rw [View.canon_cons_unit_zero (S := S512x256) hz2_2, View.readCov_unit_zero (S := S512x256) _ hz2_2]

  simp only [View.readAt_eq_ld, harg1.read_unread, harg2.read_unread, harg3.read_unread, harg4.read_unread, harg5.read_unread, View.ld_unit_zero (S := S1x1x1000) hz3_2, View.ld_unit_zero (S := S1000x256) hz2_2, View.ld_unit_zero (S := S1x512) hz2_2, View.ld_unit_zero (S := S256x256) hz2_2, View.ld_unit_zero (S := S512x256) hz2_2, shapeCast_self]

/-- What case B leaves in output 4's buffer. -/
theorem out2_B_4_eq (c : Dev nD) (i : grid2.Coords) (arg1 : Memref sig .tc .vmem S1x1x1000 .i32) (harg1 : arg1.IsWhole) (arg2 : Memref sig .tc .vmem S1000x256 .f32) (harg2 : arg2.IsWhole) (arg3 : Memref sig .tc .vmem S1x512 .f32) (harg3 : arg3.IsWhole) (arg4 : Memref sig .tc .vmem S256x256 .f32) (harg4 : arg4.IsWhole) (arg5 : Memref sig .tc .vmem S512x256 .f32) (harg5 : arg5.IsWhole) (hc0 : ¬cond2_0 i) (hc1 : ¬cond2_1 i)
    (x0 : Vec F S1x1x1000 .i32) (x1 : Vec F S1000x256 .f32) (x2 : Vec F S1x512 .f32) (x3 : Vec F S256x256 .f32) (xo4 : Vec F S512x256 .f32) :
    out2_B_4 c i arg1 harg1 arg2 harg2 arg3 harg3 arg4 harg4 arg5 harg5 hc0 hc1 x0 x1 x2 x3 xo4 = k2_pay2 x0 x2 xo4 x1 := by
  unfold out2_B_4
  rw [View.read_writes_eq_canon _ _ _ (cover2_B_4 c i arg1 harg1 arg2 harg2 arg3 harg3 arg4 harg4 arg5 harg5 hc0 hc1 x0 x1 x2 x3 xo4)]
  unfold kernelRun2_B
  dsimp only
  try sl_unfold_words

  rw [View.canon_unit_zero hz2_2]

  simp only [View.readAt_eq_ld, harg1.read_unread, harg2.read_unread, harg3.read_unread, harg4.read_unread, harg5.read_unread, View.ld_unit_zero (S := S1x1x1000) hz3_2, View.ld_unit_zero (S := S1000x256) hz2_2, View.ld_unit_zero (S := S1x512) hz2_2, View.ld_unit_zero (S := S256x256) hz2_2, View.ld_unit_zero (S := S512x256) hz2_2, shapeCast_self]

/-- What case C leaves in output 4's buffer. -/
theorem out2_C_4_eq (c : Dev nD) (i : grid2.Coords) (arg1 : Memref sig .tc .vmem S1x1x1000 .i32) (harg1 : arg1.IsWhole) (arg2 : Memref sig .tc .vmem S1000x256 .f32) (harg2 : arg2.IsWhole) (arg3 : Memref sig .tc .vmem S1x512 .f32) (harg3 : arg3.IsWhole) (arg4 : Memref sig .tc .vmem S256x256 .f32) (harg4 : arg4.IsWhole) (arg5 : Memref sig .tc .vmem S512x256 .f32) (harg5 : arg5.IsWhole) (hc0 : ¬cond2_0 i) (hc1 : cond2_1 i)
    (x0 : Vec F S1x1x1000 .i32) (x1 : Vec F S1000x256 .f32) (x2 : Vec F S1x512 .f32) (x3 : Vec F S256x256 .f32) (xo4 : Vec F S512x256 .f32) :
    out2_C_4 c i arg1 harg1 arg2 harg2 arg3 harg3 arg4 harg4 arg5 harg5 hc0 hc1 x0 x1 x2 x3 xo4 = k2_pay3 (k2_pay2 x0 x2 xo4 x1) x3 := by
  unfold out2_C_4
  rw [View.read_writes_eq_canon _ _ _ (cover2_C_4 c i arg1 harg1 arg2 harg2 arg3 harg3 arg4 harg4 arg5 harg5 hc0 hc1 x0 x1 x2 x3 xo4)]
  unfold kernelRun2_C
  dsimp only
  try sl_unfold_words

  rw [View.canon_cons_unit_zero (S := S512x256) hz2_2, View.readCov_unit_zero (S := S512x256) _ hz2_2]

  simp only [View.readAt_eq_ld, harg1.read_unread, harg2.read_unread, harg3.read_unread, harg4.read_unread, harg5.read_unread, View.ld_unit_zero (S := S1x1x1000) hz3_2, View.ld_unit_zero (S := S1000x256) hz2_2, View.ld_unit_zero (S := S1x512) hz2_2, View.ld_unit_zero (S := S256x256) hz2_2, View.ld_unit_zero (S := S512x256) hz2_2, shapeCast_self]

/-- Where output window 4 stands at each grid point. -/
theorem oidx2_4 : ∀ t : Fin cfg2.N, win2_4.index t (0 : Fin 2) = 0 ∧ win2_4.index t (1 : Fin 2) = 0 :=
  (by decide +kernel : ∀ t : Fin grid2.N, _)

/-- The output array ends at what its buffer holds after the last point. -/
theorem final2_4 (c : Dev nD) (h : 9 < cfg2.N) (i : S512x256.Idx) :
    (dat2 V c).arrAt 4 cfg2.N i = outsAt2 V c 9 h i := by
  have hf : (cfg2.win 4).flush ⟨9, h⟩ = true := (flush2_4 ⟨9, h⟩).mpr rfl
  have hd : ∀ t t' : Fin cfg2.N, (cfg2.win 4).flush t = true → (cfg2.win 4).flush t' = true → t ≠ t' →
      Disjoint ((cfg2.win 4).blk t).view.set ((cfg2.win 4).blk t').view.set := by
    intro t t' ht ht' hne
    refine absurd (Fin.ext ?_) hne
    have h1 := (flush2_4 t).mp ht
    have h2 := (flush2_4 t').mp ht'
    have h3 : t.val < 10 := lt_of_lt_of_eq t.isLt (show cfg2.N = 10 from N_2)
    have h4 : t'.val < 10 := lt_of_lt_of_eq t'.isLt (show cfg2.N = 10 from N_2)
    omega
  have he := (dat2 V c).arrAt_emb_eq_flushed 4 hd ⟨9, h⟩ hf i
  obtain ⟨h0, h1⟩ := oidx2_4 ⟨9, h⟩
  have hi : ((cfg2.win 4).blk ⟨9, h⟩).view.emb i = i := by
    funext a; apply Fin.ext
    match a with
    | ⟨0, _⟩ => show win2_4.index ⟨9, h⟩ (0 : Fin 2) * 512 + 1 * (i 0).val = (i 0).val; omega
    | ⟨1, _⟩ => show win2_4.index ⟨9, h⟩ (1 : Fin 2) * 256 + 1 * (i 1).val = (i 1).val; omega
  rw [hi] at he
  refine he.trans ?_
  show (cfg2.win 4).cut (grid2.coords ⟨9, h⟩) ((dat2 V c).after 4 ⟨9, h⟩) i = _
  rw [after2_4]
  rfl

end

end Cert.KernelIdeal.Val

end
-- ==== Proof.Reg2.lean ====
/- The group-embedding stage (region 2) as one sum over the nodes. -/
module

public import proofs.«01_k».proof.Proof.Pay
public import proofs.«01_k».proof.Proof.Blk2
public import proofs.«01_k».proof.Proof.Spec

@[expose] public section
set_option maxHeartbeats 4000000
noncomputable section
namespace Cert.KernelIdeal.Val
open Cert.KernelIdeal Cert.KernelIdeal.Gen Idealize.ShloMosaic Idealize.ShloMosaic.TcCoe Cert.Spec Idealize.ShloMosaic.Pointwise

variable (V : (c : Dev nD) → (b : Ref sig .tc) → Buf (Elt Ideal) ((c : Thread nD τ).loc b))

/-- One node's contribution to group `g`, column `j`. -/
def embTerm2 (c : Dev nD) (g : Fin 512) (j : Fin 256) (n : Fin (10 * 1000)) : EReal :=
  oh ((V c main_v6 : Vec Ideal S10x1x1000 .i32) (ix3 (hi 10 n) 0 (lo 10 n))) g.val
    * (V c main_v13_1 : Vec Ideal S1x512 .f32) (ix2 0 g) * (V c main_arg4 : Vec Ideal S10000x256 .f32) (ix2 n j)

/-- One point's update adds its block of nodes. -/
theorem embStep2 (c : Dev nD) (t : Fin cfg2.N) (acc : Vec Ideal S512x256 .f32) (g : Fin 512) (j : Fin 256) :
    k2_pay2 (iblk2 V c 0 t) (iblk2 V c 2 t) acc (iblk2 V c 1 t) (ix2 g j)
      = acc (ix2 g j) + blkSum 10 (embTerm2 V c g j) t.val := by
  have ht : t.val < 10 := lt_of_lt_of_eq t.isLt (show cfg2.N = 10 from N_2)
  refine (k2_pay2_apply (iblk2 V c 0 t) (iblk2 V c 2 t) acc (iblk2 V c 1 t) g j).trans ?_
  rw [blkSum_of_lt 10 _ _ ht]
  refine congrArg₂ (· + ·) rfl (Finset.sum_congr rfl fun r _ => ?_)
  unfold embTerm2
  simp only [hi_mk, lo_mk]
  rw [rd2_0 V c t r ⟨t.val, ht⟩ rfl, rd2_1 V c t r j (mk 10 ⟨t.val, ht⟩ r) rfl, rd2_2]

/-- After point `n` the buffer holds the sum over the blocks so far. -/
theorem embAcc2 (c : Dev nD) (g : Fin 512) (j : Fin 256) : ∀ (n : ℕ) (h : n < cfg2.N) (h9 : n < 9),
    outsAt2 V c n h (ix2 g j) = ∑ t ∈ Finset.range (n + 1), blkSum 10 (embTerm2 V c g j) t
  | 0, h, h9 => by
    rw [show outsAt2 V c 0 h = _ from outsAt2_A V c ⟨0, h⟩ rfl (by show ¬ 0 % 10 = 9; omega), out2_A_4_eq, embStep2 V c ⟨0, h⟩]
    rw [show (k2_pay1 (F := Ideal)) (ix2 g j) = 0 by pointwise [k2_pay1], zero_add, Finset.sum_range_one]
  | n + 1, h, h9 => by
    have hN : n + 1 < 10 := lt_of_lt_of_eq h (show cfg2.N = 10 from N_2)
    rw [show outsAt2 V c (n + 1) h = _ from outsAt2_B V c ⟨n + 1, h⟩ (by show ¬ (n + 1) % 10 = 0; omega) (by show ¬ (n + 1) % 10 = 9; omega), out2_B_4_eq, embStep2 V c ⟨n + 1, h⟩,
      Finset.sum_range_succ]
    exact congrArg (· + _) (embAcc2 c g j n _ (by omega))

/-- The stage's output: per group, the mean of its nodes' rows, its columns reordered. -/
theorem embFinal2 (c : Dev nD) (g : Fin 512) (j : Fin 256) :
    ((dat2 V c).arrAt 4 cfg2.N : Vec Ideal S512x256 .f32) (ix2 g j)
      = ∑ k : Fin 256, (∑ n : Fin (10 * 1000), embTerm2 V c g k n) * (V c main_v51 : Vec Ideal S256x256 .f32) (ix2 k j) := by
  have h : 9 < cfg2.N := lt_of_lt_of_eq (by decide) (show cfg2.N = 10 from N_2).symm
  refine (final2_4 V c h (ix2 g j)).trans ?_
  rw [show outsAt2 V c 9 h = _ from outsAt2_C V c ⟨9, h⟩ (by show ¬ 9 % 10 = 0; omega) rfl, out2_C_4_eq, k2_pay3_apply]
  refine Finset.sum_congr (M := EReal) rfl fun k _ => ?_
  rw [rd2_3, embStep2 V c ⟨9, h⟩, ← sum_blkSum 10, Finset.sum_range_succ]
  exact congrArg (fun x => (x + _) * _) (embAcc2 V c g k 8 _ (by omega))

end Cert.KernelIdeal.Val

end
-- ==== Proof.PayEdge.lean ====
/- What the edge stage's operations compute, entry by entry. -/
module

public import proofs.«01_k».proof.Proof.Gen.KernelIdeal.Skeleton
public import proofs.«01_k».proof.Proof.Spec

@[expose] public section
set_option maxHeartbeats 4000000
noncomputable section
namespace Cert.KernelIdeal.Val
open Idealize.ShloMosaic Cert.KernelIdeal.Gen Cert.Spec Idealize.ShloMosaic.Pointwise

/-- The named constant of the edge weights is the reciprocal of the rounded square root of 32. -/
theorem named_inv_sqrt32 : (Named.named κ "inv_sqrt32" 0x3E3504F3#32 : Ideal .f32) = rt32inv :=
  IdealRules.named_const.ideal_named_scalar _ _ _ _ rfl

/-- The one-hot product gathers the source's row. -/
theorem k3_pay3_apply (v5 : Vec Ideal S1x1x1000 .i32) (v14 : Vec Ideal S512x256 .bf16) (i : Fin 1000) (j : Fin 256) :
    k3_pay3 v5 v14 (ix2 i j) = ∑ g : Fin 512, oh (v5 (ix3 0 0 i)) g.val * v14 (ix2 g j) := by
  pointwise [k3_pay3]
  simp only [sitofp_eq_oh]

/-- The edge weights: the basis against the weight matrix, scaled. -/
theorem k3_pay4_apply (v17 : Vec Ideal S1000x32 .f32) (v19 : Vec Ideal S32x256 .f32) (i : Fin 1000) (j : Fin 256) :
    k3_pay4 v17 v19 (ix2 i j) = (∑ b : Fin 32, v17 (ix2 i b) * v19 (ix2 b j)) * rt32inv := by
  pointwise [k3_pay4]
  rw [named_inv_sqrt32]

/-- The named constant of the dot path is half the reciprocal of the rounded square root of 3. -/
theorem named_half_inv_sqrt3 : (Named.named κ "half_inv_sqrt3" 0x3E93CD3A#32 : Ideal .f32) = halfrt3inv :=
  IdealRules.named_const.ideal_named_scalar _ _ _ _ rfl

/-- One block's update of the accumulated message table. -/
theorem k3_step_apply (x0 x1 : Vec Ideal S1x1x1000 .i32) (x2 : Vec Ideal S1000x32 .f32) (x3 : Vec Ideal S1000x4 .f32) (x4 : Vec Ideal S32x256 .f32)
    (x5 : Vec Ideal S512x256 .bf16) (acc : Vec Ideal S512x256 .f32) (g : Fin 512) (p : Fin 4) (u : Fin 64) :
    k3_pay17 (k3_pay2 x0) (k3_pay5 x3) (k3_pay6 x3) (k3_pay7 x1 x5) (k3_pay8 x1 x5) (k3_pay9 x1 x5) (k3_pay10 x1 x5) (k3_pay11 x2 x4) (k3_pay12 x2 x4) (k3_pay13 x2 x4) (k3_pay14 x2 x4) (k3_pay15 x1 x5 x3) (k3_pay16 x3) acc (ix2 g (col p u))
      = acc (ix2 g (col p u)) + ∑ i : Fin 1000, oh (x0 (ix3 0 0 i)) g.val * msg (fun q => k3_pay4 x2 x4 (ix2 i (col q u))) (fun q => k3_pay3 x1 x5 (ix2 i (col q u))) (fun q => x3 (ix2 i q)) p := by
  pointwise [k3_pay17, k3_pay2, k3_pay5, k3_pay6, k3_pay7, k3_pay8, k3_pay9, k3_pay10, k3_pay11, k3_pay12, k3_pay13, k3_pay14, k3_pay15, k3_pay16]
  refine congrArg₂ (· + ·) rfl (Finset.sum_congr rfl fun i _ => ?_)
  rw [sitofp_eq_oh, named_half_inv_sqrt3]
  refine congrArg₂ (· * ·) rfl ?_
  have hu := u.isLt
  have c0 : (col 0 u).val = u.val := Nat.zero_add _
  have c1 : (col 1 u).val = 64 + u.val := rfl
  have c2 : (col 2 u).val = 128 + u.val := rfl
  have c3 : (col 3 u).val = 192 + u.val := rfl
  have k0 : ∀ h, (⟨u.val, h⟩ : Fin 256) = col 0 u := fun h => Fin.ext c0.symm
  have k1 : ∀ h, (⟨64 + u.val, h⟩ : Fin 256) = col 1 u := fun h => Fin.ext c1.symm
  have k2 : ∀ h, (⟨128 + u.val, h⟩ : Fin 256) = col 2 u := fun h => Fin.ext c2.symm
  have k3 : ∀ h, (⟨192 + u.val, h⟩ : Fin 256) = col 3 u := fun h => Fin.ext c3.symm
  have m1 : (col 1 u).val - 64 = u.val := by omega
  have m2 : (col 2 u).val - 64 - 64 = u.val := by omega
  have m3 : (col 3 u).val - 64 - 64 - 64 = u.val := by omega
  unfold msg half aone
  fin_cases p <;> dsimp only [Fin.mk_zero, Fin.mk_one, Fin.reduceFinMk]
  · rw [dif_pos (by omega), if_pos (show (0 : Fin 4).val = 0 from rfl)]
    simp only [c0, k1, k2, k3]
  · rw [dif_neg (by omega), dif_pos (by omega), if_neg (show ¬ (1 : Fin 4).val = 0 by decide)]
    simp only [m1, k0, k1, k2]
  · rw [dif_neg (by omega), dif_neg (by omega), dif_pos (by omega), if_neg (show ¬ (2 : Fin 4).val = 0 by decide)]
    simp only [m2, k0, k1, k2]
  · rw [dif_neg (by omega), dif_neg (by omega), dif_neg (by omega), if_neg (show ¬ (3 : Fin 4).val = 0 by decide)]
    simp only [m3, k0, k1, k2, k3]

/-- The one-hot product gathers the source's row, in the second layer. -/
theorem k6_pay3_apply (v5 : Vec Ideal S1x1x1000 .i32) (v14 : Vec Ideal S512x256 .bf16) (i : Fin 1000) (j : Fin 256) :
    k6_pay3 v5 v14 (ix2 i j) = ∑ g : Fin 512, oh (v5 (ix3 0 0 i)) g.val * v14 (ix2 g j) := by
  pointwise [k6_pay3]
  simp only [sitofp_eq_oh]

/-- The edge weights: the basis against the weight matrix, scaled, in the second layer. -/
theorem k6_pay4_apply (v17 : Vec Ideal S1000x32 .f32) (v19 : Vec Ideal S32x256 .f32) (i : Fin 1000) (j : Fin 256) :
    k6_pay4 v17 v19 (ix2 i j) = (∑ b : Fin 32, v17 (ix2 i b) * v19 (ix2 b j)) * rt32inv := by
  pointwise [k6_pay4]
  rw [named_inv_sqrt32]

/-- One block's update of the accumulated message table, in the second layer. -/
theorem k6_step_apply (x0 x1 : Vec Ideal S1x1x1000 .i32) (x2 : Vec Ideal S1000x32 .f32) (x3 : Vec Ideal S1000x4 .f32) (x4 : Vec Ideal S32x256 .f32)
    (x5 : Vec Ideal S512x256 .bf16) (acc : Vec Ideal S512x256 .f32) (g : Fin 512) (p : Fin 4) (u : Fin 64) :
    k6_pay17 (k6_pay2 x0) (k6_pay5 x3) (k6_pay6 x3) (k6_pay7 x1 x5) (k6_pay8 x1 x5) (k6_pay9 x1 x5) (k6_pay10 x1 x5) (k6_pay11 x2 x4) (k6_pay12 x2 x4) (k6_pay13 x2 x4) (k6_pay14 x2 x4) (k6_pay15 x1 x5 x3) (k6_pay16 x3) acc (ix2 g (col p u))
      = acc (ix2 g (col p u)) + ∑ i : Fin 1000, oh (x0 (ix3 0 0 i)) g.val * msg (fun q => k6_pay4 x2 x4 (ix2 i (col q u))) (fun q => k6_pay3 x1 x5 (ix2 i (col q u))) (fun q => x3 (ix2 i q)) p := by
  exact k3_step_apply x0 x1 x2 x3 x4 x5 acc g p u

end Cert.KernelIdeal.Val

end
-- ==== Proof.Blk3.lean ====
/- Region 3 of the kernel: each input block as the rows of its array, and what the accumulated outputs hold after each
   point as terms of the blocks. -/
module

public import proofs.«01_k».proof.Proof.Gen.KernelIdeal.Frame.Region3
public import Idealize.ShloMosaic.Lib.Pipeline.Value
public import Idealize.ShloMosaic.Lib.Pointwise

@[expose] public section

noncomputable section

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.Pointwise

section
variable {F : FTy → Type} [FloatOps F] [Named F]
variable (V : (c : Dev nD) → (b : Ref sig .tc) → Buf (Elt F) ((c : Thread nD τ).loc b))

/-- Where input window 0 stands at each grid point. -/
theorem idx3_0 : ∀ t : Fin cfg3.N, win3_0.index t (0 : Fin 3) = t.val ∧ win3_0.index t (1 : Fin 3) = 0 ∧ win3_0.index t (2 : Fin 3) = 0 :=
  (by decide +kernel : ∀ t : Fin grid3.N, _)

/-- Window 0's block at point `t` is the array's block `t`. -/
theorem rd3_0 (c : Dev nD) (t : Fin cfg3.N) (r : Fin 1000) (s : Fin 160) (hs : s.val = t.val) :
    (iblk3 V c 0 t : Vec F S1x1x1000 .i32) (ix3 0 0 r) = (V c main_v4 : Vec F S160x1x1000 .i32) (ix3 s 0 r) := by
  obtain ⟨h0, h1, h2⟩ := idx3_0 t
  show V c main_v4 (((cfg3.win 0).blk t).view.emb (ix3 0 0 r)) = V c main_v4 (ix3 s 0 r)
  refine congrArg (V c main_v4) ?_
  funext a; apply Fin.ext
  match a with
  | ⟨0, _⟩ => show win3_0.index t (0 : Fin 3) * 1 + 1 * 0 = s.val; omega
  | ⟨1, _⟩ => show win3_0.index t (1 : Fin 3) * 1 + 1 * 0 = 0; omega
  | ⟨2, _⟩ => show win3_0.index t (2 : Fin 3) * 1000 + 1 * r.val = r.val; omega

/-- Where input window 1 stands at each grid point. -/
theorem idx3_1 : ∀ t : Fin cfg3.N, win3_1.index t (0 : Fin 3) = t.val ∧ win3_1.index t (1 : Fin 3) = 0 ∧ win3_1.index t (2 : Fin 3) = 0 :=
  (by decide +kernel : ∀ t : Fin grid3.N, _)

/-- Window 1's block at point `t` is the array's block `t`. -/
theorem rd3_1 (c : Dev nD) (t : Fin cfg3.N) (r : Fin 1000) (s : Fin 160) (hs : s.val = t.val) :
    (iblk3 V c 1 t : Vec F S1x1x1000 .i32) (ix3 0 0 r) = (V c main_v5 : Vec F S160x1x1000 .i32) (ix3 s 0 r) := by
  obtain ⟨h0, h1, h2⟩ := idx3_1 t
  show V c main_v5 (((cfg3.win 1).blk t).view.emb (ix3 0 0 r)) = V c main_v5 (ix3 s 0 r)
  refine congrArg (V c main_v5) ?_
  funext a; apply Fin.ext
  match a with
  | ⟨0, _⟩ => show win3_1.index t (0 : Fin 3) * 1 + 1 * 0 = s.val; omega
  | ⟨1, _⟩ => show win3_1.index t (1 : Fin 3) * 1 + 1 * 0 = 0; omega
  | ⟨2, _⟩ => show win3_1.index t (2 : Fin 3) * 1000 + 1 * r.val = r.val; omega

/-- Where input window 2 stands at each grid point. -/
theorem idx3_2 : ∀ t : Fin cfg3.N, win3_2.index t (0 : Fin 2) = t.val ∧ win3_2.index t (1 : Fin 2) = 0 :=
  (by decide +kernel : ∀ t : Fin grid3.N, _)

/-- Window 2's block at point `t` is the array's rows `1000·t …`. -/
theorem rd3_2 (c : Dev nD) (t : Fin cfg3.N) (r : Fin 1000) (j : Fin 32) (e : Fin 160000) (he : e.val = 1000 * t.val + r.val) :
    (iblk3 V c 2 t : Vec F S1000x32 .f32) (ix2 r j) = (V c main_v18_0 : Vec F S160000x32 .f32) (ix2 e j) := by
  obtain ⟨h0, h1⟩ := idx3_2 t
  show V c main_v18_0 (((cfg3.win 2).blk t).view.emb (ix2 r j)) = V c main_v18_0 (ix2 e j)
  refine congrArg (V c main_v18_0) ?_
  funext a; apply Fin.ext
  match a with
  | ⟨0, _⟩ => show win3_2.index t (0 : Fin 2) * 1000 + 1 * r.val = e.val; omega
  | ⟨1, _⟩ => show win3_2.index t (1 : Fin 2) * 32 + 1 * j.val = j.val; omega

/-- Where input window 3 stands at each grid point. -/
theorem idx3_3 : ∀ t : Fin cfg3.N, win3_3.index t (0 : Fin 2) = t.val ∧ win3_3.index t (1 : Fin 2) = 0 :=
  (by decide +kernel : ∀ t : Fin grid3.N, _)

/-- Window 3's block at point `t` is the array's rows `1000·t …`. -/
theorem rd3_3 (c : Dev nD) (t : Fin cfg3.N) (r : Fin 1000) (j : Fin 4) (e : Fin 160000) (he : e.val = 1000 * t.val + r.val) :
    (iblk3 V c 3 t : Vec F S1000x4 .f32) (ix2 r j) = (V c main_v18_1 : Vec F S160000x4 .f32) (ix2 e j) := by
  obtain ⟨h0, h1⟩ := idx3_3 t
  show V c main_v18_1 (((cfg3.win 3).blk t).view.emb (ix2 r j)) = V c main_v18_1 (ix2 e j)
  refine congrArg (V c main_v18_1) ?_
  funext a; apply Fin.ext
  match a with
  | ⟨0, _⟩ => show win3_3.index t (0 : Fin 2) * 1000 + 1 * r.val = e.val; omega
  | ⟨1, _⟩ => show win3_3.index t (1 : Fin 2) * 4 + 1 * j.val = j.val; omega

/-- Where input window 4 stands at each grid point. -/
theorem idx3_4 : ∀ t : Fin cfg3.N, win3_4.index t (0 : Fin 2) = 0 ∧ win3_4.index t (1 : Fin 2) = 0 :=
  (by decide +kernel : ∀ t : Fin grid3.N, _)

/-- Window 4's block is its whole array. -/
theorem rd3_4 (c : Dev nD) (t : Fin cfg3.N) : iblk3 V c 4 t = (V c main_arg5 : Vec F S32x256 .f32) := by
  obtain ⟨h0, h1⟩ := idx3_4 t
  funext y
  show V c main_arg5 (((cfg3.win 4).blk t).view.emb y) = V c main_arg5 y
  refine congrArg (V c main_arg5) ?_
  funext a; apply Fin.ext
  match a with
  | ⟨0, _⟩ => show win3_4.index t (0 : Fin 2) * 32 + 1 * (y 0).val = (y 0).val; omega
  | ⟨1, _⟩ => show win3_4.index t (1 : Fin 2) * 256 + 1 * (y 1).val = (y 1).val; omega

/-- Where input window 5 stands at each grid point. -/
theorem idx3_5 : ∀ t : Fin cfg3.N, win3_5.index t (0 : Fin 2) = 0 ∧ win3_5.index t (1 : Fin 2) = 0 :=
  (by decide +kernel : ∀ t : Fin grid3.N, _)

/-- Window 5's block is its whole array. -/
theorem rd3_5 (c : Dev nD) (t : Fin cfg3.N) : iblk3 V c 5 t = (V c main_v54 : Vec F S512x256 .bf16) := by
  obtain ⟨h0, h1⟩ := idx3_5 t
  funext y
  show V c main_v54 (((cfg3.win 5).blk t).view.emb y) = V c main_v54 y
  refine congrArg (V c main_v54) ?_
  funext a; apply Fin.ext
  match a with
  | ⟨0, _⟩ => show win3_5.index t (0 : Fin 2) * 512 + 1 * (y 0).val = (y 0).val; omega
  | ⟨1, _⟩ => show win3_5.index t (1 : Fin 2) * 256 + 1 * (y 1).val = (y 1).val; omega

/-- The two-axis zero start, as a function. -/
theorem hz2_3 : (![0, 0] : Fin 2 → Nat) = fun _ => 0 := funext fun a => by fin_cases a <;> rfl
/-- The three-axis zero start, as a function. -/
theorem hz3_3 : (![0, 0, 0] : Fin 3 → Nat) = fun _ => 0 := funext fun a => by fin_cases a <;> rfl

/-- What case A leaves in output 6's buffer. -/
theorem out3_A_6_eq (c : Dev nD) (i : grid3.Coords) (arg1 : Memref sig .tc .vmem S1x1x1000 .i32) (harg1 : arg1.IsWhole) (arg2 : Memref sig .tc .vmem S1x1x1000 .i32) (harg2 : arg2.IsWhole) (arg3 : Memref sig .tc .vmem S1000x32 .f32) (harg3 : arg3.IsWhole) (arg4 : Memref sig .tc .vmem S1000x4 .f32) (harg4 : arg4.IsWhole) (arg5 : Memref sig .tc .vmem S32x256 .f32) (harg5 : arg5.IsWhole) (arg6 : Memref sig .tc .vmem S512x256 .bf16) (harg6 : arg6.IsWhole) (arg7 : Memref sig .tc .vmem S512x256 .f32) (harg7 : arg7.IsWhole) (hc0 : cond3_0 i)
    (x0 : Vec F S1x1x1000 .i32) (x1 : Vec F S1x1x1000 .i32) (x2 : Vec F S1000x32 .f32) (x3 : Vec F S1000x4 .f32) (x4 : Vec F S32x256 .f32) (x5 : Vec F S512x256 .bf16) :
    out3_A_6 c i arg1 harg1 arg2 harg2 arg3 harg3 arg4 harg4 arg5 harg5 arg6 harg6 arg7 harg7 hc0 x0 x1 x2 x3 x4 x5 = k3_pay17 (k3_pay2 x0) (k3_pay5 x3) (k3_pay6 x3) (k3_pay7 x1 x5) (k3_pay8 x1 x5) (k3_pay9 x1 x5) (k3_pay10 x1 x5) (k3_pay11 x2 x4) (k3_pay12 x2 x4) (k3_pay13 x2 x4) (k3_pay14 x2 x4) (k3_pay15 x1 x5 x3) (k3_pay16 x3) (k3_pay1 (F := F)) := by
  unfold out3_A_6
  rw [View.read_writes_eq_canon _ _ _ (cover3_A_6 c i arg1 harg1 arg2 harg2 arg3 harg3 arg4 harg4 arg5 harg5 arg6 harg6 arg7 harg7 hc0 x0 x1 x2 x3 x4 x5)]
  unfold kernelRun3_A
  dsimp only
  try sl_unfold_words

  rw [View.canon_cons_unit_zero (S := S512x256) hz2_3, View.readCov_unit_zero (S := S512x256) _ hz2_3]

  simp only [View.readAt_eq_ld, harg1.read_unread, harg2.read_unread, harg3.read_unread, harg4.read_unread, harg5.read_unread, harg6.read_unread, harg7.read_unread, View.ld_unit_zero (S := S1x1x1000) hz3_3, View.ld_unit_zero (S := S1000x32) hz2_3, View.ld_unit_zero (S := S1000x4) hz2_3, View.ld_unit_zero (S := S32x256) hz2_3, View.ld_unit_zero (S := S512x256) hz2_3, shapeCast_self]

/-- What case B leaves in output 6's buffer. -/
theorem out3_B_6_eq (c : Dev nD) (i : grid3.Coords) (arg1 : Memref sig .tc .vmem S1x1x1000 .i32) (harg1 : arg1.IsWhole) (arg2 : Memref sig .tc .vmem S1x1x1000 .i32) (harg2 : arg2.IsWhole) (arg3 : Memref sig .tc .vmem S1000x32 .f32) (harg3 : arg3.IsWhole) (arg4 : Memref sig .tc .vmem S1000x4 .f32) (harg4 : arg4.IsWhole) (arg5 : Memref sig .tc .vmem S32x256 .f32) (harg5 : arg5.IsWhole) (arg6 : Memref sig .tc .vmem S512x256 .bf16) (harg6 : arg6.IsWhole) (arg7 : Memref sig .tc .vmem S512x256 .f32) (harg7 : arg7.IsWhole) (hc0 : ¬cond3_0 i)
    (x0 : Vec F S1x1x1000 .i32) (x1 : Vec F S1x1x1000 .i32) (x2 : Vec F S1000x32 .f32) (x3 : Vec F S1000x4 .f32) (x4 : Vec F S32x256 .f32) (x5 : Vec F S512x256 .bf16) (xo6 : Vec F S512x256 .f32) :
    out3_B_6 c i arg1 harg1 arg2 harg2 arg3 harg3 arg4 harg4 arg5 harg5 arg6 harg6 arg7 harg7 hc0 x0 x1 x2 x3 x4 x5 xo6 = k3_pay17 (k3_pay2 x0) (k3_pay5 x3) (k3_pay6 x3) (k3_pay7 x1 x5) (k3_pay8 x1 x5) (k3_pay9 x1 x5) (k3_pay10 x1 x5) (k3_pay11 x2 x4) (k3_pay12 x2 x4) (k3_pay13 x2 x4) (k3_pay14 x2 x4) (k3_pay15 x1 x5 x3) (k3_pay16 x3) xo6 := by
  unfold out3_B_6
  rw [View.read_writes_eq_canon _ _ _ (cover3_B_6 c i arg1 harg1 arg2 harg2 arg3 harg3 arg4 harg4 arg5 harg5 arg6 harg6 arg7 harg7 hc0 x0 x1 x2 x3 x4 x5 xo6)]
  unfold kernelRun3_B
  dsimp only
  try sl_unfold_words

  rw [View.canon_unit_zero hz2_3]

  simp only [View.readAt_eq_ld, harg1.read_unread, harg2.read_unread, harg3.read_unread, harg4.read_unread, harg5.read_unread, harg6.read_unread, harg7.read_unread, View.ld_unit_zero (S := S1x1x1000) hz3_3, View.ld_unit_zero (S := S1000x32) hz2_3, View.ld_unit_zero (S := S1000x4) hz2_3, View.ld_unit_zero (S := S32x256) hz2_3, View.ld_unit_zero (S := S512x256) hz2_3, shapeCast_self]

/-- Where output window 6 stands at each grid point. -/
theorem oidx3_6 : ∀ t : Fin cfg3.N, win3_6.index t (0 : Fin 2) = 0 ∧ win3_6.index t (1 : Fin 2) = 0 :=
  (by decide +kernel : ∀ t : Fin grid3.N, _)

/-- The output array ends at what its buffer holds after the last point. -/
theorem final3_6 (c : Dev nD) (h : 159 < cfg3.N) (i : S512x256.Idx) :
    (dat3 V c).arrAt 6 cfg3.N i = outsAt3 V c 159 h i := by
  have hf : (cfg3.win 6).flush ⟨159, h⟩ = true := (flush3_6 ⟨159, h⟩).mpr rfl
  have hd : ∀ t t' : Fin cfg3.N, (cfg3.win 6).flush t = true → (cfg3.win 6).flush t' = true → t ≠ t' →
      Disjoint ((cfg3.win 6).blk t).view.set ((cfg3.win 6).blk t').view.set := by
    intro t t' ht ht' hne
    refine absurd (Fin.ext ?_) hne
    have h1 := (flush3_6 t).mp ht
    have h2 := (flush3_6 t').mp ht'
    have h3 : t.val < 160 := lt_of_lt_of_eq t.isLt (show cfg3.N = 160 from N_3)
    have h4 : t'.val < 160 := lt_of_lt_of_eq t'.isLt (show cfg3.N = 160 from N_3)
    omega
  have he := (dat3 V c).arrAt_emb_eq_flushed 6 hd ⟨159, h⟩ hf i
  obtain ⟨h0, h1⟩ := oidx3_6 ⟨159, h⟩
  have hi : ((cfg3.win 6).blk ⟨159, h⟩).view.emb i = i := by
    funext a; apply Fin.ext
    match a with
    | ⟨0, _⟩ => show win3_6.index ⟨159, h⟩ (0 : Fin 2) * 512 + 1 * (i 0).val = (i 0).val; omega
    | ⟨1, _⟩ => show win3_6.index ⟨159, h⟩ (1 : Fin 2) * 256 + 1 * (i 1).val = (i 1).val; omega
  rw [hi] at he
  refine he.trans ?_
  show (cfg3.win 6).cut (grid3.coords ⟨159, h⟩) ((dat3 V c).after 6 ⟨159, h⟩) i = _
  rw [after3_6]
  rfl

end

end Cert.KernelIdeal.Val

end
-- ==== Proof.Reg3.lean ====
/- The edge stage (region 3) as one sum over the edges. -/
module

public import proofs.«01_k».proof.Proof.PayEdge
public import proofs.«01_k».proof.Proof.Blk3
public import proofs.«01_k».proof.Proof.Spec

@[expose] public section
set_option maxHeartbeats 4000000
noncomputable section
namespace Cert.KernelIdeal.Val
open Cert.KernelIdeal Cert.KernelIdeal.Gen Idealize.ShloMosaic Idealize.ShloMosaic.TcCoe Cert.Spec Idealize.ShloMosaic.Pointwise

variable (V : (c : Dev nD) → (b : Ref sig .tc) → Buf (Elt Ideal) ((c : Thread nD τ).loc b))

/-- One edge's contribution to group `g`, part `p`, channel `u`, from the region's arrays. -/
def edgeTerm3 (c : Dev nD) (g : Fin 512) (p : Fin 4) (u : Fin 64) (e : Fin (160 * 1000)) : EReal :=
  oh ((V c main_v4 : Vec Ideal S160x1x1000 .i32) (ix3 (hi 160 e) 0 (lo 160 e))) g.val
    * edgemsg ((V c main_v5 : Vec Ideal S160x1x1000 .i32) (ix3 (hi 160 e) 0 (lo 160 e)))
        (fun b => (V c main_v18_0 : Vec Ideal S160000x32 .f32) (ix2 e b))
        (fun q => (V c main_v18_1 : Vec Ideal S160000x4 .f32) (ix2 e q))
        (fun b j => (V c main_arg5 : Vec Ideal S32x256 .f32) (ix2 b j))
        (fun g j => (V c main_v54 : Vec Ideal S512x256 .bf16) (ix2 g j)) p u

/-- One point's update adds its block of edges. -/
theorem edgeStep3 (c : Dev nD) (t : Fin cfg3.N) (acc : Vec Ideal S512x256 .f32) (g : Fin 512) (p : Fin 4) (u : Fin 64) :
    k3_pay17 (k3_pay2 (iblk3 V c 0 t)) (k3_pay5 (iblk3 V c 3 t)) (k3_pay6 (iblk3 V c 3 t)) (k3_pay7 (iblk3 V c 1 t) (iblk3 V c 5 t)) (k3_pay8 (iblk3 V c 1 t) (iblk3 V c 5 t)) (k3_pay9 (iblk3 V c 1 t) (iblk3 V c 5 t)) (k3_pay10 (iblk3 V c 1 t) (iblk3 V c 5 t)) (k3_pay11 (iblk3 V c 2 t) (iblk3 V c 4 t)) (k3_pay12 (iblk3 V c 2 t) (iblk3 V c 4 t)) (k3_pay13 (iblk3 V c 2 t) (iblk3 V c 4 t)) (k3_pay14 (iblk3 V c 2 t) (iblk3 V c 4 t)) (k3_pay15 (iblk3 V c 1 t) (iblk3 V c 5 t) (iblk3 V c 3 t)) (k3_pay16 (iblk3 V c 3 t)) acc (ix2 g (col p u))
      = acc (ix2 g (col p u)) + blkSum 160 (edgeTerm3 V c g p u) t.val := by
  have ht : t.val < 160 := lt_of_lt_of_eq t.isLt (show cfg3.N = 160 from N_3)
  refine (k3_step_apply (iblk3 V c 0 t) (iblk3 V c 1 t) (iblk3 V c 2 t) (iblk3 V c 3 t) (iblk3 V c 4 t) (iblk3 V c 5 t) acc g p u).trans ?_
  rw [blkSum_of_lt 160 _ _ ht]
  refine congrArg₂ (· + ·) rfl (Finset.sum_congr rfl fun r _ => ?_)
  unfold edgeTerm3 edgemsg
  simp only [k3_pay3_apply, k3_pay4_apply, hi_mk, lo_mk]
  rw [rd3_0 V c t r ⟨t.val, ht⟩ rfl, rd3_1 V c t r ⟨t.val, ht⟩ rfl]
  simp only [rd3_2 V c t r _ (mk 160 ⟨t.val, ht⟩ r) rfl, rd3_3 V c t r _ (mk 160 ⟨t.val, ht⟩ r) rfl, rd3_4, rd3_5]

/-- After point `n` the buffer holds the sum over the blocks so far. -/
theorem edgeAcc3 (c : Dev nD) (g : Fin 512) (p : Fin 4) (u : Fin 64) : ∀ (n : ℕ) (h : n < cfg3.N),
    outsAt3 V c n h (ix2 g (col p u)) = ∑ t ∈ Finset.range (n + 1), blkSum 160 (edgeTerm3 V c g p u) t
  | 0, h => by
    rw [show outsAt3 V c 0 h = _ from outsAt3_A V c ⟨0, h⟩ rfl, out3_A_6_eq, edgeStep3 V c ⟨0, h⟩]
    rw [show (k3_pay1 (F := Ideal)) (ix2 g (col p u)) = 0 by pointwise [k3_pay1], zero_add, Finset.sum_range_one]
  | n + 1, h => by
    have hN : n + 1 < 160 := lt_of_lt_of_eq h (show cfg3.N = 160 from N_3)
    rw [show outsAt3 V c (n + 1) h = _ from outsAt3_B V c ⟨n + 1, h⟩ (by show ¬ (n + 1) % 160 = 0; omega), out3_B_6_eq, edgeStep3 V c ⟨n + 1, h⟩,
      Finset.sum_range_succ]
    exact congrArg (· + _) (edgeAcc3 c g p u n _)

/-- The stage's output: per group, the sum of its edges' messages. -/
theorem edgeFinal3 (c : Dev nD) (g : Fin 512) (p : Fin 4) (u : Fin 64) :
    ((dat3 V c).arrAt 6 cfg3.N : Vec Ideal S512x256 .f32) (ix2 g (col p u)) = ∑ e : Fin (160 * 1000), edgeTerm3 V c g p u e := by
  have h : 159 < cfg3.N := lt_of_lt_of_eq (by decide) (show cfg3.N = 160 from N_3).symm
  refine (final3_6 V c h (ix2 g (col p u))).trans ((edgeAcc3 V c g p u 159 h).trans ?_)
  exact sum_blkSum 160 _

end Cert.KernelIdeal.Val

end
-- ==== Proof.Blk4.lean ====
/- Region 4 of the kernel: each input block as the rows of its array, and what the accumulated outputs hold after each
   point as terms of the blocks. -/
module

public import proofs.«01_k».proof.Proof.Gen.KernelIdeal.Frame.Region4
public import Idealize.ShloMosaic.Lib.Pipeline.Value
public import Idealize.ShloMosaic.Lib.Pointwise

@[expose] public section

noncomputable section

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.Pointwise

section
variable {F : FTy → Type} [FloatOps F] [Named F]
variable (V : (c : Dev nD) → (b : Ref sig .tc) → Buf (Elt F) ((c : Thread nD τ).loc b))

/-- Where input window 0 stands at each grid point. -/
theorem idx4_0 : ∀ t : Fin cfg4.N, win4_0.index t (0 : Fin 2) = t.val ∧ win4_0.index t (1 : Fin 2) = 0 :=
  (by decide +kernel : ∀ t : Fin grid4.N, _)

/-- Window 0's block at point `t` is the array's rows `1000·t …`. -/
theorem rd4_0 (c : Dev nD) (t : Fin cfg4.N) (r : Fin 1000) (j : Fin 256) (e : Fin 10000) (he : e.val = 1000 * t.val + r.val) :
    (iblk4 V c 0 t : Vec F S1000x256 .f32) (ix2 r j) = (V c main_arg4 : Vec F S10000x256 .f32) (ix2 e j) := by
  obtain ⟨h0, h1⟩ := idx4_0 t
  show V c main_arg4 (((cfg4.win 0).blk t).view.emb (ix2 r j)) = V c main_arg4 (ix2 e j)
  refine congrArg (V c main_arg4) ?_
  funext a; apply Fin.ext
  match a with
  | ⟨0, _⟩ => show win4_0.index t (0 : Fin 2) * 1000 + 1 * r.val = e.val; omega
  | ⟨1, _⟩ => show win4_0.index t (1 : Fin 2) * 256 + 1 * j.val = j.val; omega

/-- Where input window 1 stands at each grid point. -/
theorem idx4_1 : ∀ t : Fin cfg4.N, win4_1.index t (0 : Fin 2) = 0 ∧ win4_1.index t (1 : Fin 2) = 0 :=
  (by decide +kernel : ∀ t : Fin grid4.N, _)

/-- Window 1's block is its whole array. -/
theorem rd4_1 (c : Dev nD) (t : Fin cfg4.N) : iblk4 V c 1 t = (V c main_v56 : Vec F S1000x256 .f32) := by
  obtain ⟨h0, h1⟩ := idx4_1 t
  funext y
  show V c main_v56 (((cfg4.win 1).blk t).view.emb y) = V c main_v56 y
  refine congrArg (V c main_v56) ?_
  funext a; apply Fin.ext
  match a with
  | ⟨0, _⟩ => show win4_1.index t (0 : Fin 2) * 1000 + 1 * (y 0).val = (y 0).val; omega
  | ⟨1, _⟩ => show win4_1.index t (1 : Fin 2) * 256 + 1 * (y 1).val = (y 1).val; omega

/-- Where input window 2 stands at each grid point. -/
theorem idx4_2 : ∀ t : Fin cfg4.N, win4_2.index t (0 : Fin 2) = 0 ∧ win4_2.index t (1 : Fin 2) = 0 :=
  (by decide +kernel : ∀ t : Fin grid4.N, _)

/-- Window 2's block is its whole array. -/
theorem rd4_2 (c : Dev nD) (t : Fin cfg4.N) : iblk4 V c 2 t = (V c main_v21 : Vec F S1x64 .f32) := by
  obtain ⟨h0, h1⟩ := idx4_2 t
  funext y
  show V c main_v21 (((cfg4.win 2).blk t).view.emb y) = V c main_v21 y
  refine congrArg (V c main_v21) ?_
  funext a; apply Fin.ext
  match a with
  | ⟨0, _⟩ => show win4_2.index t (0 : Fin 2) * 1 + 1 * (y 0).val = (y 0).val; omega
  | ⟨1, _⟩ => show win4_2.index t (1 : Fin 2) * 64 + 1 * (y 1).val = (y 1).val; omega

/-- Where input window 3 stands at each grid point. -/
theorem idx4_3 : ∀ t : Fin cfg4.N, win4_3.index t (0 : Fin 2) = 0 ∧ win4_3.index t (1 : Fin 2) = 0 :=
  (by decide +kernel : ∀ t : Fin grid4.N, _)

/-- Window 3's block is its whole array. -/
theorem rd4_3 (c : Dev nD) (t : Fin cfg4.N) : iblk4 V c 3 t = (V c main_v22 : Vec F S1x64 .f32) := by
  obtain ⟨h0, h1⟩ := idx4_3 t
  funext y
  show V c main_v22 (((cfg4.win 3).blk t).view.emb y) = V c main_v22 y
  refine congrArg (V c main_v22) ?_
  funext a; apply Fin.ext
  match a with
  | ⟨0, _⟩ => show win4_3.index t (0 : Fin 2) * 1 + 1 * (y 0).val = (y 0).val; omega
  | ⟨1, _⟩ => show win4_3.index t (1 : Fin 2) * 64 + 1 * (y 1).val = (y 1).val; omega

/-- Where input window 4 stands at each grid point. -/
theorem idx4_4 : ∀ t : Fin cfg4.N, win4_4.index t (0 : Fin 2) = 0 ∧ win4_4.index t (1 : Fin 2) = 0 :=
  (by decide +kernel : ∀ t : Fin grid4.N, _)

/-- Window 4's block is its whole array. -/
theorem rd4_4 (c : Dev nD) (t : Fin cfg4.N) : iblk4 V c 4 t = (V c main_v28 : Vec F S1x192 .f32) := by
  obtain ⟨h0, h1⟩ := idx4_4 t
  funext y
  show V c main_v28 (((cfg4.win 4).blk t).view.emb y) = V c main_v28 y
  refine congrArg (V c main_v28) ?_
  funext a; apply Fin.ext
  match a with
  | ⟨0, _⟩ => show win4_4.index t (0 : Fin 2) * 1 + 1 * (y 0).val = (y 0).val; omega
  | ⟨1, _⟩ => show win4_4.index t (1 : Fin 2) * 192 + 1 * (y 1).val = (y 1).val; omega

/-- Where input window 5 stands at each grid point. -/
theorem idx4_5 : ∀ t : Fin cfg4.N, win4_5.index t (0 : Fin 2) = 0 ∧ win4_5.index t (1 : Fin 2) = 0 :=
  (by decide +kernel : ∀ t : Fin grid4.N, _)

/-- Window 5's block is its whole array. -/
theorem rd4_5 (c : Dev nD) (t : Fin cfg4.N) : iblk4 V c 5 t = (V c main_v51 : Vec F S256x256 .f32) := by
  obtain ⟨h0, h1⟩ := idx4_5 t
  funext y
  show V c main_v51 (((cfg4.win 5).blk t).view.emb y) = V c main_v51 y
  refine congrArg (V c main_v51) ?_
  funext a; apply Fin.ext
  match a with
  | ⟨0, _⟩ => show win4_5.index t (0 : Fin 2) * 256 + 1 * (y 0).val = (y 0).val; omega
  | ⟨1, _⟩ => show win4_5.index t (1 : Fin 2) * 256 + 1 * (y 1).val = (y 1).val; omega

/-- Where input window 6 stands at each grid point. -/
theorem idx4_6 : ∀ t : Fin cfg4.N, win4_6.index t (0 : Fin 2) = 0 ∧ win4_6.index t (1 : Fin 2) = 0 :=
  (by decide +kernel : ∀ t : Fin grid4.N, _)

/-- Window 6's block is its whole array. -/
theorem rd4_6 (c : Dev nD) (t : Fin cfg4.N) : iblk4 V c 6 t = (V c main_v52 : Vec F S256x256 .f32) := by
  obtain ⟨h0, h1⟩ := idx4_6 t
  funext y
  show V c main_v52 (((cfg4.win 6).blk t).view.emb y) = V c main_v52 y
  refine congrArg (V c main_v52) ?_
  funext a; apply Fin.ext
  match a with
  | ⟨0, _⟩ => show win4_6.index t (0 : Fin 2) * 256 + 1 * (y 0).val = (y 0).val; omega
  | ⟨1, _⟩ => show win4_6.index t (1 : Fin 2) * 256 + 1 * (y 1).val = (y 1).val; omega

/-- Where output window 7 stands at each grid point. -/
theorem oidx4_7 : ∀ t : Fin cfg4.N, win4_7.index t (0 : Fin 2) = t.val ∧ win4_7.index t (1 : Fin 2) = 0 :=
  (by decide +kernel : ∀ t : Fin grid4.N, _)

/-- Rows `1000·t …` of the output array end at what point `t` writes. -/
theorem final4_7 (c : Dev nD) (t : Fin cfg4.N) (r : Fin 1000) (j : Fin 256) (e : Fin 10000) (he : e.val = 1000 * t.val + r.val) :
    ((dat4 V c).arrAt 7 cfg4.N : Vec F S10000x256 .f32) (ix2 e j) = (out4_7 (grid4.coords t) (iblk4 V c 0 t) (iblk4 V c 1 t) (iblk4 V c 2 t) (iblk4 V c 3 t) (iblk4 V c 4 t) (iblk4 V c 5 t) (iblk4 V c 6 t) : Vec F S1000x256 .f32) (ix2 r j) := by
  have hd : ∀ t t' : Fin cfg4.N, (cfg4.win 7).flush t = true → (cfg4.win 7).flush t' = true → t ≠ t' →
      Disjoint ((cfg4.win 7).blk t).view.set ((cfg4.win 7).blk t').view.set := by
    intro t t' _ _ hne
    refine (cfg4.win 7).disjoint_blk fun h => hne (Fin.ext ?_)
    have h1 := (oidx4_7 t).1
    have h2 := (oidx4_7 t').1
    rw [← h1, ← h2]
    exact congrFun h (0 : Fin 2)
  have hh := (dat4 V c).arrAt_emb_eq_flushed 7 hd t (flush4_7 t) (ix2 r j)
  obtain ⟨h0, h1⟩ := oidx4_7 t
  have hi : ((cfg4.win 7).blk t).view.emb (ix2 r j) = ix2 e j := by
    funext a; apply Fin.ext
    match a with
    | ⟨0, _⟩ => show win4_7.index t (0 : Fin 2) * 1000 + 1 * r.val = e.val; omega
    | ⟨1, _⟩ => show win4_7.index t (1 : Fin 2) * 256 + 1 * j.val = j.val; omega
  rw [hi] at hh
  refine hh.trans ?_
  show (cfg4.win 7).cut (grid4.coords t) ((dat4 V c).after 7 t) (ix2 r j) = _
  rw [after4_7]
  rfl

end

end Cert.KernelIdeal.Val

end
-- ==== Proof.Reg4.lean ====
/- The update-and-normalize stage (region 4), row by row. -/
module

public import proofs.«01_k».proof.Proof.Pay
public import proofs.«01_k».proof.Proof.Blk4
public import proofs.«01_k».proof.Proof.Spec

@[expose] public section
set_option maxHeartbeats 4000000
noncomputable section
namespace Cert.KernelIdeal.Val
open Cert.KernelIdeal Cert.KernelIdeal.Gen Idealize.ShloMosaic Idealize.ShloMosaic.TcCoe Cert.Spec Idealize.ShloMosaic.Pointwise

variable (V : (c : Dev nD) → (b : Ref sig .tc) → Buf (Elt Ideal) ((c : Thread nD τ).loc b))

/-- The two-axis zero start, as a function. -/
theorem hzz4 : (![0, 0] : Fin 2 → Nat) = fun _ => 0 := funext fun a => by fin_cases a <;> rfl

/-- A grid point's coordinate is its number. -/
theorem coord4 : ∀ t : Fin cfg4.N, (grid4.coords t 0).val = t.val :=
  (by decide +kernel : ∀ t : Fin grid4.N, _)

/-- The row a node is normalized from. -/
def rowIn4 (c : Dev nD) (n : Fin (10 * 1000)) (k : Fin 256) : EReal :=
  rowMul (fun i => (V c main_arg4 : Vec Ideal S10000x256 .f32) (ix2 n i)) (fun i k => (V c main_v51 : Vec Ideal S256x256 .f32) (ix2 i k)) k + headDelta n.val ((V c main_v56 : Vec Ideal S1000x256 .f32) (ix2 (lo 10 n) k))

/-- The stage's output, row by row. -/
theorem normFinal4 (c : Dev nD) (n : Fin (10 * 1000)) (j : Fin 256) :
    ((dat4 V c).arrAt 7 cfg4.N : Vec Ideal S10000x256 .f32) (ix2 n j)
      = normrow (rowIn4 V c n) (fun v => (V c main_v21 : Vec Ideal S1x64 .f32) (ix2 0 v)) (fun v => (V c main_v22 : Vec Ideal S1x64 .f32) (ix2 0 v)) (fun v => (V c main_v28 : Vec Ideal S1x192 .f32) (ix2 0 v)) j := by
  have hn : n.val < 10 * 1000 := n.isLt
  have h : n.val / 1000 < cfg4.N := lt_of_lt_of_eq (by omega) (show cfg4.N = 10 from N_4).symm
  have he : n.val = 1000 * (⟨n.val / 1000, h⟩ : Fin cfg4.N).val + (lo 10 n).val := by
    show n.val = 1000 * (n.val / 1000) + n.val % 1000
    omega
  have hrow : (fun k => k4_pay2 (grid4.coords ⟨n.val / 1000, h⟩) (iblk4 V c 0 ⟨n.val / 1000, h⟩) (iblk4 V c 5 ⟨n.val / 1000, h⟩) (iblk4 V c 1 ⟨n.val / 1000, h⟩) (ix2 (lo 10 n) k)) = rowIn4 V c n := by
    funext k
    refine (k4_pay2_apply _ _ _ _ _ _).trans ?_
    unfold rowIn4 headDelta rowMul
    refine congrArg₂ (· + ·) ?_ ?_
    · refine Finset.sum_congr rfl fun i _ => ?_
      rw [rd4_0 V c ⟨n.val / 1000, h⟩ (lo 10 n) _ n he, rd4_5]
    · rw [coord4, rd4_1]
      by_cases h0 : n.val < 1000
      · rw [if_pos h0, if_pos (show n.val / 1000 = 0 by omega)]
      · rw [if_neg h0, if_neg (show ¬ n.val / 1000 = 0 by omega)]
  refine (final4_7 V c ⟨n.val / 1000, h⟩ (lo 10 n) j n he).trans ?_
  unfold out4_7
  rw [View.canon_unit_zero hzz4]
  simp only [View.ld_unit_zero (S := S1000x256) hzz4, View.ld_unit_zero (S := S256x256) hzz4, View.ld_unit_zero (S := S1x64) hzz4, View.ld_unit_zero (S := S1x192) hzz4]
  rw [k4_row_apply, hrow, rd4_2, rd4_3, rd4_4]

end Cert.KernelIdeal.Val

end
-- ==== Proof.Blk5.lean ====
/- Region 5 of the kernel: each input block as the rows of its array, and what the accumulated outputs hold after each
   point as terms of the blocks. -/
module

public import proofs.«01_k».proof.Proof.Gen.KernelIdeal.Frame.Region5
public import Idealize.ShloMosaic.Lib.Pipeline.Value
public import Idealize.ShloMosaic.Lib.Pointwise

@[expose] public section

noncomputable section

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.Pointwise

section
variable {F : FTy → Type} [FloatOps F] [Named F]
variable (V : (c : Dev nD) → (b : Ref sig .tc) → Buf (Elt F) ((c : Thread nD τ).loc b))

/-- Where input window 0 stands at each grid point. -/
theorem idx5_0 : ∀ t : Fin cfg5.N, win5_0.index t (0 : Fin 3) = t.val ∧ win5_0.index t (1 : Fin 3) = 0 ∧ win5_0.index t (2 : Fin 3) = 0 :=
  (by decide +kernel : ∀ t : Fin grid5.N, _)

/-- Window 0's block at point `t` is the array's block `t`. -/
theorem rd5_0 (c : Dev nD) (t : Fin cfg5.N) (r : Fin 1000) (s : Fin 10) (hs : s.val = t.val) :
    (iblk5 V c 0 t : Vec F S1x1x1000 .i32) (ix3 0 0 r) = (V c main_v6 : Vec F S10x1x1000 .i32) (ix3 s 0 r) := by
  obtain ⟨h0, h1, h2⟩ := idx5_0 t
  show V c main_v6 (((cfg5.win 0).blk t).view.emb (ix3 0 0 r)) = V c main_v6 (ix3 s 0 r)
  refine congrArg (V c main_v6) ?_
  funext a; apply Fin.ext
  match a with
  | ⟨0, _⟩ => show win5_0.index t (0 : Fin 3) * 1 + 1 * 0 = s.val; omega
  | ⟨1, _⟩ => show win5_0.index t (1 : Fin 3) * 1 + 1 * 0 = 0; omega
  | ⟨2, _⟩ => show win5_0.index t (2 : Fin 3) * 1000 + 1 * r.val = r.val; omega

/-- Where input window 1 stands at each grid point. -/
theorem idx5_1 : ∀ t : Fin cfg5.N, win5_1.index t (0 : Fin 2) = t.val ∧ win5_1.index t (1 : Fin 2) = 0 :=
  (by decide +kernel : ∀ t : Fin grid5.N, _)

/-- Window 1's block at point `t` is the array's rows `1000·t …`. -/
theorem rd5_1 (c : Dev nD) (t : Fin cfg5.N) (r : Fin 1000) (j : Fin 256) (e : Fin 10000) (he : e.val = 1000 * t.val + r.val) :
    (iblk5 V c 1 t : Vec F S1000x256 .f32) (ix2 r j) = (V c main_v57 : Vec F S10000x256 .f32) (ix2 e j) := by
  obtain ⟨h0, h1⟩ := idx5_1 t
  show V c main_v57 (((cfg5.win 1).blk t).view.emb (ix2 r j)) = V c main_v57 (ix2 e j)
  refine congrArg (V c main_v57) ?_
  funext a; apply Fin.ext
  match a with
  | ⟨0, _⟩ => show win5_1.index t (0 : Fin 2) * 1000 + 1 * r.val = e.val; omega
  | ⟨1, _⟩ => show win5_1.index t (1 : Fin 2) * 256 + 1 * j.val = j.val; omega

/-- Where input window 2 stands at each grid point. -/
theorem idx5_2 : ∀ t : Fin cfg5.N, win5_2.index t (0 : Fin 2) = 0 ∧ win5_2.index t (1 : Fin 2) = 0 :=
  (by decide +kernel : ∀ t : Fin grid5.N, _)

/-- Window 2's block is its whole array. -/
theorem rd5_2 (c : Dev nD) (t : Fin cfg5.N) : iblk5 V c 2 t = (V c main_v13_1 : Vec F S1x512 .f32) := by
  obtain ⟨h0, h1⟩ := idx5_2 t
  funext y
  show V c main_v13_1 (((cfg5.win 2).blk t).view.emb y) = V c main_v13_1 y
  refine congrArg (V c main_v13_1) ?_
  funext a; apply Fin.ext
  match a with
  | ⟨0, _⟩ => show win5_2.index t (0 : Fin 2) * 1 + 1 * (y 0).val = (y 0).val; omega
  | ⟨1, _⟩ => show win5_2.index t (1 : Fin 2) * 512 + 1 * (y 1).val = (y 1).val; omega

/-- Where input window 3 stands at each grid point. -/
theorem idx5_3 : ∀ t : Fin cfg5.N, win5_3.index t (0 : Fin 2) = 0 ∧ win5_3.index t (1 : Fin 2) = 0 :=
  (by decide +kernel : ∀ t : Fin grid5.N, _)

/-- Window 3's block is its whole array. -/
theorem rd5_3 (c : Dev nD) (t : Fin cfg5.N) : iblk5 V c 3 t = (V c main_v51 : Vec F S256x256 .f32) := by
  obtain ⟨h0, h1⟩ := idx5_3 t
  funext y
  show V c main_v51 (((cfg5.win 3).blk t).view.emb y) = V c main_v51 y
  refine congrArg (V c main_v51) ?_
  funext a; apply Fin.ext
  match a with
  | ⟨0, _⟩ => show win5_3.index t (0 : Fin 2) * 256 + 1 * (y 0).val = (y 0).val; omega
  | ⟨1, _⟩ => show win5_3.index t (1 : Fin 2) * 256 + 1 * (y 1).val = (y 1).val; omega

/-- The two-axis zero start, as a function. -/
theorem hz2_5 : (![0, 0] : Fin 2 → Nat) = fun _ => 0 := funext fun a => by fin_cases a <;> rfl
/-- The three-axis zero start, as a function. -/
theorem hz3_5 : (![0, 0, 0] : Fin 3 → Nat) = fun _ => 0 := funext fun a => by fin_cases a <;> rfl

/-- What case A leaves in output 4's buffer. -/
theorem out5_A_4_eq (c : Dev nD) (i : grid5.Coords) (arg1 : Memref sig .tc .vmem S1x1x1000 .i32) (harg1 : arg1.IsWhole) (arg2 : Memref sig .tc .vmem S1000x256 .f32) (harg2 : arg2.IsWhole) (arg3 : Memref sig .tc .vmem S1x512 .f32) (harg3 : arg3.IsWhole) (arg4 : Memref sig .tc .vmem S256x256 .f32) (harg4 : arg4.IsWhole) (arg5 : Memref sig .tc .vmem S512x256 .f32) (harg5 : arg5.IsWhole) (hc0 : cond5_0 i)
    (x0 : Vec F S1x1x1000 .i32) (x1 : Vec F S1000x256 .f32) (x2 : Vec F S1x512 .f32) (x3 : Vec F S256x256 .f32) :
    out5_A_4 c i arg1 harg1 arg2 harg2 arg3 harg3 arg4 harg4 arg5 harg5 hc0 x0 x1 x2 x3 = k5_pay2 x0 x2 (k5_pay1 (F := F)) x1 := by
  unfold out5_A_4
  rw [View.read_writes_eq_canon _ _ _ (cover5_A_4 c i arg1 harg1 arg2 harg2 arg3 harg3 arg4 harg4 arg5 harg5 hc0 x0 x1 x2 x3)]
  unfold kernelRun5_A
  dsimp only
  try sl_unfold_words

  rw [View.canon_cons_unit_zero (S := S512x256) hz2_5, View.readCov_unit_zero (S := S512x256) _ hz2_5]

  simp only [View.readAt_eq_ld, harg1.read_unread, harg2.read_unread, harg3.read_unread, harg4.read_unread, harg5.read_unread, View.ld_unit_zero (S := S1x1x1000) hz3_5, View.ld_unit_zero (S := S1000x256) hz2_5, View.ld_unit_zero (S := S1x512) hz2_5, View.ld_unit_zero (S := S256x256) hz2_5, View.ld_unit_zero (S := S512x256) hz2_5, shapeCast_self]

/-- What case B leaves in output 4's buffer. -/
theorem out5_B_4_eq (c : Dev nD) (i : grid5.Coords) (arg1 : Memref sig .tc .vmem S1x1x1000 .i32) (harg1 : arg1.IsWhole) (arg2 : Memref sig .tc .vmem S1000x256 .f32) (harg2 : arg2.IsWhole) (arg3 : Memref sig .tc .vmem S1x512 .f32) (harg3 : arg3.IsWhole) (arg4 : Memref sig .tc .vmem S256x256 .f32) (harg4 : arg4.IsWhole) (arg5 : Memref sig .tc .vmem S512x256 .f32) (harg5 : arg5.IsWhole) (hc0 : ¬cond5_0 i)
    (x0 : Vec F S1x1x1000 .i32) (x1 : Vec F S1000x256 .f32) (x2 : Vec F S1x512 .f32) (x3 : Vec F S256x256 .f32) (xo4 : Vec F S512x256 .f32) :
    out5_B_4 c i arg1 harg1 arg2 harg2 arg3 harg3 arg4 harg4 arg5 harg5 hc0 x0 x1 x2 x3 xo4 = k5_pay2 x0 x2 xo4 x1 := by
  unfold out5_B_4
  rw [View.read_writes_eq_canon _ _ _ (cover5_B_4 c i arg1 harg1 arg2 harg2 arg3 harg3 arg4 harg4 arg5 harg5 hc0 x0 x1 x2 x3 xo4)]
  unfold kernelRun5_B
  dsimp only
  try sl_unfold_words

  rw [View.canon_unit_zero hz2_5]

  simp only [View.readAt_eq_ld, harg1.read_unread, harg2.read_unread, harg3.read_unread, harg4.read_unread, harg5.read_unread, View.ld_unit_zero (S := S1x1x1000) hz3_5, View.ld_unit_zero (S := S1000x256) hz2_5, View.ld_unit_zero (S := S1x512) hz2_5, View.ld_unit_zero (S := S256x256) hz2_5, View.ld_unit_zero (S := S512x256) hz2_5, shapeCast_self]

/-- Where output window 4 stands at each grid point. -/
theorem oidx5_4 : ∀ t : Fin cfg5.N, win5_4.index t (0 : Fin 2) = 0 ∧ win5_4.index t (1 : Fin 2) = 0 :=
  (by decide +kernel : ∀ t : Fin grid5.N, _)

/-- The output array ends at what its buffer holds after the last point. -/
theorem final5_4 (c : Dev nD) (h : 9 < cfg5.N) (i : S512x256.Idx) :
    (dat5 V c).arrAt 4 cfg5.N i = outsAt5 V c 9 h i := by
  have hf : (cfg5.win 4).flush ⟨9, h⟩ = true := (flush5_4 ⟨9, h⟩).mpr rfl
  have hd : ∀ t t' : Fin cfg5.N, (cfg5.win 4).flush t = true → (cfg5.win 4).flush t' = true → t ≠ t' →
      Disjoint ((cfg5.win 4).blk t).view.set ((cfg5.win 4).blk t').view.set := by
    intro t t' ht ht' hne
    refine absurd (Fin.ext ?_) hne
    have h1 := (flush5_4 t).mp ht
    have h2 := (flush5_4 t').mp ht'
    have h3 : t.val < 10 := lt_of_lt_of_eq t.isLt (show cfg5.N = 10 from N_5)
    have h4 : t'.val < 10 := lt_of_lt_of_eq t'.isLt (show cfg5.N = 10 from N_5)
    omega
  have he := (dat5 V c).arrAt_emb_eq_flushed 4 hd ⟨9, h⟩ hf i
  obtain ⟨h0, h1⟩ := oidx5_4 ⟨9, h⟩
  have hi : ((cfg5.win 4).blk ⟨9, h⟩).view.emb i = i := by
    funext a; apply Fin.ext
    match a with
    | ⟨0, _⟩ => show win5_4.index ⟨9, h⟩ (0 : Fin 2) * 512 + 1 * (i 0).val = (i 0).val; omega
    | ⟨1, _⟩ => show win5_4.index ⟨9, h⟩ (1 : Fin 2) * 256 + 1 * (i 1).val = (i 1).val; omega
  rw [hi] at he
  refine he.trans ?_
  show (cfg5.win 4).cut (grid5.coords ⟨9, h⟩) ((dat5 V c).after 4 ⟨9, h⟩) i = _
  rw [after5_4]
  rfl

end

end Cert.KernelIdeal.Val

end
-- ==== Proof.Reg5.lean ====
/- The group-embedding stage (region 5) as one sum over the nodes. -/
module

public import proofs.«01_k».proof.Proof.Pay
public import proofs.«01_k».proof.Proof.Blk5
public import proofs.«01_k».proof.Proof.Spec

@[expose] public section
set_option maxHeartbeats 4000000
noncomputable section
namespace Cert.KernelIdeal.Val
open Cert.KernelIdeal Cert.KernelIdeal.Gen Idealize.ShloMosaic Idealize.ShloMosaic.TcCoe Cert.Spec Idealize.ShloMosaic.Pointwise

variable (V : (c : Dev nD) → (b : Ref sig .tc) → Buf (Elt Ideal) ((c : Thread nD τ).loc b))

/-- One node's contribution to group `g`, column `j`. -/
def embTerm5 (c : Dev nD) (g : Fin 512) (j : Fin 256) (n : Fin (10 * 1000)) : EReal :=
  oh ((V c main_v6 : Vec Ideal S10x1x1000 .i32) (ix3 (hi 10 n) 0 (lo 10 n))) g.val
    * (V c main_v13_1 : Vec Ideal S1x512 .f32) (ix2 0 g) * (V c main_v57 : Vec Ideal S10000x256 .f32) (ix2 n j)

/-- One point's update adds its block of nodes. -/
theorem embStep5 (c : Dev nD) (t : Fin cfg5.N) (acc : Vec Ideal S512x256 .f32) (g : Fin 512) (j : Fin 256) :
    k5_pay2 (iblk5 V c 0 t) (iblk5 V c 2 t) acc (iblk5 V c 1 t) (ix2 g j)
      = acc (ix2 g j) + blkSum 10 (embTerm5 V c g j) t.val := by
  have ht : t.val < 10 := lt_of_lt_of_eq t.isLt (show cfg5.N = 10 from N_5)
  refine (k5_pay2_apply (iblk5 V c 0 t) (iblk5 V c 2 t) acc (iblk5 V c 1 t) g j).trans ?_
  rw [blkSum_of_lt 10 _ _ ht]
  refine congrArg₂ (· + ·) rfl (Finset.sum_congr rfl fun r _ => ?_)
  unfold embTerm5
  simp only [hi_mk, lo_mk]
  rw [rd5_0 V c t r ⟨t.val, ht⟩ rfl, rd5_1 V c t r j (mk 10 ⟨t.val, ht⟩ r) rfl, rd5_2]

/-- After point `n` the buffer holds the sum over the blocks so far. -/
theorem embAcc5 (c : Dev nD) (g : Fin 512) (j : Fin 256) : ∀ (n : ℕ) (h : n < cfg5.N) ,
    outsAt5 V c n h (ix2 g j) = ∑ t ∈ Finset.range (n + 1), blkSum 10 (embTerm5 V c g j) t
  | 0, h => by
    rw [show outsAt5 V c 0 h = _ from outsAt5_A V c ⟨0, h⟩ rfl , out5_A_4_eq, embStep5 V c ⟨0, h⟩]
    rw [show (k5_pay1 (F := Ideal)) (ix2 g j) = 0 by pointwise [k5_pay1], zero_add, Finset.sum_range_one]
  | n + 1, h => by
    have hN : n + 1 < 10 := lt_of_lt_of_eq h (show cfg5.N = 10 from N_5)
    rw [show outsAt5 V c (n + 1) h = _ from outsAt5_B V c ⟨n + 1, h⟩ (by show ¬ (n + 1) % 10 = 0; omega) , out5_B_4_eq, embStep5 V c ⟨n + 1, h⟩,
      Finset.sum_range_succ]
    exact congrArg (· + _) (embAcc5 c g j n _)

/-- The stage's output: per group, the mean of its nodes' rows. -/
theorem embFinal5 (c : Dev nD) (g : Fin 512) (j : Fin 256) :
    ((dat5 V c).arrAt 4 cfg5.N : Vec Ideal S512x256 .f32) (ix2 g j) = ∑ n : Fin (10 * 1000), embTerm5 V c g j n := by
  have h : 9 < cfg5.N := lt_of_lt_of_eq (by decide) (show cfg5.N = 10 from N_5).symm
  refine (final5_4 V c h (ix2 g j)).trans ((embAcc5 V c g j 9 h).trans ?_)
  exact sum_blkSum 10 _

end Cert.KernelIdeal.Val

end
-- ==== Proof.Blk6.lean ====
/- Region 6 of the kernel: each input block as the rows of its array, and what the accumulated outputs hold after each
   point as terms of the blocks. -/
module

public import proofs.«01_k».proof.Proof.Gen.KernelIdeal.Frame.Region6
public import Idealize.ShloMosaic.Lib.Pipeline.Value
public import Idealize.ShloMosaic.Lib.Pointwise

@[expose] public section

noncomputable section

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.Pointwise

section
variable {F : FTy → Type} [FloatOps F] [Named F]
variable (V : (c : Dev nD) → (b : Ref sig .tc) → Buf (Elt F) ((c : Thread nD τ).loc b))

/-- Where input window 0 stands at each grid point. -/
theorem idx6_0 : ∀ t : Fin cfg6.N, win6_0.index t (0 : Fin 3) = t.val ∧ win6_0.index t (1 : Fin 3) = 0 ∧ win6_0.index t (2 : Fin 3) = 0 :=
  (by decide +kernel : ∀ t : Fin grid6.N, _)

/-- Window 0's block at point `t` is the array's block `t`. -/
theorem rd6_0 (c : Dev nD) (t : Fin cfg6.N) (r : Fin 1000) (s : Fin 160) (hs : s.val = t.val) :
    (iblk6 V c 0 t : Vec F S1x1x1000 .i32) (ix3 0 0 r) = (V c main_v4 : Vec F S160x1x1000 .i32) (ix3 s 0 r) := by
  obtain ⟨h0, h1, h2⟩ := idx6_0 t
  show V c main_v4 (((cfg6.win 0).blk t).view.emb (ix3 0 0 r)) = V c main_v4 (ix3 s 0 r)
  refine congrArg (V c main_v4) ?_
  funext a; apply Fin.ext
  match a with
  | ⟨0, _⟩ => show win6_0.index t (0 : Fin 3) * 1 + 1 * 0 = s.val; omega
  | ⟨1, _⟩ => show win6_0.index t (1 : Fin 3) * 1 + 1 * 0 = 0; omega
  | ⟨2, _⟩ => show win6_0.index t (2 : Fin 3) * 1000 + 1 * r.val = r.val; omega

/-- Where input window 1 stands at each grid point. -/
theorem idx6_1 : ∀ t : Fin cfg6.N, win6_1.index t (0 : Fin 3) = t.val ∧ win6_1.index t (1 : Fin 3) = 0 ∧ win6_1.index t (2 : Fin 3) = 0 :=
  (by decide +kernel : ∀ t : Fin grid6.N, _)

/-- Window 1's block at point `t` is the array's block `t`. -/
theorem rd6_1 (c : Dev nD) (t : Fin cfg6.N) (r : Fin 1000) (s : Fin 160) (hs : s.val = t.val) :
    (iblk6 V c 1 t : Vec F S1x1x1000 .i32) (ix3 0 0 r) = (V c main_v5 : Vec F S160x1x1000 .i32) (ix3 s 0 r) := by
  obtain ⟨h0, h1, h2⟩ := idx6_1 t
  show V c main_v5 (((cfg6.win 1).blk t).view.emb (ix3 0 0 r)) = V c main_v5 (ix3 s 0 r)
  refine congrArg (V c main_v5) ?_
  funext a; apply Fin.ext
  match a with
  | ⟨0, _⟩ => show win6_1.index t (0 : Fin 3) * 1 + 1 * 0 = s.val; omega
  | ⟨1, _⟩ => show win6_1.index t (1 : Fin 3) * 1 + 1 * 0 = 0; omega
  | ⟨2, _⟩ => show win6_1.index t (2 : Fin 3) * 1000 + 1 * r.val = r.val; omega

/-- Where input window 2 stands at each grid point. -/
theorem idx6_2 : ∀ t : Fin cfg6.N, win6_2.index t (0 : Fin 2) = t.val ∧ win6_2.index t (1 : Fin 2) = 0 :=
  (by decide +kernel : ∀ t : Fin grid6.N, _)

/-- Window 2's block at point `t` is the array's rows `1000·t …`. -/
theorem rd6_2 (c : Dev nD) (t : Fin cfg6.N) (r : Fin 1000) (j : Fin 32) (e : Fin 160000) (he : e.val = 1000 * t.val + r.val) :
    (iblk6 V c 2 t : Vec F S1000x32 .f32) (ix2 r j) = (V c main_v18_0 : Vec F S160000x32 .f32) (ix2 e j) := by
  obtain ⟨h0, h1⟩ := idx6_2 t
  show V c main_v18_0 (((cfg6.win 2).blk t).view.emb (ix2 r j)) = V c main_v18_0 (ix2 e j)
  refine congrArg (V c main_v18_0) ?_
  funext a; apply Fin.ext
  match a with
  | ⟨0, _⟩ => show win6_2.index t (0 : Fin 2) * 1000 + 1 * r.val = e.val; omega
  | ⟨1, _⟩ => show win6_2.index t (1 : Fin 2) * 32 + 1 * j.val = j.val; omega

/-- Where input window 3 stands at each grid point. -/
theorem idx6_3 : ∀ t : Fin cfg6.N, win6_3.index t (0 : Fin 2) = t.val ∧ win6_3.index t (1 : Fin 2) = 0 :=
  (by decide +kernel : ∀ t : Fin grid6.N, _)

/-- Window 3's block at point `t` is the array's rows `1000·t …`. -/
theorem rd6_3 (c : Dev nD) (t : Fin cfg6.N) (r : Fin 1000) (j : Fin 4) (e : Fin 160000) (he : e.val = 1000 * t.val + r.val) :
    (iblk6 V c 3 t : Vec F S1000x4 .f32) (ix2 r j) = (V c main_v18_1 : Vec F S160000x4 .f32) (ix2 e j) := by
  obtain ⟨h0, h1⟩ := idx6_3 t
  show V c main_v18_1 (((cfg6.win 3).blk t).view.emb (ix2 r j)) = V c main_v18_1 (ix2 e j)
  refine congrArg (V c main_v18_1) ?_
  funext a; apply Fin.ext
  match a with
  | ⟨0, _⟩ => show win6_3.index t (0 : Fin 2) * 1000 + 1 * r.val = e.val; omega
  | ⟨1, _⟩ => show win6_3.index t (1 : Fin 2) * 4 + 1 * j.val = j.val; omega

/-- Where input window 4 stands at each grid point. -/
theorem idx6_4 : ∀ t : Fin cfg6.N, win6_4.index t (0 : Fin 2) = 0 ∧ win6_4.index t (1 : Fin 2) = 0 :=
  (by decide +kernel : ∀ t : Fin grid6.N, _)

/-- Window 4's block is its whole array. -/
theorem rd6_4 (c : Dev nD) (t : Fin cfg6.N) : iblk6 V c 4 t = (V c main_arg5 : Vec F S32x256 .f32) := by
  obtain ⟨h0, h1⟩ := idx6_4 t
  funext y
  show V c main_arg5 (((cfg6.win 4).blk t).view.emb y) = V c main_arg5 y
  refine congrArg (V c main_arg5) ?_
  funext a; apply Fin.ext
  match a with
  | ⟨0, _⟩ => show win6_4.index t (0 : Fin 2) * 32 + 1 * (y 0).val = (y 0).val; omega
  | ⟨1, _⟩ => show win6_4.index t (1 : Fin 2) * 256 + 1 * (y 1).val = (y 1).val; omega

/-- Where input window 5 stands at each grid point. -/
theorem idx6_5 : ∀ t : Fin cfg6.N, win6_5.index t (0 : Fin 2) = 0 ∧ win6_5.index t (1 : Fin 2) = 0 :=
  (by decide +kernel : ∀ t : Fin grid6.N, _)

/-- Window 5's block is its whole array. -/
theorem rd6_5 (c : Dev nD) (t : Fin cfg6.N) : iblk6 V c 5 t = (V c main_v59 : Vec F S512x256 .bf16) := by
  obtain ⟨h0, h1⟩ := idx6_5 t
  funext y
  show V c main_v59 (((cfg6.win 5).blk t).view.emb y) = V c main_v59 y
  refine congrArg (V c main_v59) ?_
  funext a; apply Fin.ext
  match a with
  | ⟨0, _⟩ => show win6_5.index t (0 : Fin 2) * 512 + 1 * (y 0).val = (y 0).val; omega
  | ⟨1, _⟩ => show win6_5.index t (1 : Fin 2) * 256 + 1 * (y 1).val = (y 1).val; omega

/-- The two-axis zero start, as a function. -/
theorem hz2_6 : (![0, 0] : Fin 2 → Nat) = fun _ => 0 := funext fun a => by fin_cases a <;> rfl
/-- The three-axis zero start, as a function. -/
theorem hz3_6 : (![0, 0, 0] : Fin 3 → Nat) = fun _ => 0 := funext fun a => by fin_cases a <;> rfl

/-- What case A leaves in output 6's buffer. -/
theorem out6_A_6_eq (c : Dev nD) (i : grid6.Coords) (arg1 : Memref sig .tc .vmem S1x1x1000 .i32) (harg1 : arg1.IsWhole) (arg2 : Memref sig .tc .vmem S1x1x1000 .i32) (harg2 : arg2.IsWhole) (arg3 : Memref sig .tc .vmem S1000x32 .f32) (harg3 : arg3.IsWhole) (arg4 : Memref sig .tc .vmem S1000x4 .f32) (harg4 : arg4.IsWhole) (arg5 : Memref sig .tc .vmem S32x256 .f32) (harg5 : arg5.IsWhole) (arg6 : Memref sig .tc .vmem S512x256 .bf16) (harg6 : arg6.IsWhole) (arg7 : Memref sig .tc .vmem S512x256 .f32) (harg7 : arg7.IsWhole) (hc0 : cond6_0 i)
    (x0 : Vec F S1x1x1000 .i32) (x1 : Vec F S1x1x1000 .i32) (x2 : Vec F S1000x32 .f32) (x3 : Vec F S1000x4 .f32) (x4 : Vec F S32x256 .f32) (x5 : Vec F S512x256 .bf16) :
    out6_A_6 c i arg1 harg1 arg2 harg2 arg3 harg3 arg4 harg4 arg5 harg5 arg6 harg6 arg7 harg7 hc0 x0 x1 x2 x3 x4 x5 = k6_pay17 (k6_pay2 x0) (k6_pay5 x3) (k6_pay6 x3) (k6_pay7 x1 x5) (k6_pay8 x1 x5) (k6_pay9 x1 x5) (k6_pay10 x1 x5) (k6_pay11 x2 x4) (k6_pay12 x2 x4) (k6_pay13 x2 x4) (k6_pay14 x2 x4) (k6_pay15 x1 x5 x3) (k6_pay16 x3) (k6_pay1 (F := F)) := by
  unfold out6_A_6
  rw [View.read_writes_eq_canon _ _ _ (cover6_A_6 c i arg1 harg1 arg2 harg2 arg3 harg3 arg4 harg4 arg5 harg5 arg6 harg6 arg7 harg7 hc0 x0 x1 x2 x3 x4 x5)]
  unfold kernelRun6_A
  dsimp only
  try sl_unfold_words

  rw [View.canon_cons_unit_zero (S := S512x256) hz2_6, View.readCov_unit_zero (S := S512x256) _ hz2_6]

  simp only [View.readAt_eq_ld, harg1.read_unread, harg2.read_unread, harg3.read_unread, harg4.read_unread, harg5.read_unread, harg6.read_unread, harg7.read_unread, View.ld_unit_zero (S := S1x1x1000) hz3_6, View.ld_unit_zero (S := S1000x32) hz2_6, View.ld_unit_zero (S := S1000x4) hz2_6, View.ld_unit_zero (S := S32x256) hz2_6, View.ld_unit_zero (S := S512x256) hz2_6, shapeCast_self]

/-- What case B leaves in output 6's buffer. -/
theorem out6_B_6_eq (c : Dev nD) (i : grid6.Coords) (arg1 : Memref sig .tc .vmem S1x1x1000 .i32) (harg1 : arg1.IsWhole) (arg2 : Memref sig .tc .vmem S1x1x1000 .i32) (harg2 : arg2.IsWhole) (arg3 : Memref sig .tc .vmem S1000x32 .f32) (harg3 : arg3.IsWhole) (arg4 : Memref sig .tc .vmem S1000x4 .f32) (harg4 : arg4.IsWhole) (arg5 : Memref sig .tc .vmem S32x256 .f32) (harg5 : arg5.IsWhole) (arg6 : Memref sig .tc .vmem S512x256 .bf16) (harg6 : arg6.IsWhole) (arg7 : Memref sig .tc .vmem S512x256 .f32) (harg7 : arg7.IsWhole) (hc0 : ¬cond6_0 i)
    (x0 : Vec F S1x1x1000 .i32) (x1 : Vec F S1x1x1000 .i32) (x2 : Vec F S1000x32 .f32) (x3 : Vec F S1000x4 .f32) (x4 : Vec F S32x256 .f32) (x5 : Vec F S512x256 .bf16) (xo6 : Vec F S512x256 .f32) :
    out6_B_6 c i arg1 harg1 arg2 harg2 arg3 harg3 arg4 harg4 arg5 harg5 arg6 harg6 arg7 harg7 hc0 x0 x1 x2 x3 x4 x5 xo6 = k6_pay17 (k6_pay2 x0) (k6_pay5 x3) (k6_pay6 x3) (k6_pay7 x1 x5) (k6_pay8 x1 x5) (k6_pay9 x1 x5) (k6_pay10 x1 x5) (k6_pay11 x2 x4) (k6_pay12 x2 x4) (k6_pay13 x2 x4) (k6_pay14 x2 x4) (k6_pay15 x1 x5 x3) (k6_pay16 x3) xo6 := by
  unfold out6_B_6
  rw [View.read_writes_eq_canon _ _ _ (cover6_B_6 c i arg1 harg1 arg2 harg2 arg3 harg3 arg4 harg4 arg5 harg5 arg6 harg6 arg7 harg7 hc0 x0 x1 x2 x3 x4 x5 xo6)]
  unfold kernelRun6_B
  dsimp only
  try sl_unfold_words

  rw [View.canon_unit_zero hz2_6]

  simp only [View.readAt_eq_ld, harg1.read_unread, harg2.read_unread, harg3.read_unread, harg4.read_unread, harg5.read_unread, harg6.read_unread, harg7.read_unread, View.ld_unit_zero (S := S1x1x1000) hz3_6, View.ld_unit_zero (S := S1000x32) hz2_6, View.ld_unit_zero (S := S1000x4) hz2_6, View.ld_unit_zero (S := S32x256) hz2_6, View.ld_unit_zero (S := S512x256) hz2_6, shapeCast_self]

/-- Where output window 6 stands at each grid point. -/
theorem oidx6_6 : ∀ t : Fin cfg6.N, win6_6.index t (0 : Fin 2) = 0 ∧ win6_6.index t (1 : Fin 2) = 0 :=
  (by decide +kernel : ∀ t : Fin grid6.N, _)

/-- The output array ends at what its buffer holds after the last point. -/
theorem final6_6 (c : Dev nD) (h : 159 < cfg6.N) (i : S512x256.Idx) :
    (dat6 V c).arrAt 6 cfg6.N i = outsAt6 V c 159 h i := by
  have hf : (cfg6.win 6).flush ⟨159, h⟩ = true := (flush6_6 ⟨159, h⟩).mpr rfl
  have hd : ∀ t t' : Fin cfg6.N, (cfg6.win 6).flush t = true → (cfg6.win 6).flush t' = true → t ≠ t' →
      Disjoint ((cfg6.win 6).blk t).view.set ((cfg6.win 6).blk t').view.set := by
    intro t t' ht ht' hne
    refine absurd (Fin.ext ?_) hne
    have h1 := (flush6_6 t).mp ht
    have h2 := (flush6_6 t').mp ht'
    have h3 : t.val < 160 := lt_of_lt_of_eq t.isLt (show cfg6.N = 160 from N_6)
    have h4 : t'.val < 160 := lt_of_lt_of_eq t'.isLt (show cfg6.N = 160 from N_6)
    omega
  have he := (dat6 V c).arrAt_emb_eq_flushed 6 hd ⟨159, h⟩ hf i
  obtain ⟨h0, h1⟩ := oidx6_6 ⟨159, h⟩
  have hi : ((cfg6.win 6).blk ⟨159, h⟩).view.emb i = i := by
    funext a; apply Fin.ext
    match a with
    | ⟨0, _⟩ => show win6_6.index ⟨159, h⟩ (0 : Fin 2) * 512 + 1 * (i 0).val = (i 0).val; omega
    | ⟨1, _⟩ => show win6_6.index ⟨159, h⟩ (1 : Fin 2) * 256 + 1 * (i 1).val = (i 1).val; omega
  rw [hi] at he
  refine he.trans ?_
  show (cfg6.win 6).cut (grid6.coords ⟨159, h⟩) ((dat6 V c).after 6 ⟨159, h⟩) i = _
  rw [after6_6]
  rfl

end

end Cert.KernelIdeal.Val

end
-- ==== Proof.Reg6.lean ====
/- The edge stage (region 6) as one sum over the edges. -/
module

public import proofs.«01_k».proof.Proof.PayEdge
public import proofs.«01_k».proof.Proof.Blk6
public import proofs.«01_k».proof.Proof.Spec

@[expose] public section
set_option maxHeartbeats 4000000
noncomputable section
namespace Cert.KernelIdeal.Val
open Cert.KernelIdeal Cert.KernelIdeal.Gen Idealize.ShloMosaic Idealize.ShloMosaic.TcCoe Cert.Spec Idealize.ShloMosaic.Pointwise

variable (V : (c : Dev nD) → (b : Ref sig .tc) → Buf (Elt Ideal) ((c : Thread nD τ).loc b))

/-- One edge's contribution to group `g`, part `p`, channel `u`, from the region's arrays. -/
def edgeTerm6 (c : Dev nD) (g : Fin 512) (p : Fin 4) (u : Fin 64) (e : Fin (160 * 1000)) : EReal :=
  oh ((V c main_v4 : Vec Ideal S160x1x1000 .i32) (ix3 (hi 160 e) 0 (lo 160 e))) g.val
    * edgemsg ((V c main_v5 : Vec Ideal S160x1x1000 .i32) (ix3 (hi 160 e) 0 (lo 160 e)))
        (fun b => (V c main_v18_0 : Vec Ideal S160000x32 .f32) (ix2 e b))
        (fun q => (V c main_v18_1 : Vec Ideal S160000x4 .f32) (ix2 e q))
        (fun b j => (V c main_arg5 : Vec Ideal S32x256 .f32) (ix2 b j))
        (fun g j => (V c main_v59 : Vec Ideal S512x256 .bf16) (ix2 g j)) p u

/-- One point's update adds its block of edges. -/
theorem edgeStep6 (c : Dev nD) (t : Fin cfg6.N) (acc : Vec Ideal S512x256 .f32) (g : Fin 512) (p : Fin 4) (u : Fin 64) :
    k6_pay17 (k6_pay2 (iblk6 V c 0 t)) (k6_pay5 (iblk6 V c 3 t)) (k6_pay6 (iblk6 V c 3 t)) (k6_pay7 (iblk6 V c 1 t) (iblk6 V c 5 t)) (k6_pay8 (iblk6 V c 1 t) (iblk6 V c 5 t)) (k6_pay9 (iblk6 V c 1 t) (iblk6 V c 5 t)) (k6_pay10 (iblk6 V c 1 t) (iblk6 V c 5 t)) (k6_pay11 (iblk6 V c 2 t) (iblk6 V c 4 t)) (k6_pay12 (iblk6 V c 2 t) (iblk6 V c 4 t)) (k6_pay13 (iblk6 V c 2 t) (iblk6 V c 4 t)) (k6_pay14 (iblk6 V c 2 t) (iblk6 V c 4 t)) (k6_pay15 (iblk6 V c 1 t) (iblk6 V c 5 t) (iblk6 V c 3 t)) (k6_pay16 (iblk6 V c 3 t)) acc (ix2 g (col p u))
      = acc (ix2 g (col p u)) + blkSum 160 (edgeTerm6 V c g p u) t.val := by
  have ht : t.val < 160 := lt_of_lt_of_eq t.isLt (show cfg6.N = 160 from N_6)
  refine (k6_step_apply (iblk6 V c 0 t) (iblk6 V c 1 t) (iblk6 V c 2 t) (iblk6 V c 3 t) (iblk6 V c 4 t) (iblk6 V c 5 t) acc g p u).trans ?_
  rw [blkSum_of_lt 160 _ _ ht]
  refine congrArg₂ (· + ·) rfl (Finset.sum_congr rfl fun r _ => ?_)
  unfold edgeTerm6 edgemsg
  simp only [k6_pay3_apply, k6_pay4_apply, hi_mk, lo_mk]
  rw [rd6_0 V c t r ⟨t.val, ht⟩ rfl, rd6_1 V c t r ⟨t.val, ht⟩ rfl]
  simp only [rd6_2 V c t r _ (mk 160 ⟨t.val, ht⟩ r) rfl, rd6_3 V c t r _ (mk 160 ⟨t.val, ht⟩ r) rfl, rd6_4, rd6_5]

/-- After point `n` the buffer holds the sum over the blocks so far. -/
theorem edgeAcc6 (c : Dev nD) (g : Fin 512) (p : Fin 4) (u : Fin 64) : ∀ (n : ℕ) (h : n < cfg6.N),
    outsAt6 V c n h (ix2 g (col p u)) = ∑ t ∈ Finset.range (n + 1), blkSum 160 (edgeTerm6 V c g p u) t
  | 0, h => by
    rw [show outsAt6 V c 0 h = _ from outsAt6_A V c ⟨0, h⟩ rfl, out6_A_6_eq, edgeStep6 V c ⟨0, h⟩]
    rw [show (k6_pay1 (F := Ideal)) (ix2 g (col p u)) = 0 by pointwise [k6_pay1], zero_add, Finset.sum_range_one]
  | n + 1, h => by
    have hN : n + 1 < 160 := lt_of_lt_of_eq h (show cfg6.N = 160 from N_6)
    rw [show outsAt6 V c (n + 1) h = _ from outsAt6_B V c ⟨n + 1, h⟩ (by show ¬ (n + 1) % 160 = 0; omega), out6_B_6_eq, edgeStep6 V c ⟨n + 1, h⟩,
      Finset.sum_range_succ]
    exact congrArg (· + _) (edgeAcc6 c g p u n _)

/-- The stage's output: per group, the sum of its edges' messages. -/
theorem edgeFinal6 (c : Dev nD) (g : Fin 512) (p : Fin 4) (u : Fin 64) :
    ((dat6 V c).arrAt 6 cfg6.N : Vec Ideal S512x256 .f32) (ix2 g (col p u)) = ∑ e : Fin (160 * 1000), edgeTerm6 V c g p u e := by
  have h : 159 < cfg6.N := lt_of_lt_of_eq (by decide) (show cfg6.N = 160 from N_6).symm
  refine (final6_6 V c h (ix2 g (col p u))).trans ((edgeAcc6 V c g p u 159 h).trans ?_)
  exact sum_blkSum 160 _

end Cert.KernelIdeal.Val

end
-- ==== Proof.Blk7.lean ====
/- Region 7 of the kernel: each input block as the rows of its array, and what the accumulated outputs hold after each
   point as terms of the blocks. -/
module

public import proofs.«01_k».proof.Proof.Gen.KernelIdeal.Frame.Region7
public import Idealize.ShloMosaic.Lib.Pipeline.Value
public import Idealize.ShloMosaic.Lib.Pointwise

@[expose] public section

noncomputable section

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.Pointwise

section
variable {F : FTy → Type} [FloatOps F] [Named F]
variable (V : (c : Dev nD) → (b : Ref sig .tc) → Buf (Elt F) ((c : Thread nD τ).loc b))

/-- Where input window 0 stands at each grid point. -/
theorem idx7_0 : ∀ t : Fin cfg7.N, win7_0.index t (0 : Fin 2) = t.val ∧ win7_0.index t (1 : Fin 2) = 0 :=
  (by decide +kernel : ∀ t : Fin grid7.N, _)

/-- Window 0's block at point `t` is the array's rows `1000·t …`. -/
theorem rd7_0 (c : Dev nD) (t : Fin cfg7.N) (r : Fin 1000) (j : Fin 256) (e : Fin 10000) (he : e.val = 1000 * t.val + r.val) :
    (iblk7 V c 0 t : Vec F S1000x256 .f32) (ix2 r j) = (V c main_v57 : Vec F S10000x256 .f32) (ix2 e j) := by
  obtain ⟨h0, h1⟩ := idx7_0 t
  show V c main_v57 (((cfg7.win 0).blk t).view.emb (ix2 r j)) = V c main_v57 (ix2 e j)
  refine congrArg (V c main_v57) ?_
  funext a; apply Fin.ext
  match a with
  | ⟨0, _⟩ => show win7_0.index t (0 : Fin 2) * 1000 + 1 * r.val = e.val; omega
  | ⟨1, _⟩ => show win7_0.index t (1 : Fin 2) * 256 + 1 * j.val = j.val; omega

/-- Where input window 1 stands at each grid point. -/
theorem idx7_1 : ∀ t : Fin cfg7.N, win7_1.index t (0 : Fin 2) = 0 ∧ win7_1.index t (1 : Fin 2) = 0 :=
  (by decide +kernel : ∀ t : Fin grid7.N, _)

/-- Window 1's block is its whole array. -/
theorem rd7_1 (c : Dev nD) (t : Fin cfg7.N) : iblk7 V c 1 t = (V c main_v61 : Vec F S1000x256 .f32) := by
  obtain ⟨h0, h1⟩ := idx7_1 t
  funext y
  show V c main_v61 (((cfg7.win 1).blk t).view.emb y) = V c main_v61 y
  refine congrArg (V c main_v61) ?_
  funext a; apply Fin.ext
  match a with
  | ⟨0, _⟩ => show win7_1.index t (0 : Fin 2) * 1000 + 1 * (y 0).val = (y 0).val; omega
  | ⟨1, _⟩ => show win7_1.index t (1 : Fin 2) * 256 + 1 * (y 1).val = (y 1).val; omega

/-- Where input window 2 stands at each grid point. -/
theorem idx7_2 : ∀ t : Fin cfg7.N, win7_2.index t (0 : Fin 2) = 0 ∧ win7_2.index t (1 : Fin 2) = 0 :=
  (by decide +kernel : ∀ t : Fin grid7.N, _)

/-- Window 2's block is its whole array. -/
theorem rd7_2 (c : Dev nD) (t : Fin cfg7.N) : iblk7 V c 2 t = (V c main_v21 : Vec F S1x64 .f32) := by
  obtain ⟨h0, h1⟩ := idx7_2 t
  funext y
  show V c main_v21 (((cfg7.win 2).blk t).view.emb y) = V c main_v21 y
  refine congrArg (V c main_v21) ?_
  funext a; apply Fin.ext
  match a with
  | ⟨0, _⟩ => show win7_2.index t (0 : Fin 2) * 1 + 1 * (y 0).val = (y 0).val; omega
  | ⟨1, _⟩ => show win7_2.index t (1 : Fin 2) * 64 + 1 * (y 1).val = (y 1).val; omega

/-- Where input window 3 stands at each grid point. -/
theorem idx7_3 : ∀ t : Fin cfg7.N, win7_3.index t (0 : Fin 2) = 0 ∧ win7_3.index t (1 : Fin 2) = 0 :=
  (by decide +kernel : ∀ t : Fin grid7.N, _)

/-- Window 3's block is its whole array. -/
theorem rd7_3 (c : Dev nD) (t : Fin cfg7.N) : iblk7 V c 3 t = (V c main_v22 : Vec F S1x64 .f32) := by
  obtain ⟨h0, h1⟩ := idx7_3 t
  funext y
  show V c main_v22 (((cfg7.win 3).blk t).view.emb y) = V c main_v22 y
  refine congrArg (V c main_v22) ?_
  funext a; apply Fin.ext
  match a with
  | ⟨0, _⟩ => show win7_3.index t (0 : Fin 2) * 1 + 1 * (y 0).val = (y 0).val; omega
  | ⟨1, _⟩ => show win7_3.index t (1 : Fin 2) * 64 + 1 * (y 1).val = (y 1).val; omega

/-- Where input window 4 stands at each grid point. -/
theorem idx7_4 : ∀ t : Fin cfg7.N, win7_4.index t (0 : Fin 2) = 0 ∧ win7_4.index t (1 : Fin 2) = 0 :=
  (by decide +kernel : ∀ t : Fin grid7.N, _)

/-- Window 4's block is its whole array. -/
theorem rd7_4 (c : Dev nD) (t : Fin cfg7.N) : iblk7 V c 4 t = (V c main_v28 : Vec F S1x192 .f32) := by
  obtain ⟨h0, h1⟩ := idx7_4 t
  funext y
  show V c main_v28 (((cfg7.win 4).blk t).view.emb y) = V c main_v28 y
  refine congrArg (V c main_v28) ?_
  funext a; apply Fin.ext
  match a with
  | ⟨0, _⟩ => show win7_4.index t (0 : Fin 2) * 1 + 1 * (y 0).val = (y 0).val; omega
  | ⟨1, _⟩ => show win7_4.index t (1 : Fin 2) * 192 + 1 * (y 1).val = (y 1).val; omega

/-- Where input window 5 stands at each grid point. -/
theorem idx7_5 : ∀ t : Fin cfg7.N, win7_5.index t (0 : Fin 2) = 0 ∧ win7_5.index t (1 : Fin 2) = 0 :=
  (by decide +kernel : ∀ t : Fin grid7.N, _)

/-- Window 5's block is its whole array. -/
theorem rd7_5 (c : Dev nD) (t : Fin cfg7.N) : iblk7 V c 5 t = (V c main_v51 : Vec F S256x256 .f32) := by
  obtain ⟨h0, h1⟩ := idx7_5 t
  funext y
  show V c main_v51 (((cfg7.win 5).blk t).view.emb y) = V c main_v51 y
  refine congrArg (V c main_v51) ?_
  funext a; apply Fin.ext
  match a with
  | ⟨0, _⟩ => show win7_5.index t (0 : Fin 2) * 256 + 1 * (y 0).val = (y 0).val; omega
  | ⟨1, _⟩ => show win7_5.index t (1 : Fin 2) * 256 + 1 * (y 1).val = (y 1).val; omega

/-- Where input window 6 stands at each grid point. -/
theorem idx7_6 : ∀ t : Fin cfg7.N, win7_6.index t (0 : Fin 2) = 0 ∧ win7_6.index t (1 : Fin 2) = 0 :=
  (by decide +kernel : ∀ t : Fin grid7.N, _)

/-- Window 6's block is its whole array. -/
theorem rd7_6 (c : Dev nD) (t : Fin cfg7.N) : iblk7 V c 6 t = (V c main_v52 : Vec F S256x256 .f32) := by
  obtain ⟨h0, h1⟩ := idx7_6 t
  funext y
  show V c main_v52 (((cfg7.win 6).blk t).view.emb y) = V c main_v52 y
  refine congrArg (V c main_v52) ?_
  funext a; apply Fin.ext
  match a with
  | ⟨0, _⟩ => show win7_6.index t (0 : Fin 2) * 256 + 1 * (y 0).val = (y 0).val; omega
  | ⟨1, _⟩ => show win7_6.index t (1 : Fin 2) * 256 + 1 * (y 1).val = (y 1).val; omega

/-- Where output window 7 stands at each grid point. -/
theorem oidx7_7 : ∀ t : Fin cfg7.N, win7_7.index t (0 : Fin 2) = t.val ∧ win7_7.index t (1 : Fin 2) = 0 :=
  (by decide +kernel : ∀ t : Fin grid7.N, _)

/-- Rows `1000·t …` of the output array end at what point `t` writes. -/
theorem final7_7 (c : Dev nD) (t : Fin cfg7.N) (r : Fin 1000) (j : Fin 256) (e : Fin 10000) (he : e.val = 1000 * t.val + r.val) :
    ((dat7 V c).arrAt 7 cfg7.N : Vec F S10000x256 .f32) (ix2 e j) = (out7_7 (grid7.coords t) (iblk7 V c 0 t) (iblk7 V c 1 t) (iblk7 V c 2 t) (iblk7 V c 3 t) (iblk7 V c 4 t) (iblk7 V c 5 t) (iblk7 V c 6 t) : Vec F S1000x256 .f32) (ix2 r j) := by
  have hd : ∀ t t' : Fin cfg7.N, (cfg7.win 7).flush t = true → (cfg7.win 7).flush t' = true → t ≠ t' →
      Disjoint ((cfg7.win 7).blk t).view.set ((cfg7.win 7).blk t').view.set := by
    intro t t' _ _ hne
    refine (cfg7.win 7).disjoint_blk fun h => hne (Fin.ext ?_)
    have h1 := (oidx7_7 t).1
    have h2 := (oidx7_7 t').1
    rw [← h1, ← h2]
    exact congrFun h (0 : Fin 2)
  have hh := (dat7 V c).arrAt_emb_eq_flushed 7 hd t (flush7_7 t) (ix2 r j)
  obtain ⟨h0, h1⟩ := oidx7_7 t
  have hi : ((cfg7.win 7).blk t).view.emb (ix2 r j) = ix2 e j := by
    funext a; apply Fin.ext
    match a with
    | ⟨0, _⟩ => show win7_7.index t (0 : Fin 2) * 1000 + 1 * r.val = e.val; omega
    | ⟨1, _⟩ => show win7_7.index t (1 : Fin 2) * 256 + 1 * j.val = j.val; omega
  rw [hi] at hh
  refine hh.trans ?_
  show (cfg7.win 7).cut (grid7.coords t) ((dat7 V c).after 7 t) (ix2 r j) = _
  rw [after7_7]
  rfl

end

end Cert.KernelIdeal.Val

end
-- ==== Proof.Reg7.lean ====
/- The update-and-normalize stage (region 7), row by row. -/
module

public import proofs.«01_k».proof.Proof.Pay
public import proofs.«01_k».proof.Proof.Blk7
public import proofs.«01_k».proof.Proof.Spec

@[expose] public section
set_option maxHeartbeats 4000000
noncomputable section
namespace Cert.KernelIdeal.Val
open Cert.KernelIdeal Cert.KernelIdeal.Gen Idealize.ShloMosaic Idealize.ShloMosaic.TcCoe Cert.Spec Idealize.ShloMosaic.Pointwise

variable (V : (c : Dev nD) → (b : Ref sig .tc) → Buf (Elt Ideal) ((c : Thread nD τ).loc b))

/-- The two-axis zero start, as a function. -/
theorem hzz7 : (![0, 0] : Fin 2 → Nat) = fun _ => 0 := funext fun a => by fin_cases a <;> rfl

/-- A grid point's coordinate is its number. -/
theorem coord7 : ∀ t : Fin cfg7.N, (grid7.coords t 0).val = t.val :=
  (by decide +kernel : ∀ t : Fin grid7.N, _)

/-- The row a node is normalized from. -/
def rowIn7 (c : Dev nD) (n : Fin (10 * 1000)) (k : Fin 256) : EReal :=
  addE ((V c main_v57 : Vec Ideal S10000x256 .f32) (ix2 n k)) (headDelta n.val ((V c main_v61 : Vec Ideal S1000x256 .f32) (ix2 (lo 10 n) k)))

/-- The stage's output, row by row. -/
theorem normFinal7 (c : Dev nD) (n : Fin (10 * 1000)) (j : Fin 256) :
    ((dat7 V c).arrAt 7 cfg7.N : Vec Ideal S10000x256 .f32) (ix2 n j)
      = ∑ k : Fin 256, normrow (rowIn7 V c n) (fun v => (V c main_v21 : Vec Ideal S1x64 .f32) (ix2 0 v)) (fun v => (V c main_v22 : Vec Ideal S1x64 .f32) (ix2 0 v)) (fun v => (V c main_v28 : Vec Ideal S1x192 .f32) (ix2 0 v)) k * (V c main_v52 : Vec Ideal S256x256 .f32) (ix2 k j) := by
  have hn : n.val < 10 * 1000 := n.isLt
  have h : n.val / 1000 < cfg7.N := lt_of_lt_of_eq (by omega) (show cfg7.N = 10 from N_7).symm
  have he : n.val = 1000 * (⟨n.val / 1000, h⟩ : Fin cfg7.N).val + (lo 10 n).val := by
    show n.val = 1000 * (n.val / 1000) + n.val % 1000
    omega
  have hrow : (fun k => k7_pay2 (grid7.coords ⟨n.val / 1000, h⟩) (iblk7 V c 0 ⟨n.val / 1000, h⟩) (iblk7 V c 1 ⟨n.val / 1000, h⟩) (ix2 (lo 10 n) k)) = rowIn7 V c n := by
    funext k
    refine (k7_pay2_apply _ _ _ _ _).trans ?_
    unfold rowIn7 headDelta addE
    refine congrArg₂ (· + ·) ?_ ?_
    · skip
      rw [rd7_0 V c ⟨n.val / 1000, h⟩ (lo 10 n) _ n he]
    · rw [coord7, rd7_1]
      by_cases h0 : n.val < 1000
      · rw [if_pos h0, if_pos (show n.val / 1000 = 0 by omega)]
      · rw [if_neg h0, if_neg (show ¬ n.val / 1000 = 0 by omega)]
  refine (final7_7 V c ⟨n.val / 1000, h⟩ (lo 10 n) j n he).trans ?_
  unfold out7_7
  rw [View.canon_unit_zero hzz7]
  simp only [View.ld_unit_zero (S := S1000x256) hzz7, View.ld_unit_zero (S := S256x256) hzz7, View.ld_unit_zero (S := S1x64) hzz7, View.ld_unit_zero (S := S1x192) hzz7]
  rw [k7_row_apply, hrow, rd7_2, rd7_3, rd7_4, rd7_6]

end Cert.KernelIdeal.Val

end
-- ==== Proof.KLayer.lean ====
/- The kernel's two layers as mathematics, and the value of its result. -/
module

public import proofs.«01_k».proof.Proof.KGeo
public import proofs.«01_k».proof.Proof.HostPerm
public import proofs.«01_k».proof.Proof.Reg2
public import proofs.«01_k».proof.Proof.Reg3
public import proofs.«01_k».proof.Proof.Reg4
public import proofs.«01_k».proof.Proof.Reg5
public import proofs.«01_k».proof.Proof.Reg6
public import proofs.«01_k».proof.Proof.Reg7

@[expose] public section
set_option maxHeartbeats 4000000
noncomputable section
namespace Cert.KernelIdeal.Val
open Cert.KernelIdeal Cert.KernelIdeal.Gen Idealize.ShloMosaic Idealize.ShloMosaic.TcCoe Cert.Spec Idealize.ShloMosaic.Pointwise

variable {m : (ℓ : Loc nD τ sig) → Buf (Elt Ideal) ℓ} (ρ : Dev nD → PrngReg) {c : Dev nD}

/-- The node features as given, with the columns reordered. -/
def X0 (m : (ℓ : Loc nD τ sig) → Buf (Elt Ideal) ℓ) (c : Dev nD) (n : Fin 10000) (j : Fin 256) : EReal :=
  (m ((c : Thread nD τ).loc main_arg4) : Vec Ideal S10000x256 .f32) (ix2 n (perm j))

variable {A : Args} (hA : Given m c A)
include hA

/-- The first layer's group means. -/
theorem k_v53 (g : Fin 512) (j : Fin 256) :
    @Eq EReal ((V11 m ρ c main_v53 : Vec Ideal S512x256 .f32) (ix2 g j)) (emb A (X0 m c) g.val j) := by
  refine (congrFun (W11_arr m ρ c 4) (ix2 g j)).trans ((embFinal2 (V10 m ρ) c g j).trans ?_)
  have hP : ∀ k : Fin 256, @Eq EReal ((V10 m ρ c main_v51 : Vec Ideal S256x256 .f32) (ix2 k j)) (if k = perm j then 1 else 0) :=
    fun k => h2_v51 (W5 m ρ c) k j
  rw [show (∑ k : Fin 256, (∑ n : Fin (10 * 1000), embTerm2 (V10 m ρ) c g k n) * (V10 m ρ c main_v51 : Vec Ideal S256x256 .f32) (ix2 k j)) = _ from
    Finset.sum_congr rfl fun k _ => congrArg (fun x : EReal => (∑ n : Fin (10 * 1000), embTerm2 (V10 m ρ) c g k n) * x) (hP k)]
  refine (sum_perm (fun k => ∑ n : Fin (10 * 1000), embTerm2 (V10 m ρ) c g k n) j).trans ?_
  refine Finset.sum_congr (M := EReal) rfl fun n _ => ?_
  unfold embTerm2
  refine congr (congrArg (fun x y : EReal => x * y) (congr (congrArg (fun x y : EReal => x * y) (congrArg (fun l => oh l g.val) ?_)) ?_)) ?_
  · exact (congrFun (keep_v6_1_10 m ρ c) _).trans (k_v6 ρ hA n)
  · exact (congrFun (keep_v13_1_2_10 m ρ c) _).trans (k_v13_1 ρ hA g)
  · exact congrFun (W10_args m ρ c main_arg4 (by decide)) _

/-- An edge's message from the buffers, once its words, basis, harmonics, weights and the groups' rows are known. -/
theorem msg_eq (Y : Fin 10000 → Fin 256 → EReal) (e : Fin 160000) (p : Fin 4) (u : Fin 64)
    (gid : BitVec 32) (rbf : Fin 32 → EReal) (sh : Fin 4 → EReal) (fcw : Fin 32 → Fin 256 → EReal) (em : Fin 512 → Fin 256 → EReal)
    (h1 : gid = BitVec.ofNat 32 (A.G e).val) (h2 : ∀ b, rbf b = rad A e b) (h3 : ∀ q, sh q = shr A e q) (h4 : ∀ b j, fcw b j = A.fcw b j)
    (h5 : ∀ g j, em g j = emb A Y g.val j) : edgemsg gid rbf sh fcw em p u = out A Y e p u := by
  have hG := (A.G e).isLt
  obtain rfl : rbf = rad A e := funext h2
  obtain rfl : sh = shr A e := funext h3
  obtain rfl : fcw = A.fcw := funext fun b => funext (h4 b)
  subst h1
  have hx : (fun q => ∑ g : Fin 512, oh (BitVec.ofNat 32 (A.G e).val) g.val * em g (col q u)) = fun q => emb A Y (A.G e).val (col q u) := by
    funext q
    exact (oh_pick 512 (by norm_num) (A.G e).val (by omega) (fun g => em g (col q u))).trans (h5 _ _)
  unfold edgemsg out
  rw [hx]
  rfl

/-- The first layer's messages, summed at the first 512 nodes. -/
theorem k_v55 (g : Fin 512) (j : Fin 256) :
    @Eq EReal ((V13 m ρ c main_v55 : Vec Ideal S512x256 .f32) (ix2 g j)) (delta A (X0 m c) g.val j) := by
  have hj : (ix2 g j : S512x256.Idx) = ix2 g (col (prt j) (chn j)) := by rw [col_prt_chn]
  rw [hj]
  refine (congrFun (W13_arr m ρ c 6) _).trans ((edgeFinal3 (V12 m ρ) c g (prt j) (chn j)).trans ?_)
  refine Finset.sum_congr (M := EReal) rfl fun e _ => ?_
  unfold edgeTerm3
  refine congr (congrArg (fun x y : EReal => x * y) (congrArg (fun l => oh l g.val) ?_)) ?_
  · exact (congrFun (keep_v4_4_12 m ρ c) _).trans ((congrFun (keep_v4_1_4 m ρ c) _).trans (k_v4 ρ hA e))
  · refine msg_eq hA (X0 m c) e (prt j) (chn j) _ _ _ _ _ ?_ (fun b => ?_) (fun q => ?_) (fun b j => ?_) (fun g j => ?_)
    · exact (congrFun (keep_v5_4_12 m ρ c) _).trans ((congrFun (keep_v5_1_4 m ρ c) _).trans (k_v5 ρ hA e))
    · exact (congrFun (keep_v18_0_5_12 m ρ c) _).trans (k_v18_0 ρ hA e b)
    · exact (congrFun (keep_v18_1_5_12 m ρ c) _).trans (k_v18_1 ρ hA e q)
    · exact (congrFun (W12_args m ρ c main_arg5 (by decide)) _).trans (hA.fcw b j)
    · exact (h3_v54 (W11 m ρ c) g j).trans (k_v53 ρ hA g j)

omit hA in
/-- The padded sums, at a node's row. -/
theorem head_eq (Y : Fin 10000 → Fin 256 → EReal) (n : Fin 10000) (k : Fin 256) (d : EReal)
    (f : Fin 512 → EReal) (hf : ∀ g, f g = delta A Y g.val k)
    (hd : d = if h : (lo 10 n).val < 512 then f ⟨(lo 10 n).val, h⟩ else 0) : headDelta n.val d = delta A Y n.val k := by
  have hn := n.isLt
  unfold headDelta
  by_cases h1 : n.val < 1000
  · have hl : (lo 10 n).val = n.val := Nat.mod_eq_of_lt h1
    rw [if_pos h1, hd]
    by_cases h2 : n.val < 512
    · rw [dif_pos (show (lo 10 n).val < 512 by rw [hl]; exact h2), hf]
      show delta A Y (lo 10 n).val k = _
      rw [hl]
    · rw [dif_neg (by rw [hl]; exact h2), delta_zero A Y n.val k (by omega) (by omega)]
  · rw [if_neg h1, delta_zero A Y n.val k (by omega) (by omega)]

/-- The normalization's scales and shifts, as the first layer's last stage finds them. -/
theorem k_norm15 (h : Fin 256 → EReal) (j : Fin 256) :
    normrow h (fun v => (V15 m ρ c main_v21 : Vec Ideal S1x64 .f32) (ix2 0 v)) (fun v => (V15 m ρ c main_v22 : Vec Ideal S1x64 .f32) (ix2 0 v))
      (fun v => (V15 m ρ c main_v28 : Vec Ideal S1x192 .f32) (ix2 0 v)) j = normrow h A.sc A.bias (fun _ => A.vw) j := by
  have e1 : (fun v => (V15 m ρ c main_v21 : Vec Ideal S1x64 .f32) (ix2 0 v)) = A.sc := funext fun v =>
    (congrFun (keep_v21_6_15 m ρ c) _).trans ((h2_v21 (W5 m ρ c) v).trans ((congrFun (W5_args m ρ c main_arg6 (by decide)) _).trans (hA.sc v)))
  have e2 : (fun v => (V15 m ρ c main_v22 : Vec Ideal S1x64 .f32) (ix2 0 v)) = A.bias := funext fun v =>
    (congrFun (keep_v22_6_15 m ρ c) _).trans ((h2_v22 (W5 m ρ c) v).trans ((congrFun (W5_args m ρ c main_arg7 (by decide)) _).trans (hA.bias v)))
  have e3 : (fun v => (V15 m ρ c main_v28 : Vec Ideal S1x192 .f32) (ix2 0 v)) = (fun _ => A.vw) := funext fun v =>
    (congrFun (keep_v28_6_15 m ρ c) _).trans ((h2_v28 (W5 m ρ c) v).trans ((congrFun (W5_args m ρ c main_arg6 (by decide)) _).trans (hA.vw _)))
  rw [e1, e2, e3]

/-- The same, as the second layer's last stage finds them. -/
theorem k_norm21 (h : Fin 256 → EReal) (j : Fin 256) :
    normrow h (fun v => (V21 m ρ c main_v21 : Vec Ideal S1x64 .f32) (ix2 0 v)) (fun v => (V21 m ρ c main_v22 : Vec Ideal S1x64 .f32) (ix2 0 v))
      (fun v => (V21 m ρ c main_v28 : Vec Ideal S1x192 .f32) (ix2 0 v)) j = normrow h A.sc A.bias (fun _ => A.vw) j := by
  refine Eq.trans ?_ (k_norm15 ρ hA h j)
  rw [show V21 m ρ c main_v21 = V15 m ρ c main_v21 from keep_v21_15_21 m ρ c, show V21 m ρ c main_v22 = V15 m ρ c main_v22 from keep_v22_15_21 m ρ c,
    show V21 m ρ c main_v28 = V15 m ρ c main_v28 from keep_v28_15_21 m ρ c]

/-- The first layer's result. -/
theorem k_v57 (n : Fin 10000) (j : Fin 256) :
    @Eq EReal ((V16 m ρ c main_v57 : Vec Ideal S10000x256 .f32) (ix2 n j)) (layer A (X0 m c) n j) := by
  refine (congrFun (W16_arr m ρ c 7) _).trans ((normFinal4 (V15 m ρ) c n j).trans ((k_norm15 ρ hA _ j).trans ?_))
  have hr : rowIn4 (V15 m ρ) c n = fun k => X0 m c n k + delta A (X0 m c) n.val k := by
    funext k
    unfold rowIn4
    refine congr (congrArg (fun x y : EReal => x + y) ?_) ?_
    · unfold rowMul
      have hP : ∀ i : Fin 256, @Eq EReal ((V15 m ρ c main_v51 : Vec Ideal S256x256 .f32) (ix2 i k)) (if i = perm k then 1 else 0) :=
        fun i => (congrFun (keep_v51_10_15 m ρ c) _).trans (h2_v51 (W5 m ρ c) i k)
      have hX : ∀ i : Fin 256, @Eq EReal ((V15 m ρ c main_arg4 : Vec Ideal S10000x256 .f32) (ix2 n i)) ((m ((c : Thread nD τ).loc main_arg4) : Vec Ideal S10000x256 .f32) (ix2 n i)) :=
        fun i => congrFun (W15_args m ρ c main_arg4 (by decide)) _
      refine Eq.trans (Finset.sum_congr (M := EReal) rfl fun i _ => congr (congrArg (fun x y : EReal => x * y) (hX i)) (hP i)) ?_
      exact sum_perm (fun i => (m ((c : Thread nD τ).loc main_arg4) : Vec Ideal S10000x256 .f32) (ix2 n i)) k
    · exact head_eq (A := A) (X0 m c) n k _ _ (fun g => k_v55 ρ hA g k) (h4_v56 (W13 m ρ c) (lo 10 n) k)
  rw [hr]
  rfl

/-- The second layer's group means. -/
theorem k_v58 (g : Fin 512) (j : Fin 256) :
    @Eq EReal ((V17 m ρ c main_v58 : Vec Ideal S512x256 .f32) (ix2 g j)) (emb A (layer A (X0 m c)) g.val j) := by
  refine (congrFun (W17_arr m ρ c 4) (ix2 g j)).trans ((embFinal5 (V16 m ρ) c g j).trans ?_)
  refine Finset.sum_congr (M := EReal) rfl fun n _ => ?_
  unfold embTerm5
  refine congr (congrArg (fun x y : EReal => x * y) (congr (congrArg (fun x y : EReal => x * y) (congrArg (fun l => oh l g.val) ?_)) ?_)) ?_
  · exact (congrFun (keep_v6_10_16 m ρ c) _).trans ((congrFun (keep_v6_1_10 m ρ c) _).trans (k_v6 ρ hA n))
  · exact (congrFun (keep_v13_1_10_16 m ρ c) _).trans ((congrFun (keep_v13_1_2_10 m ρ c) _).trans (k_v13_1 ρ hA g))
  · exact k_v57 ρ hA n j

/-- The second layer's messages, summed at the first 512 nodes. -/
theorem k_v60 (g : Fin 512) (j : Fin 256) :
    @Eq EReal ((V19 m ρ c main_v60 : Vec Ideal S512x256 .f32) (ix2 g j)) (delta A (layer A (X0 m c)) g.val j) := by
  have hj : (ix2 g j : S512x256.Idx) = ix2 g (col (prt j) (chn j)) := by rw [col_prt_chn]
  rw [hj]
  refine (congrFun (W19_arr m ρ c 6) _).trans ((edgeFinal6 (V18 m ρ) c g (prt j) (chn j)).trans ?_)
  refine Finset.sum_congr (M := EReal) rfl fun e _ => ?_
  unfold edgeTerm6
  refine congr (congrArg (fun x y : EReal => x * y) (congrArg (fun l => oh l g.val) ?_)) ?_
  · exact (congrFun (keep_v4_12_18 m ρ c) _).trans ((congrFun (keep_v4_4_12 m ρ c) _).trans ((congrFun (keep_v4_1_4 m ρ c) _).trans (k_v4 ρ hA e)))
  · refine msg_eq hA (layer A (X0 m c)) e (prt j) (chn j) _ _ _ _ _ ?_ (fun b => ?_) (fun q => ?_) (fun b j => ?_) (fun g j => ?_)
    · exact (congrFun (keep_v5_12_18 m ρ c) _).trans ((congrFun (keep_v5_4_12 m ρ c) _).trans ((congrFun (keep_v5_1_4 m ρ c) _).trans (k_v5 ρ hA e)))
    · exact (congrFun (keep_v18_0_12_18 m ρ c) _).trans ((congrFun (keep_v18_0_5_12 m ρ c) _).trans (k_v18_0 ρ hA e b))
    · exact (congrFun (keep_v18_1_12_18 m ρ c) _).trans ((congrFun (keep_v18_1_5_12 m ρ c) _).trans (k_v18_1 ρ hA e q))
    · exact (congrFun (W18_args m ρ c main_arg5 (by decide)) _).trans (hA.fcw b j)
    · exact (h6_v59 (W17 m ρ c) g j).trans (k_v58 ρ hA g j)

/-- The kernel's result: two layers on the features with reordered columns, and the columns put back. -/
theorem k_v62 (n : Fin 10000) (j : Fin 256) :
    @Eq EReal ((W22 m ρ c (Proc.devRef .tc main_v62) : Vec Ideal S10000x256 .f32) (ix2 n (perm j))) (layer A (layer A (X0 m c)) n j) := by
  refine (congrFun (W22_arr m ρ c 7) _).trans ((normFinal7 (V21 m ρ) c n (perm j)).trans ?_)
  have hr : rowIn7 (V21 m ρ) c n = fun k => layer A (X0 m c) n k + delta A (layer A (X0 m c)) n.val k := by
    funext k
    unfold rowIn7 addE
    refine congr (congrArg (fun x y : EReal => x + y) ?_) ?_
    · exact (congrFun (keep_v57_16_21 m ρ c) _).trans (k_v57 ρ hA n k)
    · exact head_eq (A := A) (layer A (X0 m c)) n k _ _ (fun g => k_v60 ρ hA g k) (h7_v61 (W19 m ρ c) (lo 10 n) k)
  have hP : ∀ k : Fin 256, @Eq EReal ((V21 m ρ c main_v52 : Vec Ideal S256x256 .f32) (ix2 k (perm j))) (if perm j = perm k then 1 else 0) :=
    fun k => (congrFun (keep_v52_10_21 m ρ c) _).trans (h2_v52 (W5 m ρ c) k (perm j))
  refine Eq.trans (Finset.sum_congr (M := EReal) rfl fun k _ => congr (congrArg (fun x y : EReal => x * y) (k_norm21 ρ hA _ k)) (hP k)) ?_
  rw [hr]
  exact sum_perm_back _ j

end Cert.KernelIdeal.Val
end
-- ==== Proof.KRun.lean ====
/- The kernel's run, with the result's array in the final state. -/
module

public import proofs.«01_k».proof.Proof.Gen.KernelIdeal.Frame

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel's run: it ends, and every final state has the result at what the last boundary holds and the arguments as
    launched. -/
theorem run_value : θ_run defs (onTc (τ := τ) (main (F := F))) ⟨m, fun _ => 0, ρ⟩ (fun r => ∀ c : Dev nD,
      r.2.mem ((c.tc : Thread nD τ).loc main_v62) = W22 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h _ c =>
      ⟨h c _ (mem_uc main_v62 (by decide)),
       (h c _ (mem_uc main_arg0 (by decide))).trans (W22_main_arg0 m ρ c),
       (h c _ (mem_uc main_arg1 (by decide))).trans (W22_main_arg1 m ρ c),
       (h c _ (mem_uc main_arg2 (by decide))).trans (W22_main_arg2 m ρ c),
       (h c _ (mem_uc main_arg3 (by decide))).trans (W22_main_arg3 m ρ c),
       (h c _ (mem_uc main_arg4 (by decide))).trans (W22_main_arg4 m ρ c),
       (h c _ (mem_uc main_arg5 (by decide))).trans (W22_main_arg5 m ρ c),
       (h c _ (mem_uc main_arg6 (by decide))).trans (W22_main_arg6 m ρ c),
       (h c _ (mem_uc main_arg7 (by decide))).trans (W22_main_arg7 m ρ c)⟩)

end Cert.KernelIdeal.Val

end
-- ==== Proof.REdge.lean ====
/- The reference's messages: the groups' means of the node features, the tensor product, the update of the nodes. -/
module

public import proofs.«01_k».proof.Proof.RGeo

@[expose] public section
set_option maxHeartbeats 4000000
noncomputable section
namespace Cert.ReferenceIdeal.Val
open Cert.ReferenceIdeal Cert.ReferenceIdeal.Gen Cert.ReferenceIdeal.Read Idealize.ShloMosaic Cert.Spec Idealize.ShloMosaic.Pointwise

/-- A scalar column keeps its place. -/
theorem perm_lo (j : Fin 256) (h : j.val < 64) : (perm j).val = j.val := if_pos h
/-- Where a vector column goes. -/
theorem perm_hi (j : Fin 256) (h : ¬ j.val < 64) : (perm j).val = 64 + ((j.val - 64) % 64) * 3 + (j.val - 64) / 64 := if_neg h
/-- A vector column's place, read back as its part and channel. -/
theorem perm_back (a P : ℕ) (ha : ¬ a < 64) (ha' : a < 256) (hp : P = 64 + ((a - 64) % 64) * 3 + (a - 64) / 64) :
    (P - 64) % 3 + 1 = a / 64 ∧ (P - 64) / 3 = a % 64 := by
  obtain ⟨q, r, hr, rfl⟩ : ∃ q r, r < 64 ∧ a = 64 * q + r := ⟨a / 64, a % 64, Nat.mod_lt _ (by norm_num), by omega⟩
  have h1 : (64 * q + r - 64) % 64 = r := by omega
  have h2 : (64 * q + r - 64) / 64 = q - 1 := by omega
  have h3 : (64 * q + r) / 64 = q := by omega
  have h4 : (64 * q + r) % 64 = r := by omega
  have h5 : 1 ≤ q := by omega
  have h6 : q < 4 := by omega
  rw [h1, h2] at hp
  rw [h3, h4, hp]
  clear h1 h2 h3 h4 hp
  omega

/-- The node features, column by column as the kernel lays them out. -/
def feat (x4 : Vec Ideal S10000x256 .f32) (n : Fin 10000) (j : Fin 256) : EReal := x4 (ix2 n (perm j))

variable {x0 : Vec Ideal S10000x3 .f32} {x1 : Vec Ideal S10000 .i32} {x2 : Vec Ideal S10000x1 .f32}
  {x3 : Vec Ideal S2x160000 .i32} {x5 : Vec Ideal S32x256 .f32} {x6 : Vec Ideal S2x64 .f32} {x7 : Vec Ideal S64 .f32}
  {A : Args} (hA : Given x0 x1 x2 x3 x5 x6 x7 A) (x4 : Vec Ideal S10000x256 .f32)
include hA

/-- The groups' counts of nodes. -/
theorem r_v58 (g : Fin 500) :
    @Eq EReal (val_main_v58 (F := Ideal) x1 (ix1 g)) (seg A.lab (fun _ => 1) g.val) := by
  refine (scat_scalars scatter_S500_S10000x1_S10000_n_0_0_1 rfl rfl rfl (by norm_num) (val_main_v56 (F := Ideal))
    (val_main_v57 (F := Ideal) x1) (val_main_v55 (F := Ideal)) g).trans ?_
  have h0 : @Eq EReal (val_main_v56 (F := Ideal) (ix1 g)) 0 := by pointwise [val_main_v56, val_main_cst_13]
  have h1 : ∀ e : Fin 10000, val_main_v57 (F := Ideal) x1 (ix2 e 0) = A.lab e := fun e => by
    refine Eq.trans ?_ (hA.lab e)
    pointwise [val_main_v57]
  have h2 : ∀ e : Fin 10000, @Eq EReal (val_main_v55 (F := Ideal) (ix1 e)) 1 := fun e => by
    pointwise [val_main_v55, val_main_cst_12]
  refine (congrArg (fun z : EReal => z + _) h0).trans ((zero_add _).trans ?_)
  unfold seg
  refine Finset.sum_congr (M := EReal) rfl fun e _ => ?_
  exact congr (congrArg (fun x y : EReal => x * y) (congrArg (fun l => oh l g.val) (h1 e))) (h2 e)

/-- The groups' sums of features. -/
theorem r_v63 (g : Fin 500) (j : Fin 256) :
    @Eq EReal (val_main_v63 (F := Ideal) x1 x4 (ix2 g j)) (seg A.lab (fun n => x4 (ix2 n j)) g.val) := by
  refine (scat_rows scatter_S500x256_S10000x1_S10000x256_1_0_0_1 rfl rfl rfl rfl (by norm_num) (val_main_v61 (F := Ideal))
    (val_main_v62 (F := Ideal) x1) x4 g j).trans ?_
  have h0 : @Eq EReal (val_main_v61 (F := Ideal) (ix2 g j)) 0 := by pointwise [val_main_v61, val_main_cst_15]
  have h1 : ∀ e : Fin 10000, val_main_v62 (F := Ideal) x1 (ix2 e 0) = A.lab e := fun e => by
    refine Eq.trans ?_ (hA.lab e)
    pointwise [val_main_v62]
  refine (congrArg (fun z : EReal => z + _) h0).trans ((zero_add _).trans ?_)
  unfold seg
  refine Finset.sum_congr (M := EReal) rfl fun e _ => ?_
  exact congrArg (fun l => oh l g.val * @id EReal (x4 (ix2 e j))) (h1 e)

/-- The groups' means of features. -/
theorem r_v66 (g : Fin 500) (j : Fin 256) :
    @Eq EReal (val_main_v66 (F := Ideal) x1 x4 (ix2 g (perm j))) (emb A (feat x4) g.val j) := by
  have h : @Eq EReal (val_main_v66 (F := Ideal) x1 x4 (ix2 g (perm j)))
      (Ideal.div (val_main_v63 (F := Ideal) x1 x4 (ix2 g (perm j))) (max (val_main_v58 (F := Ideal) x1 (ix1 g)) 1)) := by
    pointwise [val_main_v66, val_main_v65, val_main_v64, val_main_v60, val_main_v59, val_main_cst_14]
  rw [h, r_v63 hA x4, r_v58 hA]
  obtain ⟨h0, ht, hn⟩ := inv_max_one (seg A.lab (fun _ => 1) g.val)
  rw [div_eq_mul_div_one _ _ hn, mul_comm]
  unfold emb invc seg
  unfold seg at h0 ht
  rw [← sum_mul_left _ _ h0 ht]
  refine Finset.sum_congr rfl fun n _ => ?_
  unfold feat
  rw [mul_left_comm, mul_assoc]

/-- The edges' source rows. -/
theorem r_v76 (e : Fin 160000) (j : Fin 256) :
    @Eq EReal (val_main_v76 (F := Ideal) x1 x3 x4 (ix2 e (perm j))) (emb A (feat x4) (A.G e).val j) := by
  refine (Routing.gather_row gather_S500x256_S160000x1_S160000x256_1_0_n_n_0_1_1256 rfl rfl rfl rfl rfl (val_main_v66 (F := Ideal) x1 x4)
    (val_main_v75 (F := Ideal) x3) e (perm j) (A.G e) (r_v75 hA e) (by norm_num)).trans ?_
  exact r_v66 hA x4 (A.G e) j

/-- The source's scalar part. -/
theorem r_v77 (e : Fin 160000) (u : Fin 64) :
    @Eq EReal (val_main_v77 (F := Ideal) x1 x3 x4 (ix2 e u)) (emb A (feat x4) (A.G e).val (col 0 u)) := by
  have hp : perm (col 0 u) = ⟨u.val, by omega⟩ := Fin.ext ((perm_lo _ (by show 64 * 0 + u.val < 64; omega)).trans (Nat.zero_add _))
  rw [← r_v76 hA x4, hp]
  pointwise [val_main_v77]
/-- The source's vector parts. -/
theorem r_v79 (e : Fin 160000) (u : Fin 64) (k : Fin 3) :
    @Eq EReal (val_main_v79 (F := Ideal) x1 x3 x4 (ix3 e u k)) (emb A (feat x4) (A.G e).val (col ⟨k.val + 1, by omega⟩ u)) := by
  have hp : perm (col ⟨k.val + 1, by omega⟩ u) = ⟨64 + (u.val * 3 + k.val), by omega⟩ := Fin.ext (by
    have := k.isLt
    have := u.isLt
    have hv : (col ⟨k.val + 1, by omega⟩ u).val = 64 * (k.val + 1) + u.val := rfl
    rw [perm_hi _ (by omega), hv]
    show _ = 64 + (u.val * 3 + k.val)
    have h1 : (64 * (k.val + 1) + u.val - 64) % 64 = u.val := by omega
    have h2 : (64 * (k.val + 1) + u.val - 64) / 64 = k.val := by omega
    rw [h1, h2]; omega)
  rw [← r_v76 hA x4, hp]
  pointwise [val_main_v79, val_main_v78]

omit hA in
/-- The first harmonic. -/
theorem r_v80 (e : Fin 160000) : @Eq EReal (val_main_v80 (F := Ideal) x0 x1 x2 x3 (ix2 e 0)) (val_main_v54 (F := Ideal) x0 x1 x2 x3 (ix2 e 0)) := by
  pointwise [val_main_v80]
omit hA in
/-- The vector harmonics. -/
theorem r_v81 (e : Fin 160000) (k : Fin 3) : @Eq EReal (val_main_v81 (F := Ideal) x0 x1 x2 x3 (ix2 e k)) (val_main_v54 (F := Ideal) x0 x1 x2 x3 (ix2 e ⟨k.val + 1, by omega⟩)) := by
  have hk : ∀ h, (⟨1 + k.val, h⟩ : Fin 4) = ⟨k.val + 1, by omega⟩ := fun h => Fin.ext (Nat.add_comm 1 k.val)
  pointwise [val_main_v81]
  rw [hk]

omit hA in
/-- The four weights of an edge and channel. -/
theorem r_v82 (e : Fin 160000) (u : Fin 64) :
    @Eq EReal (val_main_v82 (F := Ideal) x0 x1 x2 x3 x5 (ix2 e u)) (val_main_v69 (F := Ideal) x0 x1 x2 x3 x5 (ix2 e (col 0 u)))
    ∧ @Eq EReal (val_main_v83 (F := Ideal) x0 x1 x2 x3 x5 (ix2 e u)) (val_main_v69 (F := Ideal) x0 x1 x2 x3 x5 (ix2 e (col 1 u)))
    ∧ @Eq EReal (val_main_v84 (F := Ideal) x0 x1 x2 x3 x5 (ix2 e u)) (val_main_v69 (F := Ideal) x0 x1 x2 x3 x5 (ix2 e (col 2 u)))
    ∧ @Eq EReal (val_main_v85 (F := Ideal) x0 x1 x2 x3 x5 (ix2 e u)) (val_main_v69 (F := Ideal) x0 x1 x2 x3 x5 (ix2 e (col 3 u))) := by
  have k0 : ∀ h, (⟨u.val, h⟩ : Fin 256) = col 0 u := fun h => Fin.ext (Nat.zero_add _).symm
  have k1 : ∀ h, (⟨64 + u.val, h⟩ : Fin 256) = col 1 u := fun h => rfl
  have k2 : ∀ h, (⟨128 + u.val, h⟩ : Fin 256) = col 2 u := fun h => rfl
  have k3 : ∀ h, (⟨192 + u.val, h⟩ : Fin 256) = col 3 u := fun h => rfl
  refine ⟨?_, ?_, ?_, ?_⟩
  · pointwise [val_main_v82]
    rw [k0]
  · pointwise [val_main_v83]
    rw [k1]
  · pointwise [val_main_v84]
    rw [k2]
  · pointwise [val_main_v85]
    rw [k3]

/-- The scalar part of a message. -/
theorem r_v97 (e : Fin 160000) (u : Fin 64) :
    @Eq EReal (val_main_v97 (F := Ideal) x0 x1 x2 x3 x4 x5 (ix2 e u)) (out A (feat x4) e 0 u) := by
  obtain ⟨w0, w1, w2, w3⟩ := r_v82 (x0 := x0) (x1 := x1) (x2 := x2) (x3 := x3) (x5 := x5) e u
  rw [r_v69 hA] at w0 w1 w2 w3
  have s0 := (r_v80 e).trans (r_v54 hA e 0)
  have s1 := fun k => (r_v81 e k).trans (r_v54 hA e ⟨k.val + 1, by omega⟩)
  have x := r_v77 hA x4 e u
  have y := r_v79 hA x4 e u
  unfold out msg
  rw [if_pos (show (0 : Fin 4).val = 0 from rfl)]
  dsimp only
  rw [← half_div_rt3, ← w0, ← w3, ← s0, ← x]
  have d : @Eq EReal (val_main_v93 (F := Ideal) x0 x1 x2 x3 x4 (ix2 e u)) (emb A (feat x4) (A.G e).val (col 1 u) * shr A e 1
      + emb A (feat x4) (A.G e).val (col 2 u) * shr A e 2 + emb A (feat x4) (A.G e).val (col 3 u) * shr A e 3) := by
    have h : @Eq EReal (val_main_v93 (F := Ideal) x0 x1 x2 x3 x4 (ix2 e u))
        (∑ k : Fin 3, @HMul.hMul EReal EReal EReal _ (val_main_v79 (F := Ideal) x1 x3 x4 (ix3 e u k)) (val_main_v81 (F := Ideal) x0 x1 x2 x3 (ix2 e k))) := by
      pointwise [val_main_v93]
    rw [h]
    simp only [y, s1]
    rw [Fin.sum_univ_three]
    rfl
  rw [← d]
  unfold half rt3
  pointwise [val_main_v97, val_main_v96, val_main_v95, val_main_v94, val_main_v92, val_main_v91, val_main_v90, val_main_v89, val_main_v88, val_main_v87, val_main_v86,
    val_main_cst_19, val_main_cst_20, val_main_cst_21]

/-- The vector parts of a message. -/
theorem r_v113 (e : Fin 160000) (u : Fin 64) (k : Fin 3) :
    @Eq EReal (val_main_v113 (F := Ideal) x0 x1 x2 x3 x4 x5 (ix3 e u k)) (out A (feat x4) e ⟨k.val + 1, by omega⟩ u) := by
  obtain ⟨w0, w1, w2, w3⟩ := r_v82 (x0 := x0) (x1 := x1) (x2 := x2) (x3 := x3) (x5 := x5) e u
  rw [r_v69 hA] at w0 w1 w2 w3
  have s0 := (r_v80 e).trans (r_v54 hA e 0)
  have s1 := (r_v81 e k).trans (r_v54 hA e ⟨k.val + 1, by omega⟩)
  have x := r_v77 hA x4 e u
  have y := r_v79 hA x4 e u k
  unfold out msg
  rw [if_neg (by simp)]
  dsimp only
  rw [← w1, ← w2, ← s0, ← s1, ← x, ← y]
  unfold aone
  pointwise [val_main_v113, val_main_v112, val_main_v111, val_main_v110, val_main_v109, val_main_v108, val_main_v107, val_main_v106, val_main_v105, val_main_v104,
    val_main_v103, val_main_v102, val_main_v101, val_main_v100, val_main_v99, val_main_v98, val_main_cst_22, val_main_cst_23]
  simp only [mul_assoc]

/-- A message, column by column as the kernel lays it out. -/
theorem r_v115 (e : Fin 160000) (j : Fin 256) :
    @Eq EReal (val_main_v115 (F := Ideal) x0 x1 x2 x3 x4 x5 (ix2 e (perm j))) (out A (feat x4) e (prt j) (chn j)) := by
  have h : ∀ c : Fin 256, @Eq EReal (val_main_v115 (F := Ideal) x0 x1 x2 x3 x4 x5 (ix2 e c))
      (if h : c.val < 64 then val_main_v97 (F := Ideal) x0 x1 x2 x3 x4 x5 (ix2 e ⟨c.val, h⟩)
        else val_main_v113 (F := Ideal) x0 x1 x2 x3 x4 x5 (ix3 e ⟨(c.val - 64) / 3, by omega⟩ ⟨(c.val - 64) % 3, Nat.mod_lt _ (by norm_num)⟩)) := fun c => by
    pointwise [val_main_v115, val_main_v114]
  have hj := j.isLt
  rw [h]
  by_cases hc : j.val < 64
  · have hp : (perm j).val = j.val := perm_lo j hc
    rw [dif_pos (by omega), r_v97 hA x4]
    have hq : prt j = 0 := Fin.ext (by show j.val / 64 = 0; omega)
    have hu : chn j = ⟨(perm j).val, by omega⟩ := Fin.ext (by show j.val % 64 = (perm j).val; omega)
    rw [hq, hu]
  · have hp : (perm j).val = 64 + ((j.val - 64) % 64) * 3 + (j.val - 64) / 64 := perm_hi j hc
    rw [dif_neg (by omega), r_v113 hA x4]
    have hx : ∀ (p p' : Fin 4) (u u' : Fin 64), p = p' → u = u' → out A (feat x4) e p u = out A (feat x4) e p' u' := by
      intro p p' u u' h1 h2; rw [h1, h2]
    obtain ⟨h1, h2⟩ := perm_back j.val (perm j).val hc hj hp
    exact hx _ _ _ _ (Fin.ext h1) (Fin.ext h2)

/-- The nodes after the update, column by column as the kernel lays them out. -/
theorem r_v122 (n : Fin 10000) (j : Fin 256) :
    @Eq EReal (val_main_v122 (F := Ideal) x0 x1 x2 x3 x4 x5 (ix2 n (perm j))) (feat x4 n j + delta A (feat x4) n.val j) := by
  refine (scat_rows scatter_S10000x256_S160000x1_S160000x256_1_0_0_1 rfl rfl rfl rfl (by norm_num) x4
    (val_main_v121 (F := Ideal) x3) (val_main_v115 (F := Ideal) x0 x1 x2 x3 x4 x5) n (perm j)).trans ?_
  refine congrArg (fun z : EReal => feat x4 n j + z) ?_
  unfold seg delta
  refine Finset.sum_congr (M := EReal) rfl fun e _ => ?_
  exact congr (congrArg (fun x y : EReal => x * y) (congrArg (fun l => oh l n.val) (r_v121 hA e))) (r_v115 hA x4 e j)

end Cert.ReferenceIdeal.Val
end
-- ==== Proof.RNorm.lean ====
/- The reference's normalization, and with it one whole layer. -/
module

public import proofs.«01_k».proof.Proof.REdge

@[expose] public section
set_option maxHeartbeats 4000000
noncomputable section
namespace Cert.ReferenceIdeal.Val
open Cert.ReferenceIdeal Cert.ReferenceIdeal.Gen Cert.ReferenceIdeal.Read Idealize.ShloMosaic Cert.Spec Idealize.ShloMosaic.Pointwise

variable {x0 : Vec Ideal S10000x3 .f32} {x1 : Vec Ideal S10000 .i32} {x2 : Vec Ideal S10000x1 .f32}
  {x3 : Vec Ideal S2x160000 .i32} {x5 : Vec Ideal S32x256 .f32} {x6 : Vec Ideal S2x64 .f32} {x7 : Vec Ideal S64 .f32}
  {A : Args} (x4 : Vec Ideal S10000x256 .f32)

/-- The sum of squares of the centred scalars. -/
theorem r_v132 (n : Fin 10000) :
    @Eq EReal (val_main_v132 (F := Ideal) x0 x1 x2 x3 x4 x5 (ix1 n))
      (∑ v : Fin 64, @HMul.hMul EReal EReal EReal _ (val_main_v130 (F := Ideal) x0 x1 x2 x3 x4 x5 (ix3 n 0 v)) (val_main_v130 (F := Ideal) x0 x1 x2 x3 x4 x5 (ix3 n 0 v))) := by
  pointwise [val_main_v132, val_main_v131, val_main_cst_28]
  exact Fin.sum_univ_one (M := EReal) _

/-- The sum of squares of the vector entries. -/
theorem r_v152 (n : Fin 10000) :
    @Eq EReal (val_main_v152 (F := Ideal) x0 x1 x2 x3 x4 x5 (ix1 n))
      (∑ k : Fin 3, ∑ v : Fin 64, @HMul.hMul EReal EReal EReal _ (val_main_v150 (F := Ideal) x0 x1 x2 x3 x4 x5 (ix3 n k v)) (val_main_v150 (F := Ideal) x0 x1 x2 x3 x4 x5 (ix3 n k v))) := by
  pointwise [val_main_v152, val_main_v151, val_main_cst_32]

/-- The scalar row of the updated nodes. -/
theorem r_v124 (n : Fin 10000) (u : Fin 64) :
    @Eq EReal (val_main_v124 (F := Ideal) x0 x1 x2 x3 x4 x5 (ix3 n 0 u)) (val_main_v122 (F := Ideal) x0 x1 x2 x3 x4 x5 (ix2 n (col 0 u))) := by
  have h : ∀ h, (⟨u.val, h⟩ : Fin 256) = col 0 u := fun h => Fin.ext (Nat.zero_add _).symm
  pointwise [val_main_v124, val_main_v123]
  rw [h]

/-- The vector rows of the updated nodes. -/
theorem r_v150 (n : Fin 10000) (k : Fin 3) (u : Fin 64) :
    @Eq EReal (val_main_v150 (F := Ideal) x0 x1 x2 x3 x4 x5 (ix3 n k u)) (val_main_v122 (F := Ideal) x0 x1 x2 x3 x4 x5 (ix2 n (col ⟨k.val + 1, by omega⟩ u))) := by
  have h : ∀ h, (⟨(1 + k.val) * 64 + u.val, h⟩ : Fin 256) = col ⟨k.val + 1, by omega⟩ u := fun h => Fin.ext (by
    show (1 + k.val) * 64 + u.val = 64 * (k.val + 1) + u.val
    omega)
  pointwise [val_main_v150, val_main_v123]
  rw [h]

/-- The rows' entries side by side again. -/
theorem r_v168_split (n : Fin 10000) (c : Fin 256) :
    @Eq EReal (val_main_v168 (F := Ideal) x0 x1 x2 x3 x4 x5 x6 x7 (ix2 n c))
      (if h : c.val / 64 < 1 then val_main_v149 (F := Ideal) x0 x1 x2 x3 x4 x5 x6 x7 (ix3 n ⟨c.val / 64, h⟩ ⟨c.val % 64, Nat.mod_lt _ (by norm_num)⟩)
        else val_main_v166 (F := Ideal) x0 x1 x2 x3 x4 x5 x6 (ix3 n ⟨c.val / 64 - 1, by omega⟩ ⟨c.val % 64, Nat.mod_lt _ (by norm_num)⟩)) := by
  pointwise [val_main_v168, val_main_v167]

/-- Which vector row and channel a vector column's place is. -/
def place (i : Fin 192) : Fin 3 × Fin 64 :=
  (⟨((perm ⟨64 + i.val, by omega⟩).val - 64) / 64, by omega⟩, ⟨((perm ⟨64 + i.val, by omega⟩).val - 64) % 64, Nat.mod_lt _ (by norm_num)⟩)

/-- The place's column. -/
theorem col_place (i : Fin 192) : col ⟨(place i).1.val + 1, by omega⟩ (place i).2 = perm ⟨64 + i.val, by omega⟩ := by
  have h := perm_hi ⟨64 + i.val, by omega⟩ (by show ¬ 64 + i.val < 64; omega)
  have hp : 64 ≤ (perm ⟨64 + i.val, by omega⟩).val := by omega
  refine Fin.ext ?_
  show 64 * (((perm ⟨64 + i.val, by omega⟩).val - 64) / 64 + 1) + ((perm ⟨64 + i.val, by omega⟩).val - 64) % 64 = _
  clear h
  omega

/-- Summing over the vector rows and channels is summing over the vector columns, in whichever order. -/
theorem sum_vec (f : Fin 256 → EReal) :
    ∑ k : Fin 3, ∑ v : Fin 64, f (col ⟨k.val + 1, by omega⟩ v) = ∑ i : Fin 192, f (perm ⟨64 + i.val, by omega⟩) := by
  rw [← Fintype.sum_prod_type' (f := fun (k : Fin 3) (v : Fin 64) => f (col ⟨k.val + 1, by omega⟩ v))]
  symm
  refine Fintype.sum_bijective place ((Fintype.bijective_iff_injective_and_card place).2 ⟨?_, by simp⟩) _ _ ?_
  · intro a b h
    have hc : ∀ x y : Fin 3 × Fin 64, x = y → col ⟨x.1.val + 1, by omega⟩ x.2 = col ⟨y.1.val + 1, by omega⟩ y.2 := fun x y h => by subst h; rfl
    have hp : perm ⟨64 + a.val, by omega⟩ = perm ⟨64 + b.val, by omega⟩ := (col_place a).symm.trans ((hc _ _ h).trans (col_place b))
    have := congrArg Fin.val (perm_inj _ _ hp)
    exact Fin.ext (by simpa using this)
  · intro i
    exact congrArg f (col_place i).symm

variable (hA : Given x0 x1 x2 x3 x5 x6 x7 A)
include hA

/-- The normalized scalars. -/
theorem r_v149 (n : Fin 10000) (u : Fin 64) (X : Fin 64 → EReal)
    (hX : ∀ v, @Eq EReal (val_main_v122 (F := Ideal) x0 x1 x2 x3 x4 x5 (ix2 n (col 0 v))) (X v)) :
    @Eq EReal (val_main_v149 (F := Ideal) x0 x1 x2 x3 x4 x5 x6 x7 (ix3 n 0 u)) (nscal X A.sc A.bias u) := by
  have hY : ∀ v, @Eq EReal (val_main_v124 (F := Ideal) x0 x1 x2 x3 x4 x5 (ix3 n 0 v)) (X v) := fun v => (r_v124 x4 n v).trans (hX v)
  have hm : @Eq EReal (val_main_v128 (F := Ideal) x0 x1 x2 x3 x4 x5 (ix3 n 0 0)) (Ideal.div (∑ v, X v) c64) := by
    unfold c64
    simp only [← hY]
    pointwise [val_main_v128, val_main_v127, val_main_v126, val_main_v125, val_main_cst_26, val_main_cst_27]
  have hc : ∀ v : Fin 64, @Eq EReal (val_main_v130 (F := Ideal) x0 x1 x2 x3 x4 x5 (ix3 n 0 v)) (X v - Ideal.div (∑ v, X v) c64) := fun v => by
    rw [← hm, ← hY]
    pointwise [val_main_v130, val_main_v129]
  have hs : @Eq EReal (val_main_v132 (F := Ideal) x0 x1 x2 x3 x4 x5 (ix1 n))
      (∑ v : Fin 64, (X v - Ideal.div (∑ v, X v) c64) * (X v - Ideal.div (∑ v, X v) c64)) := by
    rw [r_v132]
    simp only [hc]
  have hv : @Eq EReal (val_main_v137 (F := Ideal) x0 x1 x2 x3 x4 x5 (ix3 n 0 0))
      (Ideal.div (∑ v : Fin 64, (X v - Ideal.div (∑ v, X v) c64) * (X v - Ideal.div (∑ v, X v) c64)) c64 + epsn) := by
    rw [← hs]
    unfold c64 epsn
    pointwise [val_main_v137, val_main_v136, val_main_v135, val_main_v134, val_main_v133, val_main_cst_29, val_main_cst_30]
  have hp : (0 : EReal) < Ideal.div (∑ v : Fin 64, (X v - Ideal.div (∑ v, X v) c64) * (X v - Ideal.div (∑ v, X v) c64)) c64 + epsn := by
    rw [c64_eq]
    exact mean_pos _ 64 (by norm_num) (sum_sq_nonneg _)
  have hr := pow_neg_half _ hp
  have e : @Eq EReal (val_main_v149 (F := Ideal) x0 x1 x2 x3 x4 x5 x6 x7 (ix3 n 0 u))
      (@HAdd.hAdd EReal EReal EReal _ (@HMul.hMul EReal EReal EReal _ (@HMul.hMul EReal EReal EReal _ (val_main_v130 (F := Ideal) x0 x1 x2 x3 x4 x5 (ix3 n 0 u))
        (Ideal.pow (val_main_v137 (F := Ideal) x0 x1 x2 x3 x4 x5 (ix3 n 0 0)) (Ideal.ofBits .f32 0xBF000000#32))) (x6 (ix2 0 u))) (x7 (ix1 u))) := by
    pointwise [val_main_v149, val_main_v148, val_main_v147, val_main_v146, val_main_v145, val_main_v144, val_main_v143, val_main_v142, val_main_v141, val_main_v140,
      val_main_v139, val_main_v138, val_main_cst_31]
  rw [e, hv, hr, hc, hA.sc, hA.bias]
  rfl

/-- The normalized vector entries. -/
theorem r_v166 (n : Fin 10000) (k : Fin 3) (u : Fin 64) (X : Fin 256 → EReal)
    (hX : ∀ c, @Eq EReal (val_main_v122 (F := Ideal) x0 x1 x2 x3 x4 x5 (ix2 n c)) (X c)) :
    @Eq EReal (val_main_v166 (F := Ideal) x0 x1 x2 x3 x4 x5 x6 (ix3 n k u))
      (X (col ⟨k.val + 1, by omega⟩ u) * Ideal.rsqrt (Ideal.div (∑ i : Fin 192, X (perm ⟨64 + i.val, by omega⟩) * X (perm ⟨64 + i.val, by omega⟩)) c192 + epsn) * A.vw) := by
  have hY : ∀ k v, @Eq EReal (val_main_v150 (F := Ideal) x0 x1 x2 x3 x4 x5 (ix3 n k v)) (X (col ⟨k.val + 1, by omega⟩ v)) := fun k v => (r_v150 x4 n k v).trans (hX _)
  have hs : @Eq EReal (val_main_v152 (F := Ideal) x0 x1 x2 x3 x4 x5 (ix1 n))
      (∑ i : Fin 192, X (perm ⟨64 + i.val, by omega⟩) * X (perm ⟨64 + i.val, by omega⟩)) := by
    rw [r_v152]
    simp only [hY]
    exact sum_vec (fun c => X c * X c)
  have hv : @Eq EReal (val_main_v157 (F := Ideal) x0 x1 x2 x3 x4 x5 (ix3 n 0 0))
      (Ideal.div (∑ i : Fin 192, X (perm ⟨64 + i.val, by omega⟩) * X (perm ⟨64 + i.val, by omega⟩)) c192 + epsn) := by
    rw [← hs]
    unfold c192 epsn
    pointwise [val_main_v157, val_main_v156, val_main_v155, val_main_v154, val_main_v153, val_main_cst_33, val_main_cst_34]
  have hp : (0 : EReal) < Ideal.div (∑ i : Fin 192, X (perm ⟨64 + i.val, by omega⟩) * X (perm ⟨64 + i.val, by omega⟩)) c192 + epsn := by
    rw [c192_eq]
    exact mean_pos _ 192 (by norm_num) (sum_sq_nonneg (fun i : Fin 192 => X (perm ⟨64 + i.val, by omega⟩)))
  have hr := pow_neg_half _ hp
  have e : @Eq EReal (val_main_v166 (F := Ideal) x0 x1 x2 x3 x4 x5 x6 (ix3 n k u))
      (@HMul.hMul EReal EReal EReal _ (@HMul.hMul EReal EReal EReal _ (val_main_v150 (F := Ideal) x0 x1 x2 x3 x4 x5 (ix3 n k u))
        (Ideal.pow (val_main_v157 (F := Ideal) x0 x1 x2 x3 x4 x5 (ix3 n 0 0)) (Ideal.ofBits .f32 0xBF000000#32))) (x6 (ix2 1 u))) := by
    pointwise [val_main_v166, val_main_v165, val_main_v164, val_main_v163, val_main_v162, val_main_v161, val_main_v160,
      val_main_v159, val_main_v158, val_main_cst_35]
  rw [e, hv, hr, hY, hA.vw]

/-- One whole layer of the reference, column by column as the kernel lays it out. -/
theorem r_v168 (n : Fin 10000) (j : Fin 256) :
    @Eq EReal (val_main_v168 (F := Ideal) x0 x1 x2 x3 x4 x5 x6 x7 (ix2 n (perm j))) (layer A (feat x4) n j) := by
  obtain ⟨X, hX⟩ : ∃ X : Fin 256 → EReal, ∀ c, @Eq EReal (val_main_v122 (F := Ideal) x0 x1 x2 x3 x4 x5 (ix2 n c)) (X c) := ⟨_, fun _ => rfl⟩
  have hP : (fun k => feat x4 n k + delta A (feat x4) n.val k) = fun k => X (perm k) :=
    funext fun k => (r_v122 hA x4 n k).symm.trans (hX _)
  have hj := j.isLt
  rw [r_v168_split]
  unfold layer normrow
  rw [hP]
  dsimp only
  by_cases hc : j.val < 64
  · have hp := perm_lo j hc
    rw [dif_pos hc, dif_pos (by omega)]
    have h0 : ∀ h, (⟨(perm j).val / 64, h⟩ : Fin 1) = 0 := fun h => Subsingleton.elim _ _
    rw [h0, r_v149 x4 hA n _ (fun v => X (col 0 v)) (fun v => hX _)]
    have hu : (⟨(perm j).val % 64, Nat.mod_lt _ (by norm_num)⟩ : Fin 64) = ⟨j.val, hc⟩ := Fin.ext (by show (perm j).val % 64 = j.val; omega)
    have hq : (fun v : Fin 64 => X (col 0 v)) = fun v : Fin 64 => X (perm ⟨v.val, by omega⟩) := funext fun v =>
      congrArg X (Fin.ext ((Nat.zero_add _).trans (perm_lo ⟨v.val, by omega⟩ v.isLt).symm))
    rw [hu, hq]
  · have hp := perm_hi j hc
    have hg : 64 ≤ (perm j).val := by omega
    rw [dif_neg hc, dif_neg (by omega), r_v166 x4 hA n _ _ X hX]
    unfold nvec
    have h1 : col ⟨(⟨(perm j).val / 64 - 1, by omega⟩ : Fin 3).val + 1, by omega⟩ ⟨(perm j).val % 64, Nat.mod_lt _ (by norm_num)⟩ = perm j := Fin.ext (by
      show 64 * ((perm j).val / 64 - 1 + 1) + (perm j).val % 64 = (perm j).val
      clear hp
      omega)
    have h2 : ∀ h, (⟨64 + (j.val - 64), h⟩ : Fin 256) = j := fun h => Fin.ext (by show 64 + (j.val - 64) = j.val; omega)
    rw [h1]
    dsimp only
    rw [h2]

/-- Both layers of the reference, column by column as the kernel lays them out. -/
theorem r_v276 (n : Fin 10000) (j : Fin 256) :
    @Eq EReal (val_main_v276 (F := Ideal) x0 x1 x2 x3 x4 x5 x6 x7 (ix2 n (perm j))) (layer A (layer A (feat x4)) n j) := by
  have h : val_main_v276 (F := Ideal) x0 x1 x2 x3 x4 x5 x6 x7
      = val_main_v168 (F := Ideal) x0 x1 x2 x3 (val_main_v168 (F := Ideal) x0 x1 x2 x3 x4 x5 x6 x7) x5 x6 x7 := rfl
  rw [h, r_v168 _ hA]
  have hf : feat (val_main_v168 (F := Ideal) x0 x1 x2 x3 x4 x5 x6 x7) = layer A (feat x4) :=
    funext fun n => funext fun j => r_v168 x4 hA n j
  rw [hf]

end Cert.ReferenceIdeal.Val
end
-- ==== Proof.Join.lean ====
/- The kernel's result is the reference's result, entry by entry. -/
module

public import proofs.«01_k».proof.Proof.Given
public import proofs.«01_k».proof.Proof.KLayer
public import proofs.«01_k».proof.Proof.KRun
public import proofs.«01_k».proof.Proof.RNorm

@[expose] public section
set_option maxHeartbeats 4000000
noncomputable section
namespace Cert.Join
open Idealize.ShloMosaic Idealize.ShloMosaic.TcCoe Cert.Spec Idealize.ShloMosaic.Pointwise

variable (m : (ℓ : Loc Cert.KernelIdeal.nD Cert.KernelIdeal.τ Cert.KernelIdeal.sig) → Buf (Elt Ideal) ℓ)
  (ρ : Dev Cert.KernelIdeal.nD → PrngReg)

/-- What the kernel leaves as its result is the reference's function of the kernel's arguments. -/
theorem result_eq (h : Cert.Pre_KernelIdeal_in_range m) (c : Dev Cert.KernelIdeal.nD) :
    Cert.KernelIdeal.Gen.W22 m ρ c (Proc.devRef .tc Cert.KernelIdeal.main_v62)
      = Cert.ReferenceIdeal.Read.val_main_v276 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7)) := by
  obtain ⟨A, hA⟩ := exists_args m h c
  have hB : Cert.ReferenceIdeal.Val.Given
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) A :=
    ⟨hA.pos, hA.lab, hA.wt, hA.nd, hA.gp, hA.fcw, hA.sc, hA.vw, hA.bias⟩
  refine funext fun i => ?_
  obtain ⟨n, j, rfl⟩ : ∃ (n : Fin 10000) (j : Fin 256), i = ix2 n j := ⟨i 0, i 1, eq_ix2 i⟩
  obtain ⟨j, rfl⟩ := perm_surj j
  exact (Cert.KernelIdeal.Val.k_v62 ρ hA n j).trans (Cert.ReferenceIdeal.Val.r_v276 _ hB n j).symm

end Cert.Join
end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_in_range
public import proofs.«01_k».proof.Proof.Join
public import Idealize.ShloMosaic.Adequacy
public import Idealize.ShloMosaic.Init

@[expose] public section

set_option maxHeartbeats 4000000

noncomputable section

namespace Cert.Proof

open Idealize.ShloMosaic Idealize.SL.Sem

/-- The named constants stand for the words the kernel writes, rounded. -/
theorem preserves : Cert.preserves_Kernel_KernelIdeal :=
  ⟨IdealRules.named_const.statement Cert.KernelIdeal.κ "mu_step" .f32 0x3EA5294A#32 _ rfl,
   IdealRules.named_const.statement Cert.KernelIdeal.κ "inv_sqrt32" .f32 0x3E3504F3#32 _ rfl,
   IdealRules.named_const.statement Cert.KernelIdeal.κ "half_inv_sqrt3" .f32 0x3E93CD3A#32 _ rfl⟩

/-- Over exact arithmetic the kernel's result is the reference's, on arguments within the precondition. -/
theorem algebraic : Cert.algebraic_KernelIdeal_ReferenceIdeal_pre_in_range := by
  intro m g m' g' hpre hargs
  refine ⟨fun c => Cert.KernelIdeal.Gen.W22 m g c (Proc.devRef .tc Cert.KernelIdeal.main_v62), Cert.KernelIdeal.Val.run_value m g, ?_⟩
  refine (θ_run _ _ _).mono (fun r h c => ⟨?_, (h c).2⟩) (Cert.ReferenceIdeal.Value.run (F := Ideal) m' g')
  obtain ⟨h0, h1, h2, h3, h4, h5, h6, h7⟩ := hargs c
  refine ((h c).1.trans (Cert.ReferenceIdeal.Read.val_main_v276_eq (F := Ideal) (StableHlo.launchContents m' c))).trans ?_
  refine Eq.trans ?_ (Cert.Join.result_eq m g hpre c).symm
  show Cert.ReferenceIdeal.Read.val_main_v276 (F := Ideal)
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))
    (m' ((c.tc : Thread Cert.ReferenceIdeal.nD Cert.ReferenceIdeal.τ).loc Cert.ReferenceIdeal.main_arg7)) = _
  rw [h0, h1, h2, h3, h4, h5, h6, h7]

/-- Everything claimed. -/
theorem claim : Cert.Claim :=
  ⟨Cert.Kernel.Gen.facts, Cert.KernelIdeal.Gen.facts, Cert.ReferenceIdeal.Gen.facts, Cert.Pre_in_range.Gen.facts,
   fun m ρ _ => Cert.Kernel.Gen.frame m ρ,
   fun m ρ _ => Cert.KernelIdeal.Gen.frame m ρ,
   fun m ρ _ => Cert.KernelIdeal.Gen.frame m ρ,
   fun m ρ _ => (θ_run _ _ _).mono (fun r h => ⟨fun c => (h c).2, sem_eq_zero_of_no_sems (by decide) r.2⟩) (Cert.ReferenceIdeal.Value.run (F := Ideal) m ρ),
   fun m ρ _ => (θ_run _ _ _).mono (fun r h => ⟨fun c => (h c).2, sem_eq_zero_of_no_sems (by decide) r.2⟩) (Cert.ReferenceIdeal.Value.run (F := Ideal) m ρ),
   preserves, algebraic⟩

end Cert.Proof

end
